-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_HyenaIn (m : (ℓ : Loc Cert.HyenaIn.nD Cert.HyenaIn.τ Cert.HyenaIn.sig) → Buf (Elt Bits) ℓ) : Prop :=
  True

def Pre_HyenaInIdeal (m : (ℓ : Loc Cert.HyenaInIdeal.nD Cert.HyenaInIdeal.τ Cert.HyenaInIdeal.sig) → Buf (Elt Ideal) ℓ) : Prop :=
  True

def Pre_HyenaInReferenceIdeal (m : (ℓ : Loc Cert.HyenaInReferenceIdeal.nD Cert.HyenaInReferenceIdeal.τ Cert.HyenaInReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_KeysValues (m : (ℓ : Loc Cert.KeysValues.nD Cert.KeysValues.τ Cert.KeysValues.sig) → Buf (Elt Bits) ℓ) : Prop :=
  True

def Pre_KeysValuesIdeal (m : (ℓ : Loc Cert.KeysValuesIdeal.nD Cert.KeysValuesIdeal.τ Cert.KeysValuesIdeal.sig) → Buf (Elt Ideal) ℓ) : Prop :=
  True

def Pre_KeysValuesReferenceIdeal (m : (ℓ : Loc Cert.KeysValuesReferenceIdeal.nD Cert.KeysValuesReferenceIdeal.τ Cert.KeysValuesReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_AttIn (m : (ℓ : Loc Cert.AttIn.nD Cert.AttIn.τ Cert.AttIn.sig) → Buf (Elt Bits) ℓ) : Prop :=
  True

def Pre_AttInIdeal (m : (ℓ : Loc Cert.AttInIdeal.nD Cert.AttInIdeal.τ Cert.AttInIdeal.sig) → Buf (Elt Ideal) ℓ) : Prop :=
  True

def Pre_AttInReferenceIdeal (m : (ℓ : Loc Cert.AttInReferenceIdeal.nD Cert.AttInReferenceIdeal.τ Cert.AttInReferenceIdeal.sig) → Buf (Elt Ideal) ℓ) : Prop :=
  True

def Pre_Queries (m : (ℓ : Loc Cert.Queries.nD Cert.Queries.τ Cert.Queries.sig) → Buf (Elt Bits) ℓ) : Prop :=
  True

def Pre_QueriesIdeal (m : (ℓ : Loc Cert.QueriesIdeal.nD Cert.QueriesIdeal.τ Cert.QueriesIdeal.sig) → Buf (Elt Ideal) ℓ) : Prop :=
  True

def Pre_QueriesReferenceIdeal (m : (ℓ : Loc Cert.QueriesReferenceIdeal.nD Cert.QueriesReferenceIdeal.τ Cert.QueriesReferenceIdeal.sig) → Buf (Elt Ideal) ℓ) : Prop :=
  True

def Pre_NormMid (m : (ℓ : Loc Cert.NormMid.nD Cert.NormMid.τ Cert.NormMid.sig) → Buf (Elt Bits) ℓ) : Prop :=
  True

def Pre_NormMidIdeal (m : (ℓ : Loc Cert.NormMidIdeal.nD Cert.NormMidIdeal.τ Cert.NormMidIdeal.sig) → Buf (Elt Ideal) ℓ) : Prop :=
  True

def Pre_NormMidReferenceIdeal (m : (ℓ : Loc Cert.NormMidReferenceIdeal.nD Cert.NormMidReferenceIdeal.τ Cert.NormMidReferenceIdeal.sig) → Buf (Elt Ideal) ℓ) : Prop :=
  True

def Pre_Carry (m : (ℓ : Loc Cert.Carry.nD Cert.Carry.τ Cert.Carry.sig) → Buf (Elt Bits) ℓ) : Prop :=
  True

def Pre_CarryIdeal (m : (ℓ : Loc Cert.CarryIdeal.nD Cert.CarryIdeal.τ Cert.CarryIdeal.sig) → Buf (Elt Ideal) ℓ) : Prop :=
  True

def Pre_CarryReferenceIdeal (m : (ℓ : Loc Cert.CarryReferenceIdeal.nD Cert.CarryReferenceIdeal.τ Cert.CarryReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3)
      ∧ r.2.mem ((c.tc : Thread Cert.GluReferenceIdeal.nD Cert.GluReferenceIdeal.τ).loc Cert.GluReferenceIdeal.main_arg4) = m ((c.tc : Thread Cert.GluReferenceIdeal.nD Cert.GluReferenceIdeal.τ).loc Cert.GluReferenceIdeal.main_arg4))
      ∧ r.2.sem = fun _ => 0)

def quiescent_HyenaIn [hHyenaIn : Cert.HyenaIn.Facts] : Prop :=
  ∀ (m : (ℓ : Loc Cert.HyenaIn.nD Cert.HyenaIn.τ Cert.HyenaIn.sig) → Buf (Elt Bits) ℓ) (g : Dev Cert.HyenaIn.nD → PrngReg), Pre_HyenaIn m →
    θ_run (Cert.HyenaIn.defs (F := Bits)) (onTc (τ := Cert.HyenaIn.τ) (Cert.HyenaIn.main (F := Bits))) ⟨m, fun _ => 0, g⟩ (fun r => (∀ c : Dev Cert.HyenaIn.nD,
      r.2.mem ((c.tc : Thread Cert.HyenaIn.nD Cert.HyenaIn.τ).loc Cert.HyenaIn.main_arg0) = m ((c.tc : Thread Cert.HyenaIn.nD Cert.HyenaIn.τ).loc Cert.HyenaIn.main_arg0)
      ∧ r.2.mem ((c.tc : Thread Cert.HyenaIn.nD Cert.HyenaIn.τ).loc Cert.HyenaIn.main_arg1) = m ((c.tc : Thread Cert.HyenaIn.nD Cert.HyenaIn.τ).loc Cert.HyenaIn.main_arg1))
      ∧ r.2.sem = fun _ => 0)

def quiescent_HyenaInIdeal [hHyenaInIdeal : Cert.HyenaInIdeal.Facts] : Prop :=
  ∀ (m : (ℓ : Loc Cert.HyenaInIdeal.nD Cert.HyenaInIdeal.τ Cert.HyenaInIdeal.sig) → Buf (Elt Ideal) ℓ) (g : Dev Cert.HyenaInIdeal.nD → PrngReg), Pre_HyenaInIdeal m →
    θ_run (Cert.HyenaInIdeal.defs (F := Ideal)) (onTc (τ := Cert.HyenaInIdeal.τ) (Cert.HyenaInIdeal.main (F := Ideal))) ⟨m, fun _ => 0, g⟩ (fun r => (∀ c : Dev Cert.HyenaInIdeal.nD,
      r.2.mem ((c.tc : Thread Cert.HyenaInIdeal.nD Cert.HyenaInIdeal.τ).loc Cert.HyenaInIdeal.main_arg0) = m ((c.tc : Thread Cert.HyenaInIdeal.nD Cert.HyenaInIdeal.τ).loc Cert.HyenaInIdeal.main_arg0)
      ∧ r.2.mem ((c.tc : Thread Cert.HyenaInIdeal.nD Cert.HyenaInIdeal.τ).loc Cert.HyenaInIdeal.main_arg1) = m ((c.tc : Thread Cert.HyenaInIdeal.nD Cert.HyenaInIdeal.τ).loc Cert.HyenaInIdeal.main_arg1))
      ∧ r.2.sem = fun _ => 0)

def quiescent_HyenaInReferenceIdeal [hHyenaInReferenceIdeal : Cert.HyenaInReferenceIdeal.Facts] : Prop :=
  ∀ (m : (ℓ : Loc Cert.HyenaInReferenceIdeal.nD Cert.HyenaInReferenceIdeal.τ Cert.HyenaInReferenceIdeal.sig) → Buf (Elt Ideal) ℓ) (g : Dev Cert.HyenaInReferenceIdeal.nD → PrngReg), Pre_HyenaInReferenceIdeal m →
    θ_run (Cert.HyenaInReferenceIdeal.defs (F := Ideal)) (onTc (τ := Cert.HyenaInReferenceIdeal.τ) (Cert.HyenaInReferenceIdeal.main (F := Ideal))) ⟨m, fun _ => 0, g⟩ (fun r => (∀ c : Dev Cert.HyenaInReferenceIdeal.nD,
      r.2.mem ((c.tc : Thread Cert.HyenaInReferenceIdeal.nD Cert.HyenaInReferenceIdeal.τ).loc Cert.HyenaInReferenceIdeal.main_arg0) = m ((c.tc : Thread Cert.HyenaInReferenceIdeal.nD Cert.HyenaInReferenceIdeal.τ).loc Cert.HyenaInReferenceIdeal.main_arg0)
      ∧ r.2.mem ((c.tc : Thread Cert.HyenaInReferenceIdeal.nD Cert.HyenaInReferenceIdeal.τ).loc Cert.HyenaInReferenceIdeal.main_arg1) = m ((c.tc : Thread Cert.HyenaInReferenceIdeal.nD Cert.HyenaInReferenceIdeal.τ).loc Cert.HyenaInReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_KeysValues [hKeysValues : Cert.KeysValues.Facts] : Prop :=
  ∀ (m : (ℓ : Loc Cert.KeysValues.nD Cert.KeysValues.τ Cert.KeysValues.sig) → Buf (Elt Bits) ℓ) (g : Dev Cert.KeysValues.nD → PrngReg), Pre_KeysValues m →
    θ_run (Cert.KeysValues.defs (F := Bits)) (onTc (τ := Cert.KeysValues.τ) (Cert.KeysValues.main (F := Bits))) ⟨m, fun _ => 0, g⟩ (fun r => (∀ c : Dev Cert.KeysValues.nD,
      r.2.mem ((c.tc : Thread Cert.KeysValues.nD Cert.KeysValues.τ).loc Cert.KeysValues.main_arg0) = m ((c.tc : Thread Cert.KeysValues.nD Cert.KeysValues.τ).loc Cert.KeysValues.main_arg0)
      ∧ r.2.mem ((c.tc : Thread Cert.KeysValues.nD Cert.KeysValues.τ).loc Cert.KeysValues.main_arg1) = m ((c.tc : Thread Cert.KeysValues.nD Cert.KeysValues.τ).loc Cert.KeysValues.main_arg1)
      ∧ r.2.mem ((c.tc : Thread Cert.KeysValues.nD Cert.KeysValues.τ).loc Cert.KeysValues.main_arg2) = m ((c.tc : Thread Cert.KeysValues.nD Cert.KeysValues.τ).loc Cert.KeysValues.main_arg2))
      ∧ r.2.sem = fun _ => 0)

def quiescent_KeysValuesIdeal [hKeysValuesIdeal : Cert.KeysValuesIdeal.Facts] : Prop :=
  ∀ (m : (ℓ : Loc Cert.KeysValuesIdeal.nD Cert.KeysValuesIdeal.τ Cert.KeysValuesIdeal.sig) → Buf (Elt Ideal) ℓ) (g : Dev Cert.KeysValuesIdeal.nD → PrngReg), Pre_KeysValuesIdeal m →
    θ_run (Cert.KeysValuesIdeal.defs (F := Ideal)) (onTc (τ := Cert.KeysValuesIdeal.τ) (Cert.KeysValuesIdeal.main (F := Ideal))) ⟨m, fun _ => 0, g⟩ (fun r => (∀ c : Dev Cert.KeysValuesIdeal.nD,
      r.2.mem ((c.tc : Thread Cert.KeysValuesIdeal.nD Cert.KeysValuesIdeal.τ).loc Cert.KeysValuesIdeal.main_arg0) = m ((c.tc : Thread Cert.KeysValuesIdeal.nD Cert.KeysValuesIdeal.τ).loc Cert.KeysValuesIdeal.main_arg0)
      ∧ r.2.mem ((c.tc : Thread Cert.KeysValuesIdeal.nD Cert.KeysValuesIdeal.τ).loc Cert.KeysValuesIdeal.main_arg1) = m ((c.tc : Thread Cert.KeysValuesIdeal.nD Cert.KeysValuesIdeal.τ).loc Cert.KeysValuesIdeal.main_arg1)
      ∧ r.2.mem ((c.tc : Thread Cert.KeysValuesIdeal.nD Cert.KeysValuesIdeal.τ).loc Cert.KeysValuesIdeal.main_arg2) = m ((c.tc : Thread Cert.KeysValuesIdeal.nD Cert.KeysValuesIdeal.τ).loc Cert.KeysValuesIdeal.main_arg2))
      ∧ r.2.sem = fun _ => 0)

def quiescent_KeysValuesReferenceIdeal [hKeysValuesReferenceIdeal : Cert.KeysValuesReferenceIdeal.Facts] : Prop :=
  ∀ (m : (ℓ : Loc Cert.KeysValuesReferenceIdeal.nD Cert.KeysValuesReferenceIdeal.τ Cert.KeysValuesReferenceIdeal.sig) → Buf (Elt Ideal) ℓ) (g : Dev Cert.KeysValuesReferenceIdeal.nD → PrngReg), Pre_KeysValuesReferenceIdeal m →
    θ_run (Cert.KeysValuesReferenceIdeal.defs (F := Ideal)) (onTc (τ := Cert.KeysValuesReferenceIdeal.τ) (Cert.KeysValuesReferenceIdeal.main (F := Ideal))) ⟨m, fun _ => 0, g⟩ (fun r => (∀ c : Dev Cert.KeysValuesReferenceIdeal.nD,
      r.2.mem ((c.tc : Thread Cert.KeysValuesReferenceIdeal.nD Cert.KeysValuesReferenceIdeal.τ).loc Cert.KeysValuesReferenceIdeal.main_arg0) = m ((c.tc : Thread Cert.KeysValuesReferenceIdeal.nD Cert.KeysValuesReferenceIdeal.τ).loc Cert.KeysValuesReferenceIdeal.main_arg0)
      ∧ r.2.mem ((c.tc : Thread Cert.KeysValuesReferenceIdeal.nD Cert.KeysValuesReferenceIdeal.τ).loc Cert.KeysValuesReferenceIdeal.main_arg1) = m ((c.tc : Thread Cert.KeysValuesReferenceIdeal.nD Cert.KeysValuesReferenceIdeal.τ).loc Cert.KeysValuesReferenceIdeal.main_arg1)
      ∧ r.2.mem ((c.tc : Thread Cert.KeysValuesReferenceIdeal.nD Cert.KeysValuesReferenceIdeal.τ).loc Cert.KeysValuesReferenceIdeal.main_arg2) = m ((c.tc : Thread Cert.KeysValuesReferenceIdeal.nD Cert.KeysValuesReferenceIdeal.τ).loc Cert.KeysValuesReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5)
      ∧ r.2.mem ((c.tc : Thread Cert.NormReferenceIdeal.nD Cert.NormReferenceIdeal.τ).loc Cert.NormReferenceIdeal.main_arg6) = m ((c.tc : Thread Cert.NormReferenceIdeal.nD Cert.NormReferenceIdeal.τ).loc Cert.NormReferenceIdeal.main_arg6))
      ∧ r.2.sem = fun _ => 0)

def quiescent_AttIn [hAttIn : Cert.AttIn.Facts] : Prop :=
  ∀ (m : (ℓ : Loc Cert.AttIn.nD Cert.AttIn.τ Cert.AttIn.sig) → Buf (Elt Bits) ℓ) (g : Dev Cert.AttIn.nD → PrngReg), Pre_AttIn m →
    θ_run (Cert.AttIn.defs (F := Bits)) (onTc (τ := Cert.AttIn.τ) (Cert.AttIn.main (F := Bits))) ⟨m, fun _ => 0, g⟩ (fun r => (∀ c : Dev Cert.AttIn.nD,
      r.2.mem ((c.tc : Thread Cert.AttIn.nD Cert.AttIn.τ).loc Cert.AttIn.main_arg0) = m ((c.tc : Thread Cert.AttIn.nD Cert.AttIn.τ).loc Cert.AttIn.main_arg0)
      ∧ r.2.mem ((c.tc : Thread Cert.AttIn.nD Cert.AttIn.τ).loc Cert.AttIn.main_arg1) = m ((c.tc : Thread Cert.AttIn.nD Cert.AttIn.τ).loc Cert.AttIn.main_arg1))
      ∧ r.2.sem = fun _ => 0)

def quiescent_AttInIdeal [hAttInIdeal : Cert.AttInIdeal.Facts] : Prop :=
  ∀ (m : (ℓ : Loc Cert.AttInIdeal.nD Cert.AttInIdeal.τ Cert.AttInIdeal.sig) → Buf (Elt Ideal) ℓ) (g : Dev Cert.AttInIdeal.nD → PrngReg), Pre_AttInIdeal m →
    θ_run (Cert.AttInIdeal.defs (F := Ideal)) (onTc (τ := Cert.AttInIdeal.τ) (Cert.AttInIdeal.main (F := Ideal))) ⟨m, fun _ => 0, g⟩ (fun r => (∀ c : Dev Cert.AttInIdeal.nD,
      r.2.mem ((c.tc : Thread Cert.AttInIdeal.nD Cert.AttInIdeal.τ).loc Cert.AttInIdeal.main_arg0) = m ((c.tc : Thread Cert.AttInIdeal.nD Cert.AttInIdeal.τ).loc Cert.AttInIdeal.main_arg0)
      ∧ r.2.mem ((c.tc : Thread Cert.AttInIdeal.nD Cert.AttInIdeal.τ).loc Cert.AttInIdeal.main_arg1) = m ((c.tc : Thread Cert.AttInIdeal.nD Cert.AttInIdeal.τ).loc Cert.AttInIdeal.main_arg1))
      ∧ r.2.sem = fun _ => 0)

def quiescent_AttInReferenceIdeal [hAttInReferenceIdeal : Cert.AttInReferenceIdeal.Facts] : Prop :=
  ∀ (m : (ℓ : Loc Cert.AttInReferenceIdeal.nD Cert.AttInReferenceIdeal.τ Cert.AttInReferenceIdeal.sig) → Buf (Elt Ideal) ℓ) (g : Dev Cert.AttInReferenceIdeal.nD → PrngReg), Pre_AttInReferenceIdeal m →
    θ_run (Cert.AttInReferenceIdeal.defs (F := Ideal)) (onTc (τ := Cert.AttInReferenceIdeal.τ) (Cert.AttInReferenceIdeal.main (F := Ideal))) ⟨m, fun _ => 0, g⟩ (fun r => (∀ c : Dev Cert.AttInReferenceIdeal.nD,
      r.2.mem ((c.tc : Thread Cert.AttInReferenceIdeal.nD Cert.AttInReferenceIdeal.τ).loc Cert.AttInReferenceIdeal.main_arg0) = m ((c.tc : Thread Cert.AttInReferenceIdeal.nD Cert.AttInReferenceIdeal.τ).loc Cert.AttInReferenceIdeal.main_arg0)
      ∧ r.2.mem ((c.tc : Thread Cert.AttInReferenceIdeal.nD Cert.AttInReferenceIdeal.τ).loc Cert.AttInReferenceIdeal.main_arg1) = m ((c.tc : Thread Cert.AttInReferenceIdeal.nD Cert.AttInReferenceIdeal.τ).loc Cert.AttInReferenceIdeal.main_arg1))
      ∧ r.2.sem = fun _ => 0)

def quiescent_Queries [hQueries : Cert.Queries.Facts] : Prop :=
  ∀ (m : (ℓ : Loc Cert.Queries.nD Cert.Queries.τ Cert.Queries.sig) → Buf (Elt Bits) ℓ) (g : Dev Cert.Queries.nD → PrngReg), Pre_Queries m →
    θ_run (Cert.Queries.defs (F := Bits)) (onTc (τ := Cert.Queries.τ) (Cert.Queries.main (F := Bits))) ⟨m, fun _ => 0, g⟩ (fun r => (∀ c : Dev Cert.Queries.nD,
      r.2.mem ((c.tc : Thread Cert.Queries.nD Cert.Queries.τ).loc Cert.Queries.main_arg0) = m ((c.tc : Thread Cert.Queries.nD Cert.Queries.τ).loc Cert.Queries.main_arg0)
      ∧ r.2.mem ((c.tc : Thread Cert.Queries.nD Cert.Queries.τ).loc Cert.Queries.main_arg1) = m ((c.tc : Thread Cert.Queries.nD Cert.Queries.τ).loc Cert.Queries.main_arg1)
      ∧ r.2.mem ((c.tc : Thread Cert.Queries.nD Cert.Queries.τ).loc Cert.Queries.main_arg2) = m ((c.tc : Thread Cert.Queries.nD Cert.Queries.τ).loc Cert.Queries.main_arg2))
      ∧ r.2.sem = fun _ => 0)

def quiescent_QueriesIdeal [hQueriesIdeal : Cert.QueriesIdeal.Facts] : Prop :=
  ∀ (m : (ℓ : Loc Cert.QueriesIdeal.nD Cert.QueriesIdeal.τ Cert.QueriesIdeal.sig) → Buf (Elt Ideal) ℓ) (g : Dev Cert.QueriesIdeal.nD → PrngReg), Pre_QueriesIdeal m →
    θ_run (Cert.QueriesIdeal.defs (F := Ideal)) (onTc (τ := Cert.QueriesIdeal.τ) (Cert.QueriesIdeal.main (F := Ideal))) ⟨m, fun _ => 0, g⟩ (fun r => (∀ c : Dev Cert.QueriesIdeal.nD,
      r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
      ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1)
      ∧ r.2.mem ((c.tc : Thread Cert.QueriesIdeal.nD Cert.QueriesIdeal.τ).loc Cert.QueriesIdeal.main_arg2) = m ((c.tc : Thread Cert.QueriesIdeal.nD Cert.QueriesIdeal.τ).loc Cert.QueriesIdeal.main_arg2))
      ∧ r.2.sem = fun _ => 0)

def quiescent_QueriesReferenceIdeal [hQueriesReferenceIdeal : Cert.QueriesReferenceIdeal.Facts] : Prop :=
  ∀ (m : (ℓ : Loc Cert.QueriesReferenceIdeal.nD Cert.QueriesReferenceIdeal.τ Cert.QueriesReferenceIdeal.sig) → Buf (Elt Ideal) ℓ) (g : Dev Cert.QueriesReferenceIdeal.nD → PrngReg), Pre_QueriesReferenceIdeal m →
    θ_run (Cert.QueriesReferenceIdeal.defs (F := Ideal)) (onTc (τ := Cert.QueriesReferenceIdeal.τ) (Cert.QueriesReferenceIdeal.main (F := Ideal))) ⟨m, fun _ => 0, g⟩ (fun r => (∀ c : Dev Cert.QueriesReferenceIdeal.nD,
      r.2.mem ((c.tc : Thread Cert.QueriesReferenceIdeal.nD Cert.QueriesReferenceIdeal.τ).loc Cert.QueriesReferenceIdeal.main_arg0) = m ((c.tc : Thread Cert.QueriesReferenceIdeal.nD Cert.QueriesReferenceIdeal.τ).loc Cert.QueriesReferenceIdeal.main_arg0)
      ∧ r.2.mem ((c.tc : Thread Cert.QueriesReferenceIdeal.nD Cert.QueriesReferenceIdeal.τ).loc Cert.QueriesReferenceIdeal.main_arg1) = m ((c.tc : Thread Cert.QueriesReferenceIdeal.nD Cert.QueriesReferenceIdeal.τ).loc Cert.QueriesReferenceIdeal.main_arg1)
      ∧ r.2.mem ((c.tc : Thread Cert.QueriesReferenceIdeal.nD Cert.QueriesReferenceIdeal.τ).loc Cert.QueriesReferenceIdeal.main_arg2) = m ((c.tc : Thread Cert.QueriesReferenceIdeal.nD Cert.QueriesReferenceIdeal.τ).loc Cert.QueriesReferenceIdeal.main_arg2))
      ∧ r.2.sem = fun _ => 0)

def quiescent_NormMid [hNormMid : Cert.NormMid.Facts] : Prop :=
  ∀ (m : (ℓ : Loc Cert.NormMid.nD Cert.NormMid.τ Cert.NormMid.sig) → Buf (Elt Bits) ℓ) (g : Dev Cert.NormMid.nD → PrngReg), Pre_NormMid m →
    θ_run (Cert.NormMid.defs (F := Bits)) (onTc (τ := Cert.NormMid.τ) (Cert.NormMid.main (F := Bits))) ⟨m, fun _ => 0, g⟩ (fun r => (∀ c : Dev Cert.NormMid.nD,
      r.2.mem ((c.tc : Thread Cert.NormMid.nD Cert.NormMid.τ).loc Cert.NormMid.main_arg0) = m ((c.tc : Thread Cert.NormMid.nD Cert.NormMid.τ).loc Cert.NormMid.main_arg0)
      ∧ r.2.mem ((c.tc : Thread Cert.NormMid.nD Cert.NormMid.τ).loc Cert.NormMid.main_arg1) = m ((c.tc : Thread Cert.NormMid.nD Cert.NormMid.τ).loc Cert.NormMid.main_arg1)
      ∧ r.2.mem ((c.tc : Thread Cert.NormMid.nD Cert.NormMid.τ).loc Cert.NormMid.main_arg2) = m ((c.tc : Thread Cert.NormMid.nD Cert.NormMid.τ).loc Cert.NormMid.main_arg2)
      ∧ r.2.mem ((c.tc : Thread Cert.NormMid.nD Cert.NormMid.τ).loc Cert.NormMid.main_arg3) = m ((c.tc : Thread Cert.NormMid.nD Cert.NormMid.τ).loc Cert.NormMid.main_arg3)
      ∧ r.2.mem ((c.tc : Thread Cert.NormMid.nD Cert.NormMid.τ).loc Cert.NormMid.main_arg4) = m ((c.tc : Thread Cert.NormMid.nD Cert.NormMid.τ).loc Cert.NormMid.main_arg4)
      ∧ r.2.mem ((c.tc : Thread Cert.NormMid.nD Cert.NormMid.τ).loc Cert.NormMid.main_arg5) = m ((c.tc : Thread Cert.NormMid.nD Cert.NormMid.τ).loc Cert.NormMid.main_arg5)
      ∧ r.2.mem ((c.tc : Thread Cert.NormMid.nD Cert.NormMid.τ).loc Cert.NormMid.main_arg6) = m ((c.tc : Thread Cert.NormMid.nD Cert.NormMid.τ).loc Cert.NormMid.main_arg6))
      ∧ r.2.sem = fun _ => 0)

def quiescent_NormMidIdeal [hNormMidIdeal : Cert.NormMidIdeal.Facts] : Prop :=
  ∀ (m : (ℓ : Loc Cert.NormMidIdeal.nD Cert.NormMidIdeal.τ Cert.NormMidIdeal.sig) → Buf (Elt Ideal) ℓ) (g : Dev Cert.NormMidIdeal.nD → PrngReg), Pre_NormMidIdeal m →
    θ_run (Cert.NormMidIdeal.defs (F := Ideal)) (onTc (τ := Cert.NormMidIdeal.τ) (Cert.NormMidIdeal.main (F := Ideal))) ⟨m, fun _ => 0, g⟩ (fun r => (∀ c : Dev Cert.NormMidIdeal.nD,
      r.2.mem ((c.tc : Thread Cert.NormMidIdeal.nD Cert.NormMidIdeal.τ).loc Cert.NormMidIdeal.main_arg0) = m ((c.tc : Thread Cert.NormMidIdeal.nD Cert.NormMidIdeal.τ).loc Cert.NormMidIdeal.main_arg0)
      ∧ r.2.mem ((c.tc : Thread Cert.NormMidIdeal.nD Cert.NormMidIdeal.τ).loc Cert.NormMidIdeal.main_arg1) = m ((c.tc : Thread Cert.NormMidIdeal.nD Cert.NormMidIdeal.τ).loc Cert.NormMidIdeal.main_arg1)
      ∧ r.2.mem ((c.tc : Thread Cert.NormMidIdeal.nD Cert.NormMidIdeal.τ).loc Cert.NormMidIdeal.main_arg2) = m ((c.tc : Thread Cert.NormMidIdeal.nD Cert.NormMidIdeal.τ).loc Cert.NormMidIdeal.main_arg2)
      ∧ r.2.mem ((c.tc : Thread Cert.NormMidIdeal.nD Cert.NormMidIdeal.τ).loc Cert.NormMidIdeal.main_arg3) = m ((c.tc : Thread Cert.NormMidIdeal.nD Cert.NormMidIdeal.τ).loc Cert.NormMidIdeal.main_arg3)
      ∧ r.2.mem ((c.tc : Thread Cert.NormMidIdeal.nD Cert.NormMidIdeal.τ).loc Cert.NormMidIdeal.main_arg4) = m ((c.tc : Thread Cert.NormMidIdeal.nD Cert.NormMidIdeal.τ).loc Cert.NormMidIdeal.main_arg4)
      ∧ r.2.mem ((c.tc : Thread Cert.NormMidIdeal.nD Cert.NormMidIdeal.τ).loc Cert.NormMidIdeal.main_arg5) = m ((c.tc : Thread Cert.NormMidIdeal.nD Cert.NormMidIdeal.τ).loc Cert.NormMidIdeal.main_arg5)
      ∧ r.2.mem ((c.tc : Thread Cert.NormMidIdeal.nD Cert.NormMidIdeal.τ).loc Cert.NormMidIdeal.main_arg6) = m ((c.tc : Thread Cert.NormMidIdeal.nD Cert.NormMidIdeal.τ).loc Cert.NormMidIdeal.main_arg6))
      ∧ r.2.sem = fun _ => 0)

def quiescent_NormMidReferenceIdeal [hNormMidReferenceIdeal : Cert.NormMidReferenceIdeal.Facts] : Prop :=
  ∀ (m : (ℓ : Loc Cert.NormMidReferenceIdeal.nD Cert.NormMidReferenceIdeal.τ Cert.NormMidReferenceIdeal.sig) → Buf (Elt Ideal) ℓ) (g : Dev Cert.NormMidReferenceIdeal.nD → PrngReg), Pre_NormMidReferenceIdeal m →
    θ_run (Cert.NormMidReferenceIdeal.defs (F := Ideal)) (onTc (τ := Cert.NormMidReferenceIdeal.τ) (Cert.NormMidReferenceIdeal.main (F := Ideal))) ⟨m, fun _ => 0, g⟩ (fun r => (∀ c : Dev Cert.NormMidReferenceIdeal.nD,
      r.2.mem ((c.tc : Thread Cert.NormMidReferenceIdeal.nD Cert.NormMidReferenceIdeal.τ).loc Cert.NormMidReferenceIdeal.main_arg0) = m ((c.tc : Thread Cert.NormMidReferenceIdeal.nD Cert.NormMidReferenceIdeal.τ).loc Cert.NormMidReferenceIdeal.main_arg0)
      ∧ r.2.mem ((c.tc : Thread Cert.NormMidReferenceIdeal.nD Cert.NormMidReferenceIdeal.τ).loc Cert.NormMidReferenceIdeal.main_arg1) = m ((c.tc : Thread Cert.NormMidReferenceIdeal.nD Cert.NormMidReferenceIdeal.τ).loc Cert.NormMidReferenceIdeal.main_arg1)
      ∧ r.2.mem ((c.tc : Thread Cert.NormMidReferenceIdeal.nD Cert.NormMidReferenceIdeal.τ).loc Cert.NormMidReferenceIdeal.main_arg2) = m ((c.tc : Thread Cert.NormMidReferenceIdeal.nD Cert.NormMidReferenceIdeal.τ).loc Cert.NormMidReferenceIdeal.main_arg2)
      ∧ r.2.mem ((c.tc : Thread Cert.NormMidReferenceIdeal.nD Cert.NormMidReferenceIdeal.τ).loc Cert.NormMidReferenceIdeal.main_arg3) = m ((c.tc : Thread Cert.NormMidReferenceIdeal.nD Cert.NormMidReferenceIdeal.τ).loc Cert.NormMidReferenceIdeal.main_arg3)
      ∧ r.2.mem ((c.tc : Thread Cert.NormMidReferenceIdeal.nD Cert.NormMidReferenceIdeal.τ).loc Cert.NormMidReferenceIdeal.main_arg4) = m ((c.tc : Thread Cert.NormMidReferenceIdeal.nD Cert.NormMidReferenceIdeal.τ).loc Cert.NormMidReferenceIdeal.main_arg4)
      ∧ r.2.mem ((c.tc : Thread Cert.NormMidReferenceIdeal.nD Cert.NormMidReferenceIdeal.τ).loc Cert.NormMidReferenceIdeal.main_arg5) = m ((c.tc : Thread Cert.NormMidReferenceIdeal.nD Cert.NormMidReferenceIdeal.τ).loc Cert.NormMidReferenceIdeal.main_arg5)
      ∧ r.2.mem ((c.tc : Thread Cert.NormMidReferenceIdeal.nD Cert.NormMidReferenceIdeal.τ).loc Cert.NormMidReferenceIdeal.main_arg6) = m ((c.tc : Thread Cert.NormMidReferenceIdeal.nD Cert.NormMidReferenceIdeal.τ).loc Cert.NormMidReferenceIdeal.main_arg6))
      ∧ r.2.sem = fun _ => 0)

def quiescent_Carry [hCarry : Cert.Carry.Facts] : Prop :=
  ∀ (m : (ℓ : Loc Cert.Carry.nD Cert.Carry.τ Cert.Carry.sig) → Buf (Elt Bits) ℓ) (g : Dev Cert.Carry.nD → PrngReg), Pre_Carry m →
    θ_run (Cert.Carry.defs (F := Bits)) (onTc (τ := Cert.Carry.τ) (Cert.Carry.main (F := Bits))) ⟨m, fun _ => 0, g⟩ (fun r => (∀ c : Dev Cert.Carry.nD,
      r.2.mem ((c.tc : Thread Cert.Carry.nD Cert.Carry.τ).loc Cert.Carry.main_arg0) = m ((c.tc : Thread Cert.Carry.nD Cert.Carry.τ).loc Cert.Carry.main_arg0)
      ∧ r.2.mem ((c.tc : Thread Cert.Carry.nD Cert.Carry.τ).loc Cert.Carry.main_arg1) = m ((c.tc : Thread Cert.Carry.nD Cert.Carry.τ).loc Cert.Carry.main_arg1)
      ∧ r.2.mem ((c.tc : Thread Cert.Carry.nD Cert.Carry.τ).loc Cert.Carry.main_arg2) = m ((c.tc : Thread Cert.Carry.nD Cert.Carry.τ).loc Cert.Carry.main_arg2)
      ∧ r.2.mem ((c.tc : Thread Cert.Carry.nD Cert.Carry.τ).loc Cert.Carry.main_arg3) = m ((c.tc : Thread Cert.Carry.nD Cert.Carry.τ).loc Cert.Carry.main_arg3))
      ∧ r.2.sem = fun _ => 0)

def quiescent_CarryIdeal [hCarryIdeal : Cert.CarryIdeal.Facts] : Prop :=
  ∀ (m : (ℓ : Loc Cert.CarryIdeal.nD Cert.CarryIdeal.τ Cert.CarryIdeal.sig) → Buf (Elt Ideal) ℓ) (g : Dev Cert.CarryIdeal.nD → PrngReg), Pre_CarryIdeal m →
    θ_run (Cert.CarryIdeal.defs (F := Ideal)) (onTc (τ := Cert.CarryIdeal.τ) (Cert.CarryIdeal.main (F := Ideal))) ⟨m, fun _ => 0, g⟩ (fun r => (∀ c : Dev Cert.CarryIdeal.nD,
      r.2.mem ((c.tc : Thread Cert.CarryIdeal.nD Cert.CarryIdeal.τ).loc Cert.CarryIdeal.main_arg0) = m ((c.tc : Thread Cert.CarryIdeal.nD Cert.CarryIdeal.τ).loc Cert.CarryIdeal.main_arg0)
      ∧ r.2.mem ((c.tc : Thread Cert.CarryIdeal.nD Cert.CarryIdeal.τ).loc Cert.CarryIdeal.main_arg1) = m ((c.tc : Thread Cert.CarryIdeal.nD Cert.CarryIdeal.τ).loc Cert.CarryIdeal.main_arg1)
      ∧ r.2.mem ((c.tc : Thread Cert.CarryIdeal.nD Cert.CarryIdeal.τ).loc Cert.CarryIdeal.main_arg2) = m ((c.tc : Thread Cert.CarryIdeal.nD Cert.CarryIdeal.τ).loc Cert.CarryIdeal.main_arg2)
      ∧ r.2.mem ((c.tc : Thread Cert.CarryIdeal.nD Cert.CarryIdeal.τ).loc Cert.CarryIdeal.main_arg3) = m ((c.tc : Thread Cert.CarryIdeal.nD Cert.CarryIdeal.τ).loc Cert.CarryIdeal.main_arg3))
      ∧ r.2.sem = fun _ => 0)

def quiescent_CarryReferenceIdeal [hCarryReferenceIdeal : Cert.CarryReferenceIdeal.Facts] : Prop :=
  ∀ (m : (ℓ : Loc Cert.CarryReferenceIdeal.nD Cert.CarryReferenceIdeal.τ Cert.CarryReferenceIdeal.sig) → Buf (Elt Ideal) ℓ) (g : Dev Cert.CarryReferenceIdeal.nD → PrngReg), Pre_CarryReferenceIdeal m →
    θ_run (Cert.CarryReferenceIdeal.defs (F := Ideal)) (onTc (τ := Cert.CarryReferenceIdeal.τ) (Cert.CarryReferenceIdeal.main (F := Ideal))) ⟨m, fun _ => 0, g⟩ (fun r => (∀ c : Dev Cert.CarryReferenceIdeal.nD,
      r.2.mem ((c.tc : Thread Cert.CarryReferenceIdeal.nD Cert.CarryReferenceIdeal.τ).loc Cert.CarryReferenceIdeal.main_arg0) = m ((c.tc : Thread Cert.CarryReferenceIdeal.nD Cert.CarryReferenceIdeal.τ).loc Cert.CarryReferenceIdeal.main_arg0)
      ∧ r.2.mem ((c.tc : Thread Cert.CarryReferenceIdeal.nD Cert.CarryReferenceIdeal.τ).loc Cert.CarryReferenceIdeal.main_arg1) = m ((c.tc : Thread Cert.CarryReferenceIdeal.nD Cert.CarryReferenceIdeal.τ).loc Cert.CarryReferenceIdeal.main_arg1)
      ∧ r.2.mem ((c.tc : Thread Cert.CarryReferenceIdeal.nD Cert.CarryReferenceIdeal.τ).loc Cert.CarryReferenceIdeal.main_arg2) = m ((c.tc : Thread Cert.CarryReferenceIdeal.nD Cert.CarryReferenceIdeal.τ).loc Cert.CarryReferenceIdeal.main_arg2)
      ∧ r.2.mem ((c.tc : Thread Cert.CarryReferenceIdeal.nD Cert.CarryReferenceIdeal.τ).loc Cert.CarryReferenceIdeal.main_arg3) = m ((c.tc : Thread Cert.CarryReferenceIdeal.nD Cert.CarryReferenceIdeal.τ).loc Cert.CarryReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)
      ∧ m' ((c.tc : Thread Cert.GluReferenceIdeal.nD Cert.GluReferenceIdeal.τ).loc Cert.GluReferenceIdeal.main_arg2) = m ((c.tc : Thread Cert.GluIdeal.nD Cert.GluIdeal.τ).loc Cert.GluIdeal.main_arg2)
      ∧ m' ((c.tc : Thread Cert.GluReferenceIdeal.nD Cert.GluReferenceIdeal.τ).loc Cert.GluReferenceIdeal.main_arg3) = m ((c.tc : Thread Cert.GluIdeal.nD Cert.GluIdeal.τ).loc Cert.GluIdeal.main_arg3)
      ∧ m' ((c.tc : Thread Cert.GluReferenceIdeal.nD Cert.GluReferenceIdeal.τ).loc Cert.GluReferenceIdeal.main_arg4) = m ((c.tc : Thread Cert.GluIdeal.nD Cert.GluIdeal.τ).loc Cert.GluIdeal.main_arg4)) →
    ∃ (v0 : (c : Dev Cert.GluIdeal.nD) → Buf (Elt Ideal) ((c.tc : Thread Cert.GluIdeal.nD Cert.GluIdeal.τ).loc Cert.GluIdeal.main_v20)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v20) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v26) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2)
          ∧ r.2.mem ((c.tc : Thread Cert.GluReferenceIdeal.nD Cert.GluReferenceIdeal.τ).loc Cert.GluReferenceIdeal.main_arg3) = m' ((c.tc : Thread Cert.GluReferenceIdeal.nD Cert.GluReferenceIdeal.τ).loc Cert.GluReferenceIdeal.main_arg3)
          ∧ r.2.mem ((c.tc : Thread Cert.GluReferenceIdeal.nD Cert.GluReferenceIdeal.τ).loc Cert.GluReferenceIdeal.main_arg4) = m' ((c.tc : Thread Cert.GluReferenceIdeal.nD Cert.GluReferenceIdeal.τ).loc Cert.GluReferenceIdeal.main_arg4))

def preserves_HyenaIn_HyenaInIdeal : Prop :=
  True

def algebraic_HyenaInIdeal_HyenaInReferenceIdeal [hHyenaInIdeal : Cert.HyenaInIdeal.Facts] [hHyenaInReferenceIdeal : Cert.HyenaInReferenceIdeal.Facts] : Prop :=
  ∀ (m : (ℓ : Loc Cert.HyenaInIdeal.nD Cert.HyenaInIdeal.τ Cert.HyenaInIdeal.sig) → Buf (Elt Ideal) ℓ) (g : Dev Cert.HyenaInIdeal.nD → PrngReg)
    (m' : (ℓ : Loc Cert.HyenaInReferenceIdeal.nD Cert.HyenaInReferenceIdeal.τ Cert.HyenaInReferenceIdeal.sig) → Buf (Elt Ideal) ℓ) (g' : Dev Cert.HyenaInReferenceIdeal.nD → PrngReg), Pre_HyenaInIdeal m →
    (∀ c : Dev Cert.HyenaInIdeal.nD,
      m' ((c.tc : Thread Cert.HyenaInReferenceIdeal.nD Cert.HyenaInReferenceIdeal.τ).loc Cert.HyenaInReferenceIdeal.main_arg0) = m ((c.tc : Thread Cert.HyenaInIdeal.nD Cert.HyenaInIdeal.τ).loc Cert.HyenaInIdeal.main_arg0)
      ∧ m' ((c.tc : Thread Cert.HyenaInReferenceIdeal.nD Cert.HyenaInReferenceIdeal.τ).loc Cert.HyenaInReferenceIdeal.main_arg1) = m ((c.tc : Thread Cert.HyenaInIdeal.nD Cert.HyenaInIdeal.τ).loc Cert.HyenaInIdeal.main_arg1)) →
    ∃ (v0 : (c : Dev Cert.HyenaInIdeal.nD) → Buf (Elt Ideal) ((c.tc : Thread Cert.HyenaInIdeal.nD Cert.HyenaInIdeal.τ).loc Cert.HyenaInIdeal.main_v4)),
      θ_run (Cert.HyenaInIdeal.defs (F := Ideal)) (onTc (τ := Cert.HyenaInIdeal.τ) (Cert.HyenaInIdeal.main (F := Ideal))) ⟨m, fun _ => 0, g⟩ (fun r => ∀ c : Dev Cert.HyenaInIdeal.nD,
          r.2.mem ((c.tc : Thread Cert.HyenaInIdeal.nD Cert.HyenaInIdeal.τ).loc Cert.HyenaInIdeal.main_v4) = v0 c
          ∧ r.2.mem ((c.tc : Thread Cert.HyenaInIdeal.nD Cert.HyenaInIdeal.τ).loc Cert.HyenaInIdeal.main_arg0) = m ((c.tc : Thread Cert.HyenaInIdeal.nD Cert.HyenaInIdeal.τ).loc Cert.HyenaInIdeal.main_arg0)
          ∧ r.2.mem ((c.tc : Thread Cert.HyenaInIdeal.nD Cert.HyenaInIdeal.τ).loc Cert.HyenaInIdeal.main_arg1) = m ((c.tc : Thread Cert.HyenaInIdeal.nD Cert.HyenaInIdeal.τ).loc Cert.HyenaInIdeal.main_arg1))
      ∧ θ_run (Cert.HyenaInReferenceIdeal.defs (F := Ideal)) (onTc (τ := Cert.HyenaInReferenceIdeal.τ) (Cert.HyenaInReferenceIdeal.main (F := Ideal))) ⟨m', fun _ => 0, g'⟩ (fun r => ∀ c : Dev Cert.HyenaInReferenceIdeal.nD,
          r.2.mem ((c.tc : Thread Cert.HyenaInReferenceIdeal.nD Cert.HyenaInReferenceIdeal.τ).loc Cert.HyenaInReferenceIdeal.main_v2) = v0 c
          ∧ r.2.mem ((c.tc : Thread Cert.HyenaInReferenceIdeal.nD Cert.HyenaInReferenceIdeal.τ).loc Cert.HyenaInReferenceIdeal.main_arg0) = m' ((c.tc : Thread Cert.HyenaInReferenceIdeal.nD Cert.HyenaInReferenceIdeal.τ).loc Cert.HyenaInReferenceIdeal.main_arg0)
          ∧ r.2.mem ((c.tc : Thread Cert.HyenaInReferenceIdeal.nD Cert.HyenaInReferenceIdeal.τ).loc Cert.HyenaInReferenceIdeal.main_arg1) = m' ((c.tc : Thread Cert.HyenaInReferenceIdeal.nD Cert.HyenaInReferenceIdeal.τ).loc Cert.HyenaInReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_KeysValues_KeysValuesIdeal : Prop :=
  True

def algebraic_KeysValuesIdeal_KeysValuesReferenceIdeal [hKeysValuesIdeal : Cert.KeysValuesIdeal.Facts] [hKeysValuesReferenceIdeal : Cert.KeysValuesReferenceIdeal.Facts] : Prop :=
  ∀ (m : (ℓ : Loc Cert.KeysValuesIdeal.nD Cert.KeysValuesIdeal.τ Cert.KeysValuesIdeal.sig) → Buf (Elt Ideal) ℓ) (g : Dev Cert.KeysValuesIdeal.nD → PrngReg)
    (m' : (ℓ : Loc Cert.KeysValuesReferenceIdeal.nD Cert.KeysValuesReferenceIdeal.τ Cert.KeysValuesReferenceIdeal.sig) → Buf (Elt Ideal) ℓ) (g' : Dev Cert.KeysValuesReferenceIdeal.nD → PrngReg), Pre_KeysValuesIdeal m →
    (∀ c : Dev Cert.KeysValuesIdeal.nD,
      m' ((c.tc : Thread Cert.KeysValuesReferenceIdeal.nD Cert.KeysValuesReferenceIdeal.τ).loc Cert.KeysValuesReferenceIdeal.main_arg0) = m ((c.tc : Thread Cert.KeysValuesIdeal.nD Cert.KeysValuesIdeal.τ).loc Cert.KeysValuesIdeal.main_arg0)
      ∧ m' ((c.tc : Thread Cert.KeysValuesReferenceIdeal.nD Cert.KeysValuesReferenceIdeal.τ).loc Cert.KeysValuesReferenceIdeal.main_arg1) = m ((c.tc : Thread Cert.KeysValuesIdeal.nD Cert.KeysValuesIdeal.τ).loc Cert.KeysValuesIdeal.main_arg1)
      ∧ m' ((c.tc : Thread Cert.KeysValuesReferenceIdeal.nD Cert.KeysValuesReferenceIdeal.τ).loc Cert.KeysValuesReferenceIdeal.main_arg2) = m ((c.tc : Thread Cert.KeysValuesIdeal.nD Cert.KeysValuesIdeal.τ).loc Cert.KeysValuesIdeal.main_arg2)) →
    ∃ (v0 : (c : Dev Cert.KeysValuesIdeal.nD) → Buf (Elt Ideal) ((c.tc : Thread Cert.KeysValuesIdeal.nD Cert.KeysValuesIdeal.τ).loc Cert.KeysValuesIdeal.main_v16)),
      θ_run (Cert.KeysValuesIdeal.defs (F := Ideal)) (onTc (τ := Cert.KeysValuesIdeal.τ) (Cert.KeysValuesIdeal.main (F := Ideal))) ⟨m, fun _ => 0, g⟩ (fun r => ∀ c : Dev Cert.KeysValuesIdeal.nD,
          r.2.mem ((c.tc : Thread Cert.KeysValuesIdeal.nD Cert.KeysValuesIdeal.τ).loc Cert.KeysValuesIdeal.main_v16) = v0 c
          ∧ r.2.mem ((c.tc : Thread Cert.KeysValuesIdeal.nD Cert.KeysValuesIdeal.τ).loc Cert.KeysValuesIdeal.main_arg0) = m ((c.tc : Thread Cert.KeysValuesIdeal.nD Cert.KeysValuesIdeal.τ).loc Cert.KeysValuesIdeal.main_arg0)
          ∧ r.2.mem ((c.tc : Thread Cert.KeysValuesIdeal.nD Cert.KeysValuesIdeal.τ).loc Cert.KeysValuesIdeal.main_arg1) = m ((c.tc : Thread Cert.KeysValuesIdeal.nD Cert.KeysValuesIdeal.τ).loc Cert.KeysValuesIdeal.main_arg1)
          ∧ r.2.mem ((c.tc : Thread Cert.KeysValuesIdeal.nD Cert.KeysValuesIdeal.τ).loc Cert.KeysValuesIdeal.main_arg2) = m ((c.tc : Thread Cert.KeysValuesIdeal.nD Cert.KeysValuesIdeal.τ).loc Cert.KeysValuesIdeal.main_arg2))
      ∧ θ_run (Cert.KeysValuesReferenceIdeal.defs (F := Ideal)) (onTc (τ := Cert.KeysValuesReferenceIdeal.τ) (Cert.KeysValuesReferenceIdeal.main (F := Ideal))) ⟨m', fun _ => 0, g'⟩ (fun r => ∀ c : Dev Cert.KeysValuesReferenceIdeal.nD,
          r.2.mem ((c.tc : Thread Cert.KeysValuesReferenceIdeal.nD Cert.KeysValuesReferenceIdeal.τ).loc Cert.KeysValuesReferenceIdeal.main_v14) = v0 c
          ∧ r.2.mem ((c.tc : Thread Cert.KeysValuesReferenceIdeal.nD Cert.KeysValuesReferenceIdeal.τ).loc Cert.KeysValuesReferenceIdeal.main_arg0) = m' ((c.tc : Thread Cert.KeysValuesReferenceIdeal.nD Cert.KeysValuesReferenceIdeal.τ).loc Cert.KeysValuesReferenceIdeal.main_arg0)
          ∧ r.2.mem ((c.tc : Thread Cert.KeysValuesReferenceIdeal.nD Cert.KeysValuesReferenceIdeal.τ).loc Cert.KeysValuesReferenceIdeal.main_arg1) = m' ((c.tc : Thread Cert.KeysValuesReferenceIdeal.nD Cert.KeysValuesReferenceIdeal.τ).loc Cert.KeysValuesReferenceIdeal.main_arg1)
          ∧ r.2.mem ((c.tc : Thread Cert.KeysValuesReferenceIdeal.nD Cert.KeysValuesReferenceIdeal.τ).loc Cert.KeysValuesReferenceIdeal.main_arg2) = m' ((c.tc : Thread Cert.KeysValuesReferenceIdeal.nD Cert.KeysValuesReferenceIdeal.τ).loc Cert.KeysValuesReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)
      ∧ m' ((c.tc : Thread Cert.NormReferenceIdeal.nD Cert.NormReferenceIdeal.τ).loc Cert.NormReferenceIdeal.main_arg4) = m ((c.tc : Thread Cert.NormIdeal.nD Cert.NormIdeal.τ).loc Cert.NormIdeal.main_arg4)
      ∧ m' ((c.tc : Thread Cert.NormReferenceIdeal.nD Cert.NormReferenceIdeal.τ).loc Cert.NormReferenceIdeal.main_arg5) = m ((c.tc : Thread Cert.NormIdeal.nD Cert.NormIdeal.τ).loc Cert.NormIdeal.main_arg5)
      ∧ m' ((c.tc : Thread Cert.NormReferenceIdeal.nD Cert.NormReferenceIdeal.τ).loc Cert.NormReferenceIdeal.main_arg6) = m ((c.tc : Thread Cert.NormIdeal.nD Cert.NormIdeal.τ).loc Cert.NormIdeal.main_arg6)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v26) = v0 c
          ∧ r.2.mem ((c.tc : Thread Cert.NormReferenceIdeal.nD Cert.NormReferenceIdeal.τ).loc Cert.NormReferenceIdeal.main_v32) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4)
          ∧ r.2.mem ((c.tc : Thread Cert.NormReferenceIdeal.nD Cert.NormReferenceIdeal.τ).loc Cert.NormReferenceIdeal.main_arg5) = m' ((c.tc : Thread Cert.NormReferenceIdeal.nD Cert.NormReferenceIdeal.τ).loc Cert.NormReferenceIdeal.main_arg5)
          ∧ r.2.mem ((c.tc : Thread Cert.NormReferenceIdeal.nD Cert.NormReferenceIdeal.τ).loc Cert.NormReferenceIdeal.main_arg6) = m' ((c.tc : Thread Cert.NormReferenceIdeal.nD Cert.NormReferenceIdeal.τ).loc Cert.NormReferenceIdeal.main_arg6))

def preserves_AttIn_AttInIdeal : Prop :=
  True

def algebraic_AttInIdeal_AttInReferenceIdeal [hAttInIdeal : Cert.AttInIdeal.Facts] [hAttInReferenceIdeal : Cert.AttInReferenceIdeal.Facts] : Prop :=
  ∀ (m : (ℓ : Loc Cert.AttInIdeal.nD Cert.AttInIdeal.τ Cert.AttInIdeal.sig) → Buf (Elt Ideal) ℓ) (g : Dev Cert.AttInIdeal.nD → PrngReg)
    (m' : (ℓ : Loc Cert.AttInReferenceIdeal.nD Cert.AttInReferenceIdeal.τ Cert.AttInReferenceIdeal.sig) → Buf (Elt Ideal) ℓ) (g' : Dev Cert.AttInReferenceIdeal.nD → PrngReg), Pre_AttInIdeal m →
    (∀ c : Dev Cert.AttInIdeal.nD,
      m' ((c.tc : Thread Cert.AttInReferenceIdeal.nD Cert.AttInReferenceIdeal.τ).loc Cert.AttInReferenceIdeal.main_arg0) = m ((c.tc : Thread Cert.AttInIdeal.nD Cert.AttInIdeal.τ).loc Cert.AttInIdeal.main_arg0)
      ∧ m' ((c.tc : Thread Cert.AttInReferenceIdeal.nD Cert.AttInReferenceIdeal.τ).loc Cert.AttInReferenceIdeal.main_arg1) = m ((c.tc : Thread Cert.AttInIdeal.nD Cert.AttInIdeal.τ).loc Cert.AttInIdeal.main_arg1)) →
    ∃ (v0 : (c : Dev Cert.AttInIdeal.nD) → Buf (Elt Ideal) ((c.tc : Thread Cert.AttInIdeal.nD Cert.AttInIdeal.τ).loc Cert.AttInIdeal.main_v4)),
      θ_run (Cert.AttInIdeal.defs (F := Ideal)) (onTc (τ := Cert.AttInIdeal.τ) (Cert.AttInIdeal.main (F := Ideal))) ⟨m, fun _ => 0, g⟩ (fun r => ∀ c : Dev Cert.AttInIdeal.nD,
          r.2.mem ((c.tc : Thread Cert.AttInIdeal.nD Cert.AttInIdeal.τ).loc Cert.AttInIdeal.main_v4) = v0 c
          ∧ r.2.mem ((c.tc : Thread Cert.AttInIdeal.nD Cert.AttInIdeal.τ).loc Cert.AttInIdeal.main_arg0) = m ((c.tc : Thread Cert.AttInIdeal.nD Cert.AttInIdeal.τ).loc Cert.AttInIdeal.main_arg0)
          ∧ r.2.mem ((c.tc : Thread Cert.AttInIdeal.nD Cert.AttInIdeal.τ).loc Cert.AttInIdeal.main_arg1) = m ((c.tc : Thread Cert.AttInIdeal.nD Cert.AttInIdeal.τ).loc Cert.AttInIdeal.main_arg1))
      ∧ θ_run (Cert.AttInReferenceIdeal.defs (F := Ideal)) (onTc (τ := Cert.AttInReferenceIdeal.τ) (Cert.AttInReferenceIdeal.main (F := Ideal))) ⟨m', fun _ => 0, g'⟩ (fun r => ∀ c : Dev Cert.AttInReferenceIdeal.nD,
          r.2.mem ((c.tc : Thread Cert.AttInReferenceIdeal.nD Cert.AttInReferenceIdeal.τ).loc Cert.AttInReferenceIdeal.main_v3) = v0 c
          ∧ r.2.mem ((c.tc : Thread Cert.AttInReferenceIdeal.nD Cert.AttInReferenceIdeal.τ).loc Cert.AttInReferenceIdeal.main_arg0) = m' ((c.tc : Thread Cert.AttInReferenceIdeal.nD Cert.AttInReferenceIdeal.τ).loc Cert.AttInReferenceIdeal.main_arg0)
          ∧ r.2.mem ((c.tc : Thread Cert.AttInReferenceIdeal.nD Cert.AttInReferenceIdeal.τ).loc Cert.AttInReferenceIdeal.main_arg1) = m' ((c.tc : Thread Cert.AttInReferenceIdeal.nD Cert.AttInReferenceIdeal.τ).loc Cert.AttInReferenceIdeal.main_arg1))

def preserves_Queries_QueriesIdeal : Prop :=
  True

def algebraic_QueriesIdeal_QueriesReferenceIdeal [hQueriesIdeal : Cert.QueriesIdeal.Facts] [hQueriesReferenceIdeal : Cert.QueriesReferenceIdeal.Facts] : Prop :=
  ∀ (m : (ℓ : Loc Cert.QueriesIdeal.nD Cert.QueriesIdeal.τ Cert.QueriesIdeal.sig) → Buf (Elt Ideal) ℓ) (g : Dev Cert.QueriesIdeal.nD → PrngReg)
    (m' : (ℓ : Loc Cert.QueriesReferenceIdeal.nD Cert.QueriesReferenceIdeal.τ Cert.QueriesReferenceIdeal.sig) → Buf (Elt Ideal) ℓ) (g' : Dev Cert.QueriesReferenceIdeal.nD → PrngReg), Pre_QueriesIdeal m →
    (∀ c : Dev Cert.QueriesIdeal.nD,
      m' ((c.tc : Thread Cert.QueriesReferenceIdeal.nD Cert.QueriesReferenceIdeal.τ).loc Cert.QueriesReferenceIdeal.main_arg0) = m ((c.tc : Thread Cert.QueriesIdeal.nD Cert.QueriesIdeal.τ).loc Cert.QueriesIdeal.main_arg0)
      ∧ m' ((c.tc : Thread Cert.QueriesReferenceIdeal.nD Cert.QueriesReferenceIdeal.τ).loc Cert.QueriesReferenceIdeal.main_arg1) = m ((c.tc : Thread Cert.QueriesIdeal.nD Cert.QueriesIdeal.τ).loc Cert.QueriesIdeal.main_arg1)
      ∧ m' ((c.tc : Thread Cert.QueriesReferenceIdeal.nD Cert.QueriesReferenceIdeal.τ).loc Cert.QueriesReferenceIdeal.main_arg2) = m ((c.tc : Thread Cert.QueriesIdeal.nD Cert.QueriesIdeal.τ).loc Cert.QueriesIdeal.main_arg2)) →
    ∃ (v0 : (c : Dev Cert.QueriesIdeal.nD) → Buf (Elt Ideal) ((c.tc : Thread Cert.QueriesIdeal.nD Cert.QueriesIdeal.τ).loc Cert.QueriesIdeal.main_v25)),
      θ_run (Cert.QueriesIdeal.defs (F := Ideal)) (onTc (τ := Cert.QueriesIdeal.τ) (Cert.QueriesIdeal.main (F := Ideal))) ⟨m, fun _ => 0, g⟩ (fun r => ∀ c : Dev Cert.QueriesIdeal.nD,
          r.2.mem ((c.tc : Thread Cert.QueriesIdeal.nD Cert.QueriesIdeal.τ).loc Cert.QueriesIdeal.main_v25) = v0 c
          ∧ r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
          ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1)
          ∧ r.2.mem ((c.tc : Thread Cert.QueriesIdeal.nD Cert.QueriesIdeal.τ).loc Cert.QueriesIdeal.main_arg2) = m ((c.tc : Thread Cert.QueriesIdeal.nD Cert.QueriesIdeal.τ).loc Cert.QueriesIdeal.main_arg2))
      ∧ θ_run (Cert.QueriesReferenceIdeal.defs (F := Ideal)) (onTc (τ := Cert.QueriesReferenceIdeal.τ) (Cert.QueriesReferenceIdeal.main (F := Ideal))) ⟨m', fun _ => 0, g'⟩ (fun r => ∀ c : Dev Cert.QueriesReferenceIdeal.nD,
          r.2.mem ((c.tc : Thread Cert.QueriesReferenceIdeal.nD Cert.QueriesReferenceIdeal.τ).loc Cert.QueriesReferenceIdeal.main_v23) = v0 c
          ∧ r.2.mem ((c.tc : Thread Cert.QueriesReferenceIdeal.nD Cert.QueriesReferenceIdeal.τ).loc Cert.QueriesReferenceIdeal.main_arg0) = m' ((c.tc : Thread Cert.QueriesReferenceIdeal.nD Cert.QueriesReferenceIdeal.τ).loc Cert.QueriesReferenceIdeal.main_arg0)
          ∧ r.2.mem ((c.tc : Thread Cert.QueriesReferenceIdeal.nD Cert.QueriesReferenceIdeal.τ).loc Cert.QueriesReferenceIdeal.main_arg1) = m' ((c.tc : Thread Cert.QueriesReferenceIdeal.nD Cert.QueriesReferenceIdeal.τ).loc Cert.QueriesReferenceIdeal.main_arg1)
          ∧ r.2.mem ((c.tc : Thread Cert.QueriesReferenceIdeal.nD Cert.QueriesReferenceIdeal.τ).loc Cert.QueriesReferenceIdeal.main_arg2) = m' ((c.tc : Thread Cert.QueriesReferenceIdeal.nD Cert.QueriesReferenceIdeal.τ).loc Cert.QueriesReferenceIdeal.main_arg2))

def preserves_NormMid_NormMidIdeal : Prop :=
  True

def algebraic_NormMidIdeal_NormMidReferenceIdeal [hNormMidIdeal : Cert.NormMidIdeal.Facts] [hNormMidReferenceIdeal : Cert.NormMidReferenceIdeal.Facts] : Prop :=
  ∀ (m : (ℓ : Loc Cert.NormMidIdeal.nD Cert.NormMidIdeal.τ Cert.NormMidIdeal.sig) → Buf (Elt Ideal) ℓ) (g : Dev Cert.NormMidIdeal.nD → PrngReg)
    (m' : (ℓ : Loc Cert.NormMidReferenceIdeal.nD Cert.NormMidReferenceIdeal.τ Cert.NormMidReferenceIdeal.sig) → Buf (Elt Ideal) ℓ) (g' : Dev Cert.NormMidReferenceIdeal.nD → PrngReg), Pre_NormMidIdeal m →
    (∀ c : Dev Cert.NormMidIdeal.nD,
      m' ((c.tc : Thread Cert.NormMidReferenceIdeal.nD Cert.NormMidReferenceIdeal.τ).loc Cert.NormMidReferenceIdeal.main_arg0) = m ((c.tc : Thread Cert.NormMidIdeal.nD Cert.NormMidIdeal.τ).loc Cert.NormMidIdeal.main_arg0)
      ∧ m' ((c.tc : Thread Cert.NormMidReferenceIdeal.nD Cert.NormMidReferenceIdeal.τ).loc Cert.NormMidReferenceIdeal.main_arg1) = m ((c.tc : Thread Cert.NormMidIdeal.nD Cert.NormMidIdeal.τ).loc Cert.NormMidIdeal.main_arg1)
      ∧ m' ((c.tc : Thread Cert.NormMidReferenceIdeal.nD Cert.NormMidReferenceIdeal.τ).loc Cert.NormMidReferenceIdeal.main_arg2) = m ((c.tc : Thread Cert.NormMidIdeal.nD Cert.NormMidIdeal.τ).loc Cert.NormMidIdeal.main_arg2)
      ∧ m' ((c.tc : Thread Cert.NormMidReferenceIdeal.nD Cert.NormMidReferenceIdeal.τ).loc Cert.NormMidReferenceIdeal.main_arg3) = m ((c.tc : Thread Cert.NormMidIdeal.nD Cert.NormMidIdeal.τ).loc Cert.NormMidIdeal.main_arg3)
      ∧ m' ((c.tc : Thread Cert.NormMidReferenceIdeal.nD Cert.NormMidReferenceIdeal.τ).loc Cert.NormMidReferenceIdeal.main_arg4) = m ((c.tc : Thread Cert.NormMidIdeal.nD Cert.NormMidIdeal.τ).loc Cert.NormMidIdeal.main_arg4)
      ∧ m' ((c.tc : Thread Cert.NormMidReferenceIdeal.nD Cert.NormMidReferenceIdeal.τ).loc Cert.NormMidReferenceIdeal.main_arg5) = m ((c.tc : Thread Cert.NormMidIdeal.nD Cert.NormMidIdeal.τ).loc Cert.NormMidIdeal.main_arg5)
      ∧ m' ((c.tc : Thread Cert.NormMidReferenceIdeal.nD Cert.NormMidReferenceIdeal.τ).loc Cert.NormMidReferenceIdeal.main_arg6) = m ((c.tc : Thread Cert.NormMidIdeal.nD Cert.NormMidIdeal.τ).loc Cert.NormMidIdeal.main_arg6)) →
    ∃ (v0 : (c : Dev Cert.NormMidIdeal.nD) → Buf (Elt Ideal) ((c.tc : Thread Cert.NormMidIdeal.nD Cert.NormMidIdeal.τ).loc Cert.NormMidIdeal.main_v2_0)) (v1 : (c : Dev Cert.NormMidIdeal.nD) → Buf (Elt Ideal) ((c.tc : Thread Cert.NormMidIdeal.nD Cert.NormMidIdeal.τ).loc Cert.NormMidIdeal.main_v2_1)) (v2 : (c : Dev Cert.NormMidIdeal.nD) → Buf (Elt Ideal) ((c.tc : Thread Cert.NormMidIdeal.nD Cert.NormMidIdeal.τ).loc Cert.NormMidIdeal.main_v2_2)),
      θ_run (Cert.NormMidIdeal.defs (F := Ideal)) (onTc (τ := Cert.NormMidIdeal.τ) (Cert.NormMidIdeal.main (F := Ideal))) ⟨m, fun _ => 0, g⟩ (fun r => ∀ c : Dev Cert.NormMidIdeal.nD,
          r.2.mem ((c.tc : Thread Cert.NormMidIdeal.nD Cert.NormMidIdeal.τ).loc Cert.NormMidIdeal.main_v2_0) = v0 c
          ∧ r.2.mem ((c.tc : Thread Cert.NormMidIdeal.nD Cert.NormMidIdeal.τ).loc Cert.NormMidIdeal.main_v2_1) = v1 c
          ∧ r.2.mem ((c.tc : Thread Cert.NormMidIdeal.nD Cert.NormMidIdeal.τ).loc Cert.NormMidIdeal.main_v2_2) = v2 c
          ∧ r.2.mem ((c.tc : Thread Cert.NormMidIdeal.nD Cert.NormMidIdeal.τ).loc Cert.NormMidIdeal.main_arg0) = m ((c.tc : Thread Cert.NormMidIdeal.nD Cert.NormMidIdeal.τ).loc Cert.NormMidIdeal.main_arg0)
          ∧ r.2.mem ((c.tc : Thread Cert.NormMidIdeal.nD Cert.NormMidIdeal.τ).loc Cert.NormMidIdeal.main_arg1) = m ((c.tc : Thread Cert.NormMidIdeal.nD Cert.NormMidIdeal.τ).loc Cert.NormMidIdeal.main_arg1)
          ∧ r.2.mem ((c.tc : Thread Cert.NormMidIdeal.nD Cert.NormMidIdeal.τ).loc Cert.NormMidIdeal.main_arg2) = m ((c.tc : Thread Cert.NormMidIdeal.nD Cert.NormMidIdeal.τ).loc Cert.NormMidIdeal.main_arg2)
          ∧ r.2.mem ((c.tc : Thread Cert.NormMidIdeal.nD Cert.NormMidIdeal.τ).loc Cert.NormMidIdeal.main_arg3) = m ((c.tc : Thread Cert.NormMidIdeal.nD Cert.NormMidIdeal.τ).loc Cert.NormMidIdeal.main_arg3)
          ∧ r.2.mem ((c.tc : Thread Cert.NormMidIdeal.nD Cert.NormMidIdeal.τ).loc Cert.NormMidIdeal.main_arg4) = m ((c.tc : Thread Cert.NormMidIdeal.nD Cert.NormMidIdeal.τ).loc Cert.NormMidIdeal.main_arg4)
          ∧ r.2.mem ((c.tc : Thread Cert.NormMidIdeal.nD Cert.NormMidIdeal.τ).loc Cert.NormMidIdeal.main_arg5) = m ((c.tc : Thread Cert.NormMidIdeal.nD Cert.NormMidIdeal.τ).loc Cert.NormMidIdeal.main_arg5)
          ∧ r.2.mem ((c.tc : Thread Cert.NormMidIdeal.nD Cert.NormMidIdeal.τ).loc Cert.NormMidIdeal.main_arg6) = m ((c.tc : Thread Cert.NormMidIdeal.nD Cert.NormMidIdeal.τ).loc Cert.NormMidIdeal.main_arg6))
      ∧ θ_run (Cert.NormMidReferenceIdeal.defs (F := Ideal)) (onTc (τ := Cert.NormMidReferenceIdeal.τ) (Cert.NormMidReferenceIdeal.main (F := Ideal))) ⟨m', fun _ => 0, g'⟩ (fun r => ∀ c : Dev Cert.NormMidReferenceIdeal.nD,
          r.2.mem ((c.tc : Thread Cert.NormMidReferenceIdeal.nD Cert.NormMidReferenceIdeal.τ).loc Cert.NormMidReferenceIdeal.main_v26) = v0 c
          ∧ r.2.mem ((c.tc : Thread Cert.NormMidReferenceIdeal.nD Cert.NormMidReferenceIdeal.τ).loc Cert.NormMidReferenceIdeal.main_v32) = v1 c
          ∧ r.2.mem ((c.tc : Thread Cert.NormMidReferenceIdeal.nD Cert.NormMidReferenceIdeal.τ).loc Cert.NormMidReferenceIdeal.main_v35) = v2 c
          ∧ r.2.mem ((c.tc : Thread Cert.NormMidReferenceIdeal.nD Cert.NormMidReferenceIdeal.τ).loc Cert.NormMidReferenceIdeal.main_arg0) = m' ((c.tc : Thread Cert.NormMidReferenceIdeal.nD Cert.NormMidReferenceIdeal.τ).loc Cert.NormMidReferenceIdeal.main_arg0)
          ∧ r.2.mem ((c.tc : Thread Cert.NormMidReferenceIdeal.nD Cert.NormMidReferenceIdeal.τ).loc Cert.NormMidReferenceIdeal.main_arg1) = m' ((c.tc : Thread Cert.NormMidReferenceIdeal.nD Cert.NormMidReferenceIdeal.τ).loc Cert.NormMidReferenceIdeal.main_arg1)
          ∧ r.2.mem ((c.tc : Thread Cert.NormMidReferenceIdeal.nD Cert.NormMidReferenceIdeal.τ).loc Cert.NormMidReferenceIdeal.main_arg2) = m' ((c.tc : Thread Cert.NormMidReferenceIdeal.nD Cert.NormMidReferenceIdeal.τ).loc Cert.NormMidReferenceIdeal.main_arg2)
          ∧ r.2.mem ((c.tc : Thread Cert.NormMidReferenceIdeal.nD Cert.NormMidReferenceIdeal.τ).loc Cert.NormMidReferenceIdeal.main_arg3) = m' ((c.tc : Thread Cert.NormMidReferenceIdeal.nD Cert.NormMidReferenceIdeal.τ).loc Cert.NormMidReferenceIdeal.main_arg3)
          ∧ r.2.mem ((c.tc : Thread Cert.NormMidReferenceIdeal.nD Cert.NormMidReferenceIdeal.τ).loc Cert.NormMidReferenceIdeal.main_arg4) = m' ((c.tc : Thread Cert.NormMidReferenceIdeal.nD Cert.NormMidReferenceIdeal.τ).loc Cert.NormMidReferenceIdeal.main_arg4)
          ∧ r.2.mem ((c.tc : Thread Cert.NormMidReferenceIdeal.nD Cert.NormMidReferenceIdeal.τ).loc Cert.NormMidReferenceIdeal.main_arg5) = m' ((c.tc : Thread Cert.NormMidReferenceIdeal.nD Cert.NormMidReferenceIdeal.τ).loc Cert.NormMidReferenceIdeal.main_arg5)
          ∧ r.2.mem ((c.tc : Thread Cert.NormMidReferenceIdeal.nD Cert.NormMidReferenceIdeal.τ).loc Cert.NormMidReferenceIdeal.main_arg6) = m' ((c.tc : Thread Cert.NormMidReferenceIdeal.nD Cert.NormMidReferenceIdeal.τ).loc Cert.NormMidReferenceIdeal.main_arg6))

def preserves_Carry_CarryIdeal : Prop :=
  True

def algebraic_CarryIdeal_CarryReferenceIdeal [hCarryIdeal : Cert.CarryIdeal.Facts] [hCarryReferenceIdeal : Cert.CarryReferenceIdeal.Facts] : Prop :=
  ∀ (m : (ℓ : Loc Cert.CarryIdeal.nD Cert.CarryIdeal.τ Cert.CarryIdeal.sig) → Buf (Elt Ideal) ℓ) (g : Dev Cert.CarryIdeal.nD → PrngReg)
    (m' : (ℓ : Loc Cert.CarryReferenceIdeal.nD Cert.CarryReferenceIdeal.τ Cert.CarryReferenceIdeal.sig) → Buf (Elt Ideal) ℓ) (g' : Dev Cert.CarryReferenceIdeal.nD → PrngReg), Pre_CarryIdeal m →
    (∀ c : Dev Cert.CarryIdeal.nD,
      m' ((c.tc : Thread Cert.CarryReferenceIdeal.nD Cert.CarryReferenceIdeal.τ).loc Cert.CarryReferenceIdeal.main_arg0) = m ((c.tc : Thread Cert.CarryIdeal.nD Cert.CarryIdeal.τ).loc Cert.CarryIdeal.main_arg0)
      ∧ m' ((c.tc : Thread Cert.CarryReferenceIdeal.nD Cert.CarryReferenceIdeal.τ).loc Cert.CarryReferenceIdeal.main_arg1) = m ((c.tc : Thread Cert.CarryIdeal.nD Cert.CarryIdeal.τ).loc Cert.CarryIdeal.main_arg1)
      ∧ m' ((c.tc : Thread Cert.CarryReferenceIdeal.nD Cert.CarryReferenceIdeal.τ).loc Cert.CarryReferenceIdeal.main_arg2) = m ((c.tc : Thread Cert.CarryIdeal.nD Cert.CarryIdeal.τ).loc Cert.CarryIdeal.main_arg2)
      ∧ m' ((c.tc : Thread Cert.CarryReferenceIdeal.nD Cert.CarryReferenceIdeal.τ).loc Cert.CarryReferenceIdeal.main_arg3) = m ((c.tc : Thread Cert.CarryIdeal.nD Cert.CarryIdeal.τ).loc Cert.CarryIdeal.main_arg3)) →
    ∃ (v0 : (c : Dev Cert.CarryIdeal.nD) → Buf (Elt Ideal) ((c.tc : Thread Cert.CarryIdeal.nD Cert.CarryIdeal.τ).loc Cert.CarryIdeal.main_v3_0)) (v1 : (c : Dev Cert.CarryIdeal.nD) → Buf (Elt Ideal) ((c.tc : Thread Cert.CarryIdeal.nD Cert.CarryIdeal.τ).loc Cert.CarryIdeal.main_v3_1)),
      θ_run (Cert.CarryIdeal.defs (F := Ideal)) (onTc (τ := Cert.CarryIdeal.τ) (Cert.CarryIdeal.main (F := Ideal))) ⟨m, fun _ => 0, g⟩ (fun r => ∀ c : Dev Cert.CarryIdeal.nD,
          r.2.mem ((c.tc : Thread Cert.CarryIdeal.nD Cert.CarryIdeal.τ).loc Cert.CarryIdeal.main_v3_0) = v0 c
          ∧ r.2.mem ((c.tc : Thread Cert.CarryIdeal.nD Cert.CarryIdeal.τ).loc Cert.CarryIdeal.main_v3_1) = v1 c
          ∧ r.2.mem ((c.tc : Thread Cert.CarryIdeal.nD Cert.CarryIdeal.τ).loc Cert.CarryIdeal.main_arg0) = m ((c.tc : Thread Cert.CarryIdeal.nD Cert.CarryIdeal.τ).loc Cert.CarryIdeal.main_arg0)
          ∧ r.2.mem ((c.tc : Thread Cert.CarryIdeal.nD Cert.CarryIdeal.τ).loc Cert.CarryIdeal.main_arg1) = m ((c.tc : Thread Cert.CarryIdeal.nD Cert.CarryIdeal.τ).loc Cert.CarryIdeal.main_arg1)
          ∧ r.2.mem ((c.tc : Thread Cert.CarryIdeal.nD Cert.CarryIdeal.τ).loc Cert.CarryIdeal.main_arg2) = m ((c.tc : Thread Cert.CarryIdeal.nD Cert.CarryIdeal.τ).loc Cert.CarryIdeal.main_arg2)
          ∧ r.2.mem ((c.tc : Thread Cert.CarryIdeal.nD Cert.CarryIdeal.τ).loc Cert.CarryIdeal.main_arg3) = m ((c.tc : Thread Cert.CarryIdeal.nD Cert.CarryIdeal.τ).loc Cert.CarryIdeal.main_arg3))
      ∧ θ_run (Cert.CarryReferenceIdeal.defs (F := Ideal)) (onTc (τ := Cert.CarryReferenceIdeal.τ) (Cert.CarryReferenceIdeal.main (F := Ideal))) ⟨m', fun _ => 0, g'⟩ (fun r => ∀ c : Dev Cert.CarryReferenceIdeal.nD,
          r.2.mem ((c.tc : Thread Cert.CarryReferenceIdeal.nD Cert.CarryReferenceIdeal.τ).loc Cert.CarryReferenceIdeal.main_v17) = v0 c
          ∧ r.2.mem ((c.tc : Thread Cert.CarryReferenceIdeal.nD Cert.CarryReferenceIdeal.τ).loc Cert.CarryReferenceIdeal.main_v25) = v1 c
          ∧ r.2.mem ((c.tc : Thread Cert.CarryReferenceIdeal.nD Cert.CarryReferenceIdeal.τ).loc Cert.CarryReferenceIdeal.main_arg0) = m' ((c.tc : Thread Cert.CarryReferenceIdeal.nD Cert.CarryReferenceIdeal.τ).loc Cert.CarryReferenceIdeal.main_arg0)
          ∧ r.2.mem ((c.tc : Thread Cert.CarryReferenceIdeal.nD Cert.CarryReferenceIdeal.τ).loc Cert.CarryReferenceIdeal.main_arg1) = m' ((c.tc : Thread Cert.CarryReferenceIdeal.nD Cert.CarryReferenceIdeal.τ).loc Cert.CarryReferenceIdeal.main_arg1)
          ∧ r.2.mem ((c.tc : Thread Cert.CarryReferenceIdeal.nD Cert.CarryReferenceIdeal.τ).loc Cert.CarryReferenceIdeal.main_arg2) = m' ((c.tc : Thread Cert.CarryReferenceIdeal.nD Cert.CarryReferenceIdeal.τ).loc Cert.CarryReferenceIdeal.main_arg2)
          ∧ r.2.mem ((c.tc : Thread Cert.CarryReferenceIdeal.nD Cert.CarryReferenceIdeal.τ).loc Cert.CarryReferenceIdeal.main_arg3) = m' ((c.tc : Thread Cert.CarryReferenceIdeal.nD Cert.CarryReferenceIdeal.τ).loc Cert.CarryReferenceIdeal.main_arg3))

def Claim : Prop :=
  ∃ (hKernel : Cert.Kernel.Facts) (hKernelIdeal : Cert.KernelIdeal.Facts) (hReferenceIdeal : Cert.ReferenceIdeal.Facts) (hGlu : Cert.Glu.Facts) (hGluIdeal : Cert.GluIdeal.Facts) (hGluReferenceIdeal : Cert.GluReferenceIdeal.Facts) (hHyenaIn : Cert.HyenaIn.Facts) (hHyenaInIdeal : Cert.HyenaInIdeal.Facts) (hHyenaInReferenceIdeal : Cert.HyenaInReferenceIdeal.Facts) (hOut : Cert.Out.Facts) (hOutIdeal : Cert.OutIdeal.Facts) (hOutReferenceIdeal : Cert.OutReferenceIdeal.Facts) (hKeysValues : Cert.KeysValues.Facts) (hKeysValuesIdeal : Cert.KeysValuesIdeal.Facts) (hKeysValuesReferenceIdeal : Cert.KeysValuesReferenceIdeal.Facts) (hNorm : Cert.Norm.Facts) (hNormIdeal : Cert.NormIdeal.Facts) (hNormReferenceIdeal : Cert.NormReferenceIdeal.Facts) (hAttIn : Cert.AttIn.Facts) (hAttInIdeal : Cert.AttInIdeal.Facts) (hAttInReferenceIdeal : Cert.AttInReferenceIdeal.Facts) (hQueries : Cert.Queries.Facts) (hQueriesIdeal : Cert.QueriesIdeal.Facts) (hQueriesReferenceIdeal : Cert.QueriesReferenceIdeal.Facts) (hNormMid : Cert.NormMid.Facts) (hNormMidIdeal : Cert.NormMidIdeal.Facts) (hNormMidReferenceIdeal : Cert.NormMidReferenceIdeal.Facts) (hCarry : Cert.Carry.Facts) (hCarryIdeal : Cert.CarryIdeal.Facts) (hCarryReferenceIdeal : Cert.CarryReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Glu (hGlu := hGlu)
    ∧ quiescent_GluIdeal (hGluIdeal := hGluIdeal)
    ∧ quiescent_GluReferenceIdeal (hGluReferenceIdeal := hGluReferenceIdeal)
    ∧ quiescent_HyenaIn (hHyenaIn := hHyenaIn)
    ∧ quiescent_HyenaInIdeal (hHyenaInIdeal := hHyenaInIdeal)
    ∧ quiescent_HyenaInReferenceIdeal (hHyenaInReferenceIdeal := hHyenaInReferenceIdeal)
    ∧ quiescent_Out (hOut := hOut)
    ∧ quiescent_OutIdeal (hOutIdeal := hOutIdeal)
    ∧ quiescent_OutReferenceIdeal (hOutReferenceIdeal := hOutReferenceIdeal)
    ∧ quiescent_KeysValues (hKeysValues := hKeysValues)
    ∧ quiescent_KeysValuesIdeal (hKeysValuesIdeal := hKeysValuesIdeal)
    ∧ quiescent_KeysValuesReferenceIdeal (hKeysValuesReferenceIdeal := hKeysValuesReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_AttIn (hAttIn := hAttIn)
    ∧ quiescent_AttInIdeal (hAttInIdeal := hAttInIdeal)
    ∧ quiescent_AttInReferenceIdeal (hAttInReferenceIdeal := hAttInReferenceIdeal)
    ∧ quiescent_Queries (hQueries := hQueries)
    ∧ quiescent_QueriesIdeal (hQueriesIdeal := hQueriesIdeal)
    ∧ quiescent_QueriesReferenceIdeal (hQueriesReferenceIdeal := hQueriesReferenceIdeal)
    ∧ quiescent_NormMid (hNormMid := hNormMid)
    ∧ quiescent_NormMidIdeal (hNormMidIdeal := hNormMidIdeal)
    ∧ quiescent_NormMidReferenceIdeal (hNormMidReferenceIdeal := hNormMidReferenceIdeal)
    ∧ quiescent_Carry (hCarry := hCarry)
    ∧ quiescent_CarryIdeal (hCarryIdeal := hCarryIdeal)
    ∧ quiescent_CarryReferenceIdeal (hCarryReferenceIdeal := hCarryReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Glu_GluIdeal
    ∧ algebraic_GluIdeal_GluReferenceIdeal (hGluIdeal := hGluIdeal) (hGluReferenceIdeal := hGluReferenceIdeal)
    ∧ preserves_HyenaIn_HyenaInIdeal
    ∧ algebraic_HyenaInIdeal_HyenaInReferenceIdeal (hHyenaInIdeal := hHyenaInIdeal) (hHyenaInReferenceIdeal := hHyenaInReferenceIdeal)
    ∧ preserves_Out_OutIdeal
    ∧ algebraic_OutIdeal_OutReferenceIdeal (hOutIdeal := hOutIdeal) (hOutReferenceIdeal := hOutReferenceIdeal)
    ∧ preserves_KeysValues_KeysValuesIdeal
    ∧ algebraic_KeysValuesIdeal_KeysValuesReferenceIdeal (hKeysValuesIdeal := hKeysValuesIdeal) (hKeysValuesReferenceIdeal := hKeysValuesReferenceIdeal)
    ∧ preserves_Norm_NormIdeal
    ∧ algebraic_NormIdeal_NormReferenceIdeal (hNormIdeal := hNormIdeal) (hNormReferenceIdeal := hNormReferenceIdeal)
    ∧ preserves_AttIn_AttInIdeal
    ∧ algebraic_AttInIdeal_AttInReferenceIdeal (hAttInIdeal := hAttInIdeal) (hAttInReferenceIdeal := hAttInReferenceIdeal)
    ∧ preserves_Queries_QueriesIdeal
    ∧ algebraic_QueriesIdeal_QueriesReferenceIdeal (hQueriesIdeal := hQueriesIdeal) (hQueriesReferenceIdeal := hQueriesReferenceIdeal)
    ∧ preserves_NormMid_NormMidIdeal
    ∧ algebraic_NormMidIdeal_NormMidReferenceIdeal (hNormMidIdeal := hNormMidIdeal) (hNormMidReferenceIdeal := hNormMidReferenceIdeal)
    ∧ preserves_Carry_CarryIdeal
    ∧ algebraic_CarryIdeal_CarryReferenceIdeal (hCarryIdeal := hCarryIdeal) (hCarryReferenceIdeal := hCarryReferenceIdeal)
-- ==== Pre_finite.lean ====
abbrev S2x8192x8x192 : Shape := ⟨4, ![2, 8192, 8, 192]⟩
abbrev S2x8448x8x256 : Shape := ⟨4, ![2, 8448, 8, 256]⟩
abbrev S2x256x64 : Shape := ⟨3, ![2, 256, 64]⟩
abbrev S2x8192x64 : Shape := ⟨3, ![2, 8192, 64]⟩
abbrev S8192x64 : Shape := ⟨2, ![8192, 64]⟩
abbrev S_ : Shape := ⟨0, ![]⟩

class Facts : Prop where
  bcast_S_S2x8192x8x192 : S_.BroadcastsInDim S2x8192x8x192 (![] : Fin 0 → Fin S2x8192x8x192.rank)
  reducesTo_S2x8192x8x192_S_d0_1_2_3 : S2x8192x8x192.ReducesTo [0, 1, 2, 3] S_
  h_S_ : 0 < S_.numel
  bcast_S_S2x8448x8x256 : S_.BroadcastsInDim S2x8448x8x256 (![] : Fin 0 → Fin S2x8448x8x256.rank)
  reducesTo_S2x8448x8x256_S_d0_1_2_3 : S2x8448x8x256.ReducesTo [0, 1, 2, 3] S_
  bcast_S_S2x256x64 : S_.BroadcastsInDim S2x256x64 (![] : Fin 0 → Fin S2x256x64.rank)
  reducesTo_S2x256x64_S_d0_1_2 : S2x256x64.ReducesTo [0, 1, 2] S_
  bcast_S_S2x8192x64 : S_.BroadcastsInDim S2x8192x64 (![] : Fin 0 → Fin S2x8192x64.rank)
  reducesTo_S2x8192x64_S_d0_1_2 : S2x8192x64.ReducesTo [0, 1, 2] S_
  bcast_S_S8192x64 : S_.BroadcastsInDim S8192x64 (![] : Fin 0 → Fin S8192x64.rank)
  reducesTo_S8192x64_S_d0_1 : S8192x64.ReducesTo [0, 1] S_

variable [Facts]

def fn_part2 {F : FTy → Type} [FloatOps F] (main_arg5 : FVec F S8192x64 .f32) (main_v26 : IVec S_ 1) (main_v32 : IVec S_ 1) : IVec S_ 1 :=
  let main_v33 : IVec S_ 1 := andi main_v26 main_v32
  let main_cst_13 : FVec F S_ .f32 := constant S_ .f32 0x7F800000#32
  let main_v34 : FVec F S8192x64 .f32 := broadcastInDim S8192x64 ![] bcast_S_S8192x64 main_cst_13
  let main_v35 : IVec S8192x64 1 := cmpf .olt main_arg5 main_v34
  let main_cst_14 : FVec F S_ .f32 := constant S_ .f32 0xFF800000#32
  let main_v36 : FVec F S8192x64 .f32 := broadcastInDim S8192x64 ![] bcast_S_S8192x64 main_cst_14
  let main_v37 : IVec S8192x64 1 := cmpf .ogt main_arg5 main_v36
  let main_v38 : IVec S8192x64 1 := andi main_v35 main_v37
  let main_c_15 : IVec S_ 1 := constantI S_ 1 1#1
  let main_v39 : IVec S_ 1 := (fun x v => Host.reduce IntOp.andi x v reducesTo_S8192x64_S_d0_1 h_S_) main_v38 main_c_15
  let main_v40 : IVec S_ 1 := andi main_v33 main_v39
  main_v40

def fn_part1 {F : FTy → Type} [FloatOps F] (main_arg2 : FVec F S2x256x64 .f32) (main_arg3 : FVec F S2x8192x64 .f32) (main_arg4 : FVec F S8192x64 .f32) (main_arg5 : FVec F S8192x64 .f32) (main_v12 : IVec S_ 1) (main_v14 : IVec S2x256x64 1) (main_v15 : FVec F S2x256x64 .f32) : IVec S_ 1 :=
  let main_v16 : IVec S2x256x64 1 := cmpf .ogt main_arg2 main_v15
  let main_v17 : IVec S2x256x64 1 := andi main_v14 main_v16
  let main_c_6 : IVec S_ 1 := constantI S_ 1 1#1
  let main_v18 : IVec S_ 1 := (fun x v => Host.reduce IntOp.andi x v reducesTo_S2x256x64_S_d0_1_2 h_S_) main_v17 main_c_6
  let main_v19 : IVec S_ 1 := andi main_v12 main_v18
  let main_cst_7 : FVec F S_ .f32 := constant S_ .f32 0x7F800000#32
  let main_v20 : FVec F S2x8192x64 .f32 := broadcastInDim S2x8192x64 ![] bcast_S_S2x8192x64 main_cst_7
  let main_v21 : IVec S2x8192x64 1 := cmpf .olt main_arg3 main_v20
  let main_cst_8 : FVec F S_ .f32 := constant S_ .f32 0xFF800000#32
  let main_v22 : FVec F S2x8192x64 .f32 := broadcastInDim S2x8192x64 ![] bcast_S_S2x8192x64 main_cst_8
  let main_v23 : IVec S2x8192x64 1 := cmpf .ogt main_arg3 main_v22
  let main_v24 : IVec S2x8192x64 1 := andi main_v21 main_v23
  let main_c_9 : IVec S_ 1 := constantI S_ 1 1#1
  let main_v25 : IVec S_ 1 := (fun x v => Host.reduce IntOp.andi x v reducesTo_S2x8192x64_S_d0_1_2 h_S_) main_v24 main_c_9
  let main_v26 : IVec S_ 1 := andi main_v19 main_v25
  let main_cst_10 : FVec F S_ .f32 := constant S_ .f32 0x7F800000#32
  let main_v27 : FVec F S8192x64 .f32 := broadcastInDim S8192x64 ![] bcast_S_S8192x64 main_cst_10
  let main_v28 : IVec S8192x64 1 := cmpf .olt main_arg4 main_v27
  let main_cst_11 : FVec F S_ .f32 := constant S_ .f32 0xFF800000#32
  let main_v29 : FVec F S8192x64 .f32 := broadcastInDim S8192x64 ![] bcast_S_S8192x64 main_cst_11
  let main_v30 : IVec S8192x64 1 := cmpf .ogt main_arg4 main_v29
  let main_v31 : IVec S8192x64 1 := andi main_v28 main_v30
  let main_c_12 : IVec S_ 1 := constantI S_ 1 1#1
  let main_v32 : IVec S_ 1 := (fun x v => Host.reduce IntOp.andi x v reducesTo_S8192x64_S_d0_1 h_S_) main_v31 main_c_12
  fn_part2 (F := F) main_arg5 main_v26 main_v32

def fn {F : FTy → Type} [FloatOps F] (main_arg0 : FVec F S2x8192x8x192 .f32) (main_arg1 : FVec F S2x8448x8x256 .f32) (main_arg2 : FVec F S2x256x64 .f32) (main_arg3 : FVec F S2x8192x64 .f32) (main_arg4 : FVec F S8192x64 .f32) (main_arg5 : FVec F S8192x64 .f32) : IVec S_ 1 :=
  let main_cst : FVec F S_ .f32 := constant S_ .f32 0x7F800000#32
  let main_v0 : FVec F S2x8192x8x192 .f32 := broadcastInDim S2x8192x8x192 ![] bcast_S_S2x8192x8x192 main_cst
  let main_v1 : IVec S2x8192x8x192 1 := cmpf .olt main_arg0 main_v0
  let main_cst_0 : FVec F S_ .f32 := constant S_ .f32 0xFF800000#32
  let main_v2 : FVec F S2x8192x8x192 .f32 := broadcastInDim S2x8192x8x192 ![] bcast_S_S2x8192x8x192 main_cst_0
  let main_v3 : IVec S2x8192x8x192 1 := cmpf .ogt main_arg0 main_v2
  let main_v4 : IVec S2x8192x8x192 1 := andi main_v1 main_v3
  let main_c : IVec S_ 1 := constantI S_ 1 1#1
  let main_v5 : IVec S_ 1 := (fun x v => Host.reduce IntOp.andi x v reducesTo_S2x8192x8x192_S_d0_1_2_3 h_S_) main_v4 main_c
  let main_cst_1 : FVec F S_ .f32 := constant S_ .f32 0x7F800000#32
  let main_v6 : FVec F S2x8448x8x256 .f32 := broadcastInDim S2x8448x8x256 ![] bcast_S_S2x8448x8x256 main_cst_1
  let main_v7 : IVec S2x8448x8x256 1 := cmpf .olt main_arg1 main_v6
  let main_cst_2 : FVec F S_ .f32 := constant S_ .f32 0xFF800000#32
  let main_v8 : FVec F S2x8448x8x256 .f32 := broadcastInDim S2x8448x8x256 ![] bcast_S_S2x8448x8x256 main_cst_2
  let main_v9 : IVec S2x8448x8x256 1 := cmpf .ogt main_arg1 main_v8
  let main_v10 : IVec S2x8448x8x256 1 := andi main_v7 main_v9
  let main_c_3 : IVec S_ 1 := constantI S_ 1 1#1
  let main_v11 : IVec S_ 1 := (fun x v => Host.reduce IntOp.andi x v reducesTo_S2x8448x8x256_S_d0_1_2_3 h_S_) main_v10 main_c_3
  let main_v12 : IVec S_ 1 := andi main_v5 main_v11
  let main_cst_4 : FVec F S_ .f32 := constant S_ .f32 0x7F800000#32
  let main_v13 : FVec F S2x256x64 .f32 := broadcastInDim S2x256x64 ![] bcast_S_S2x256x64 main_cst_4
  let main_v14 : IVec S2x256x64 1 := cmpf .olt main_arg2 main_v13
  let main_cst_5 : FVec F S_ .f32 := constant S_ .f32 0xFF800000#32
  let main_v15 : FVec F S2x256x64 .f32 := broadcastInDim S2x256x64 ![] bcast_S_S2x256x64 main_cst_5
  fn_part1 (F := F) main_arg2 main_arg3 main_arg4 main_arg5 main_v12 main_v14 main_v15
-- ==== Kernel.lean ====
abbrev S2x8192x8x192 : Shape := ⟨4, ![2, 8192, 8, 192]⟩
abbrev S2x8448x8x256 : Shape := ⟨4, ![2, 8448, 8, 256]⟩
abbrev S2x256x64 : Shape := ⟨3, ![2, 256, 64]⟩
abbrev S2x8192x64 : Shape := ⟨3, ![2, 8192, 64]⟩
abbrev S8192x64 : Shape := ⟨2, ![8192, 64]⟩
abbrev S2x8448x8x128 : Shape := ⟨4, ![2, 8448, 8, 128]⟩
abbrev S2x8192x2x2x16 : Shape := ⟨5, ![2, 8192, 2, 2, 16]⟩
abbrev S2x8192x2x1x16 : Shape := ⟨5, ![2, 8192, 2, 1, 16]⟩
abbrev S1x8192x64 : Shape := ⟨3, ![1, 8192, 64]⟩
abbrev S2x8448x64 : Shape := ⟨3, ![2, 8448, 64]⟩
abbrev S16384x1536 : Shape := ⟨2, ![16384, 1536]⟩
abbrev S16384x8x192 : Shape := ⟨3, ![16384, 8, 192]⟩
abbrev S_ : Shape := ⟨0, ![]⟩
abbrev S16384x8x64 : Shape := ⟨3, ![16384, 8, 64]⟩
abbrev S16384x8x128 : Shape := ⟨3, ![16384, 8, 128]⟩
abbrev S16384x1024 : Shape := ⟨2, ![16384, 1024]⟩
abbrev S16384x2048 : Shape := ⟨2, ![16384, 2048]⟩
abbrev S2x8192x2048 : Shape := ⟨3, ![2, 8192, 2048]⟩
abbrev S8192x128 : Shape := ⟨2, ![8192, 128]⟩
abbrev S2x8x128x8448 : Shape := ⟨4, ![2, 8, 128, 8448]⟩
abbrev S2x64x8448 : Shape := ⟨3, ![2, 64, 8448]⟩
abbrev S2x128x8448 : Shape := ⟨3, ![2, 128, 8448]⟩
abbrev S2x8x8448x128 : Shape := ⟨4, ![2, 8, 8448, 128]⟩
abbrev S2x8192x1024 : Shape := ⟨3, ![2, 8192, 1024]⟩
abbrev S1x512x128 : Shape := ⟨3, ![1, 512, 128]⟩
abbrev S512x128 : Shape := ⟨2, ![512, 128]⟩
abbrev S1x1x128x8448 : Shape := ⟨4, ![1, 1, 128, 8448]⟩
abbrev S1x128x8448 : Shape := ⟨3, ![1, 128, 8448]⟩
abbrev S1x1x8448x128 : Shape := ⟨4, ![1, 1, 8448, 128]⟩
abbrev S1x128 : Shape := ⟨2, ![1, 128]⟩
abbrev S512x256 : Shape := ⟨2, ![512, 256]⟩
abbrev S512x1 : Shape := ⟨2, ![512, 1]⟩
abbrev S1x1x128x2816 : Shape := ⟨4, ![1, 1, 128, 2816]⟩
abbrev S128x2816 : Shape := ⟨2, ![128, 2816]⟩
abbrev S1x128x2816 : Shape := ⟨3, ![1, 128, 2816]⟩
abbrev S256x2816 : Shape := ⟨2, ![256, 2816]⟩
abbrev S512x2816 : Shape := ⟨2, ![512, 2816]⟩
abbrev S512 : Shape := ⟨1, ![512]⟩
abbrev S1x1x2816x128 : Shape := ⟨4, ![1, 1, 2816, 128]⟩
abbrev S2816x128 : Shape := ⟨2, ![2816, 128]⟩

abbrev nBuf : Space → Nat
  | .hbm => 52
  | .vmem => 16
  | .smem => 0
  | _ => 0

abbrev bufTy : (tb : Table) → Fin (tcTables nBuf tb) → BufTy
  | .hbm, ⟨0, _⟩ => ⟨S2x8192x8x192, .f32⟩
  | .hbm, ⟨1, _⟩ => ⟨S2x8448x8x256, .f32⟩
  | .hbm, ⟨2, _⟩ => ⟨S2x256x64, .f32⟩
  | .hbm, ⟨3, _⟩ => ⟨S2x8192x64, .f32⟩
  | .hbm, ⟨4, _⟩ => ⟨S8192x64, .f32⟩
  | .hbm, ⟨5, _⟩ => ⟨S8192x64, .f32⟩
  | .hbm, ⟨6, _⟩ => ⟨S2x8448x8x128, .f32⟩
  | .hbm, ⟨7, _⟩ => ⟨S2x8448x8x128, .f32⟩
  | .hbm, ⟨8, _⟩ => ⟨S2x8192x2x2x16, .f32⟩
  | .hbm, ⟨9, _⟩ => ⟨S2x8192x2x1x16, .f32⟩
  | .hbm, ⟨10, _⟩ => ⟨S2x8192x2x1x16, .f32⟩
  | .hbm, ⟨11, _⟩ => ⟨S2x8192x2x1x16, .f32⟩
  | .hbm, ⟨12, _⟩ => ⟨S2x8192x2x2x16, .f32⟩
  | .hbm, ⟨13, _⟩ => ⟨S2x8192x64, .f32⟩
  | .hbm, ⟨14, _⟩ => ⟨S1x8192x64, .f32⟩
  | .hbm, ⟨15, _⟩ => ⟨S2x8192x64, .f32⟩
  | .hbm, ⟨16, _⟩ => ⟨S2x8192x64, .f32⟩
  | .hbm, ⟨17, _⟩ => ⟨S1x8192x64, .f32⟩
  | .hbm, ⟨18, _⟩ => ⟨S2x8192x64, .f32⟩
  | .hbm, ⟨19, _⟩ => ⟨S2x8192x64, .f32⟩
  | .hbm, ⟨20, _⟩ => ⟨S2x8192x64, .f32⟩
  | .hbm, ⟨21, _⟩ => ⟨S2x8448x64, .f32⟩
  | .hbm, ⟨22, _⟩ => ⟨S16384x1536, .f32⟩
  | .hbm, ⟨23, _⟩ => ⟨S16384x8x192, .f32⟩
  | .hbm, ⟨24, _⟩ => ⟨S_, .f32⟩
  | .hbm, ⟨25, _⟩ => ⟨S16384x8x192, .f32⟩
  | .hbm, ⟨26, _⟩ => ⟨S16384x8x192, .f32⟩
  | .hbm, ⟨27, _⟩ => ⟨S16384x8x64, .f32⟩
  | .hbm, ⟨28, _⟩ => ⟨S_, .i32⟩
  | .hbm, ⟨29, _⟩ => ⟨S_, .f32⟩
  | .hbm, ⟨30, _⟩ => ⟨S16384x8x128, .f32⟩
  | .hbm, ⟨31, _⟩ => ⟨S16384x8x128, .f32⟩
  | .hbm, ⟨32, _⟩ => ⟨S16384x1024, .f32⟩
  | .hbm, ⟨33, _⟩ => ⟨S16384x1024, .f32⟩
  | .hbm, ⟨34, _⟩ => ⟨S16384x2048, .f32⟩
  | .hbm, ⟨35, _⟩ => ⟨S2x8192x2048, .f32⟩
  | .hbm, ⟨36, _⟩ => ⟨S_, .i32⟩
  | .hbm, ⟨37, _⟩ => ⟨S_, .f32⟩
  | .hbm, ⟨38, _⟩ => ⟨S8192x128, .f32⟩
  | .hbm, ⟨39, _⟩ => ⟨S_, .i32⟩
  | .hbm, ⟨40, _⟩ => ⟨S_, .f32⟩
  | .hbm, ⟨41, _⟩ => ⟨S8192x128, .f32⟩
  | .hbm, ⟨42, _⟩ => ⟨S2x8448x8x128, .bf16⟩
  | .hbm, ⟨43, _⟩ => ⟨S2x8x128x8448, .bf16⟩
  | .hbm, ⟨44, _⟩ => ⟨S2x8448x64, .bf16⟩
  | .hbm, ⟨45, _⟩ => ⟨S2x64x8448, .bf16⟩
  | .hbm, ⟨46, _⟩ => ⟨S_, .i32⟩
  | .hbm, ⟨47, _⟩ => ⟨S_, .bf16⟩
  | .hbm, ⟨48, _⟩ => ⟨S2x128x8448, .bf16⟩
  | .hbm, ⟨49, _⟩ => ⟨S2x8448x8x128, .bf16⟩
  | .hbm, ⟨50, _⟩ => ⟨S2x8x8448x128, .bf16⟩
  | .hbm, ⟨51, _⟩ => ⟨S2x8192x1024, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x1x128x8448, .bf16⟩
  | .local _ .vmem, ⟨9, _⟩ => ⟨S1x1x128x8448, .bf16⟩
  | .local _ .vmem, ⟨10, _⟩ => ⟨S1x128x8448, .bf16⟩
  | .local _ .vmem, ⟨11, _⟩ => ⟨S1x128x8448, .bf16⟩
  | .local _ .vmem, ⟨12, _⟩ => ⟨S1x1x8448x128, .bf16⟩
  | .local _ .vmem, ⟨13, _⟩ => ⟨S1x1x8448x128, .bf16⟩
  | .local _ .vmem, ⟨14, _⟩ => ⟨S1x512x128, .f32⟩
  | .local _ .vmem, ⟨15, _⟩ => ⟨S1x512x128, .f32⟩
  | _, _ => ⟨S2x8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_call0_v0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_0 : Ref sig .tc := ⟨.hbm, 36, rfl⟩
abbrev main_call1_v0 : Ref sig .tc := ⟨.hbm, 37, rfl⟩
abbrev main_v27 : Ref sig .tc := ⟨.hbm, 38, rfl⟩
abbrev main_c_1 : Ref sig .tc := ⟨.hbm, 39, rfl⟩
abbrev main_call2_v0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_2 : Ref sig .tc := ⟨.hbm, 46, rfl⟩
abbrev main_call3_v0 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 8, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1x128x8448 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128x8448 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x8448x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S2x8192x8x192 : Shape := ⟨4, ![2, 8192, 8, 192]⟩
abbrev S2x8448x8x256 : Shape := ⟨4, ![2, 8448, 8, 256]⟩
abbrev S2x256x64 : Shape := ⟨3, ![2, 256, 64]⟩
abbrev S2x8192x64 : Shape := ⟨3, ![2, 8192, 64]⟩
abbrev S8192x64 : Shape := ⟨2, ![8192, 64]⟩
abbrev S2x8192x8x128 : Shape := ⟨4, ![2, 8192, 8, 128]⟩
abbrev S2x8192x8x64 : Shape := ⟨4, ![2, 8192, 8, 64]⟩
abbrev S2x8448x8x128 : Shape := ⟨4, ![2, 8448, 8, 128]⟩
abbrev S8192x1x64 : Shape := ⟨3, ![8192, 1, 64]⟩
abbrev S2x8192x8x2x2x16 : Shape := ⟨6, ![2, 8192, 8, 2, 2, 16]⟩
abbrev S2x8192x8x2x1x16 : Shape := ⟨6, ![2, 8192, 8, 2, 1, 16]⟩
abbrev S1x8192x1x64 : Shape := ⟨4, ![1, 8192, 1, 64]⟩
abbrev S2x8192x2x2x16 : Shape := ⟨5, ![2, 8192, 2, 2, 16]⟩
abbrev S2x8192x2x1x16 : Shape := ⟨5, ![2, 8192, 2, 1, 16]⟩
abbrev S1x8192x64 : Shape := ⟨3, ![1, 8192, 64]⟩
abbrev S2x8448x64 : Shape := ⟨3, ![2, 8448, 64]⟩
abbrev S2x8x8192x8448 : Shape := ⟨4, ![2, 8, 8192, 8448]⟩
abbrev S2x8448x8192x8 : Shape := ⟨4, ![2, 8448, 8192, 8]⟩
abbrev S_ : Shape := ⟨0, ![]⟩
abbrev S2x8x8192 : Shape := ⟨3, ![2, 8, 8192]⟩
abbrev S2x8x8192x1 : Shape := ⟨4, ![2, 8, 8192, 1]⟩
abbrev S2x8x128x8192 : Shape := ⟨4, ![2, 8, 128, 8192]⟩
abbrev S2x8192x1024 : Shape := ⟨3, ![2, 8192, 1024]⟩

abbrev nBuf : Space → Nat
  | .hbm => 63
  | .vmem => 0
  | .smem => 0
  | _ => 0

abbrev bufTy : (tb : Table) → Fin (tcTables nBuf tb) → BufTy
  | .hbm, ⟨0, _⟩ => ⟨S2x8192x8x192, .f32⟩
  | .hbm, ⟨1, _⟩ => ⟨S2x8448x8x256, .f32⟩
  | .hbm, ⟨2, _⟩ => ⟨S2x256x64, .f32⟩
  | .hbm, ⟨3, _⟩ => ⟨S2x8192x64, .f32⟩
  | .hbm, ⟨4, _⟩ => ⟨S8192x64, .f32⟩
  | .hbm, ⟨5, _⟩ => ⟨S8192x64, .f32⟩
  | .hbm, ⟨6, _⟩ => ⟨S2x8192x8x128, .f32⟩
  | .hbm, ⟨7, _⟩ => ⟨S2x8192x8x64, .f32⟩
  | .hbm, ⟨8, _⟩ => ⟨S2x8448x8x128, .f32⟩
  | .hbm, ⟨9, _⟩ => ⟨S2x8448x8x128, .f32⟩
  | .hbm, ⟨10, _⟩ => ⟨S8192x1x64, .f32⟩
  | .hbm, ⟨11, _⟩ => ⟨S8192x1x64, .f32⟩
  | .hbm, ⟨12, _⟩ => ⟨S2x8192x8x2x2x16, .f32⟩
  | .hbm, ⟨13, _⟩ => ⟨S2x8192x8x2x1x16, .f32⟩
  | .hbm, ⟨14, _⟩ => ⟨S2x8192x8x2x1x16, .f32⟩
  | .hbm, ⟨15, _⟩ => ⟨S2x8192x8x2x1x16, .f32⟩
  | .hbm, ⟨16, _⟩ => ⟨S2x8192x8x2x2x16, .f32⟩
  | .hbm, ⟨17, _⟩ => ⟨S2x8192x8x64, .f32⟩
  | .hbm, ⟨18, _⟩ => ⟨S1x8192x1x64, .f32⟩
  | .hbm, ⟨19, _⟩ => ⟨S2x8192x8x64, .f32⟩
  | .hbm, ⟨20, _⟩ => ⟨S2x8192x8x64, .f32⟩
  | .hbm, ⟨21, _⟩ => ⟨S1x8192x1x64, .f32⟩
  | .hbm, ⟨22, _⟩ => ⟨S2x8192x8x64, .f32⟩
  | .hbm, ⟨23, _⟩ => ⟨S2x8192x8x64, .f32⟩
  | .hbm, ⟨24, _⟩ => ⟨S2x8192x8x64, .f32⟩
  | .hbm, ⟨25, _⟩ => ⟨S2x8192x2x2x16, .f32⟩
  | .hbm, ⟨26, _⟩ => ⟨S2x8192x2x1x16, .f32⟩
  | .hbm, ⟨27, _⟩ => ⟨S2x8192x2x1x16, .f32⟩
  | .hbm, ⟨28, _⟩ => ⟨S2x8192x2x1x16, .f32⟩
  | .hbm, ⟨29, _⟩ => ⟨S2x8192x2x2x16, .f32⟩
  | .hbm, ⟨30, _⟩ => ⟨S2x8192x64, .f32⟩
  | .hbm, ⟨31, _⟩ => ⟨S1x8192x64, .f32⟩
  | .hbm, ⟨32, _⟩ => ⟨S2x8192x64, .f32⟩
  | .hbm, ⟨33, _⟩ => ⟨S2x8192x64, .f32⟩
  | .hbm, ⟨34, _⟩ => ⟨S1x8192x64, .f32⟩
  | .hbm, ⟨35, _⟩ => ⟨S2x8192x64, .f32⟩
  | .hbm, ⟨36, _⟩ => ⟨S2x8192x64, .f32⟩
  | .hbm, ⟨37, _⟩ => ⟨S2x8192x64, .f32⟩
  | .hbm, ⟨38, _⟩ => ⟨S2x8448x64, .f32⟩
  | .hbm, ⟨39, _⟩ => ⟨S2x8x8192x8448, .f32⟩
  | .hbm, ⟨40, _⟩ => ⟨S2x8448x8192x8, .f32⟩
  | .hbm, ⟨41, _⟩ => ⟨S2x8x8192x8448, .f32⟩
  | .hbm, ⟨42, _⟩ => ⟨S2x8x8192x8448, .f32⟩
  | .hbm, ⟨43, _⟩ => ⟨S_, .f32⟩
  | .hbm, ⟨44, _⟩ => ⟨S2x8x8192x8448, .f32⟩
  | .hbm, ⟨45, _⟩ => ⟨S2x8x8192x8448, .f32⟩
  | .hbm, ⟨46, _⟩ => ⟨S_, .f32⟩
  | .hbm, ⟨47, _⟩ => ⟨S2x8x8192, .f32⟩
  | .hbm, ⟨48, _⟩ => ⟨S_, .f32⟩
  | .hbm, ⟨49, _⟩ => ⟨S2x8x8192, .f32⟩
  | .hbm, ⟨50, _⟩ => ⟨S2x8x8192, .f32⟩
  | .hbm, ⟨51, _⟩ => ⟨S2x8x8192x1, .f32⟩
  | .hbm, ⟨52, _⟩ => ⟨S2x8x8192x8448, .f32⟩
  | .hbm, ⟨53, _⟩ => ⟨S2x8x8192x8448, .f32⟩
  | .hbm, ⟨54, _⟩ => ⟨S2x8x8192x8448, .f32⟩
  | .hbm, ⟨55, _⟩ => ⟨S_, .f32⟩
  | .hbm, ⟨56, _⟩ => ⟨S2x8x8192, .f32⟩
  | .hbm, ⟨57, _⟩ => ⟨S2x8x8192x1, .f32⟩
  | .hbm, ⟨58, _⟩ => ⟨S2x8x8192x8448, .f32⟩
  | .hbm, ⟨59, _⟩ => ⟨S2x8x8192x8448, .f32⟩
  | .hbm, ⟨60, _⟩ => ⟨S2x8x128x8192, .f32⟩
  | .hbm, ⟨61, _⟩ => ⟨S2x8192x8x128, .f32⟩
  | .hbm, ⟨62, _⟩ => ⟨S2x8192x1024, .f32⟩
  | _, _ => ⟨S2x8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst : Ref sig .tc := ⟨.hbm, 43, rfl⟩
abbrev main_v37 : Ref sig .tc := ⟨.hbm, 44, rfl⟩
abbrev main_v38 : Ref sig .tc := ⟨.hbm, 45, rfl⟩
abbrev main_cst_0 : Ref sig .tc := ⟨.hbm, 46, rfl⟩
abbrev main_v39 : Ref sig .tc := ⟨.hbm, 47, rfl⟩
abbrev main_cst_1 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_2 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩

abbrev nD : Nat := 1
abbrev τ : Topo := Topo.v7x

variable {F : FTy → Type} [FloatOps F]
-- ==== Glu.lean ====
abbrev S2x8192x2048 : Shape := ⟨3, ![2, 8192, 2048]⟩
abbrev S2048 : Shape := ⟨1, ![2048]⟩
abbrev S2048x2048 : Shape := ⟨2, ![2048, 2048]⟩
abbrev S1x1x2048 : Shape := ⟨3, ![1, 1, 2048]⟩
abbrev S_ : Shape := ⟨0, ![]⟩
abbrev S16384x2048 : Shape := ⟨2, ![16384, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 30
  | .vmem => 8
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S1x1x2048, .f32⟩
  | .hbm, ⟨6, _⟩ => ⟨S2x8192x2048, .f32⟩
  | .hbm, ⟨7, _⟩ => ⟨S2x8192x2048, .f32⟩
  | .hbm, ⟨8, _⟩ => ⟨S2x8192x2048, .f32⟩
  | .hbm, ⟨9, _⟩ => ⟨S2x8192x2048, .f32⟩
  | .hbm, ⟨10, _⟩ => ⟨S2x8192x2048, .f32⟩
  | .hbm, ⟨11, _⟩ => ⟨S_, .f32⟩
  | .hbm, ⟨12, _⟩ => ⟨S2x8192x2048, .f32⟩
  | .hbm, ⟨13, _⟩ => ⟨S2x8192x2048, .f32⟩
  | .hbm, ⟨14, _⟩ => ⟨S2x8192x2048, .f32⟩
  | .hbm, ⟨15, _⟩ => ⟨S_, .f32⟩
  | .hbm, ⟨16, _⟩ => ⟨S2x8192x2048, .f32⟩
  | .hbm, ⟨17, _⟩ => ⟨S2x8192x2048, .f32⟩
  | .hbm, ⟨18, _⟩ => ⟨S2x8192x2048, .f32⟩
  | .hbm, ⟨19, _⟩ => ⟨S_, .f32⟩
  | .hbm, ⟨20, _⟩ => ⟨S2x8192x2048, .f32⟩
  | .hbm, ⟨21, _⟩ => ⟨S2x8192x2048, .f32⟩
  | .hbm, ⟨22, _⟩ => ⟨S_, .f32⟩
  | .hbm, ⟨23, _⟩ => ⟨S2x8192x2048, .f32⟩
  | .hbm, ⟨24, _⟩ => ⟨S2x8192x2048, .f32⟩
  | .hbm, ⟨25, _⟩ => ⟨S2x8192x2048, .f32⟩
  | .hbm, ⟨26, _⟩ => ⟨S16384x2048, .f32⟩
  | .hbm, ⟨27, _⟩ => ⟨S2048x2048, .bf16⟩
  | .hbm, ⟨28, _⟩ => ⟨S2048x2048, .bf16⟩
  | .hbm, ⟨29, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x512, .f32⟩
  | .local _ .vmem, ⟨7, _⟩ => ⟨S512x512, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluReferenceIdeal.lean ====
abbrev S2x8192x2048 : Shape := ⟨3, ![2, 8192, 2048]⟩
abbrev S2048 : Shape := ⟨1, ![2048]⟩
abbrev S2048x2048 : Shape := ⟨2, ![2048, 2048]⟩
abbrev S1x1x2048 : Shape := ⟨3, ![1, 1, 2048]⟩
abbrev S_ : Shape := ⟨0, ![]⟩
abbrev S16384x2048 : Shape := ⟨2, ![16384, 2048]⟩

abbrev nBuf : Space → Nat
  | .hbm => 38
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S1x1x2048, .f32⟩
  | .hbm, ⟨6, _⟩ => ⟨S2x8192x2048, .f32⟩
  | .hbm, ⟨7, _⟩ => ⟨S2x8192x2048, .f32⟩
  | .hbm, ⟨8, _⟩ => ⟨S2x8192x2048, .f32⟩
  | .hbm, ⟨9, _⟩ => ⟨S2x8192x2048, .f32⟩
  | .hbm, ⟨10, _⟩ => ⟨S2x8192x2048, .f32⟩
  | .hbm, ⟨11, _⟩ => ⟨S_, .f32⟩
  | .hbm, ⟨12, _⟩ => ⟨S2x8192x2048, .f32⟩
  | .hbm, ⟨13, _⟩ => ⟨S2x8192x2048, .f32⟩
  | .hbm, ⟨14, _⟩ => ⟨S2x8192x2048, .f32⟩
  | .hbm, ⟨15, _⟩ => ⟨S_, .f32⟩
  | .hbm, ⟨16, _⟩ => ⟨S2x8192x2048, .f32⟩
  | .hbm, ⟨17, _⟩ => ⟨S2x8192x2048, .f32⟩
  | .hbm, ⟨18, _⟩ => ⟨S2x8192x2048, .f32⟩
  | .hbm, ⟨19, _⟩ => ⟨S_, .f32⟩
  | .hbm, ⟨20, _⟩ => ⟨S2x8192x2048, .f32⟩
  | .hbm, ⟨21, _⟩ => ⟨S2x8192x2048, .f32⟩
  | .hbm, ⟨22, _⟩ => ⟨S_, .f32⟩
  | .hbm, ⟨23, _⟩ => ⟨S2x8192x2048, .f32⟩
  | .hbm, ⟨24, _⟩ => ⟨S2x8192x2048, .f32⟩
  | .hbm, ⟨25, _⟩ => ⟨S2x8192x2048, .f32⟩
  | .hbm, ⟨26, _⟩ => ⟨S2x8192x2048, .f32⟩
  | .hbm, ⟨27, _⟩ => ⟨S2x8192x2048, .f32⟩
  | .hbm, ⟨28, _⟩ => ⟨S2x8192x2048, .f32⟩
  | .hbm, ⟨29, _⟩ => ⟨S2x8192x2048, .f32⟩
  | .hbm, ⟨30, _⟩ => ⟨S_, .f32⟩
  | .hbm, ⟨31, _⟩ => ⟨S2x8192x2048, .f32⟩
  | .hbm, ⟨32, _⟩ => ⟨S2x8192x2048, .f32⟩
  | .hbm, ⟨33, _⟩ => ⟨S_, .f32⟩
  | .hbm, ⟨34, _⟩ => ⟨S2x8192x2048, .f32⟩
  | .hbm, ⟨35, _⟩ => ⟨S2x8192x2048, .f32⟩
  | .hbm, ⟨36, _⟩ => ⟨S2x8192x2048, .f32⟩
  | .hbm, ⟨37, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== HyenaIn.lean ====
abbrev S2x8192x2048 : Shape := ⟨3, ![2, 8192, 2048]⟩
abbrev S2048x3904 : Shape := ⟨2, ![2048, 3904]⟩
abbrev S16384x2048 : Shape := ⟨2, ![16384, 2048]⟩
abbrev S2048x3072 : Shape := ⟨2, ![2048, 3072]⟩
abbrev S_ : Shape := ⟨0, ![]⟩
abbrev S16384x3072 : Shape := ⟨2, ![16384, 3072]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 9
  | .vmem => 6
  | .smem => 0
  | _ => 0

abbrev bufTy : (tb : Table) → Fin (tcTables nBuf tb) → BufTy
  | .hbm, ⟨0, _⟩ => ⟨S2x8192x2048, .f32⟩
  | .hbm, ⟨1, _⟩ => ⟨S2048x3904, .f32⟩
  | .hbm, ⟨2, _⟩ => ⟨S16384x2048, .f32⟩
  | .hbm, ⟨3, _⟩ => ⟨S2048x3072, .f32⟩
  | .hbm, ⟨4, _⟩ => ⟨S2048x3072, .bf16⟩
  | .hbm, ⟨5, _⟩ => ⟨S_, .i32⟩
  | .hbm, ⟨6, _⟩ => ⟨S_, .bf16⟩
  | .hbm, ⟨7, _⟩ => ⟨S2048x3072, .bf16⟩
  | .hbm, ⟨8, _⟩ => ⟨S16384x3072, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HyenaInReferenceIdeal.lean ====
abbrev S2x8192x2048 : Shape := ⟨3, ![2, 8192, 2048]⟩
abbrev S2048x3904 : Shape := ⟨2, ![2048, 3904]⟩
abbrev S2x8192x3904 : Shape := ⟨3, ![2, 8192, 3904]⟩
abbrev S2x8192x3072 : Shape := ⟨3, ![2, 8192, 3072]⟩
abbrev S16384x3072 : Shape := ⟨2, ![16384, 3072]⟩

abbrev nBuf : Space → Nat
  | .hbm => 5
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x3904, .f32⟩
  | .hbm, ⟨2, _⟩ => ⟨S2x8192x3904, .f32⟩
  | .hbm, ⟨3, _⟩ => ⟨S2x8192x3072, .f32⟩
  | .hbm, ⟨4, _⟩ => ⟨S16384x3072, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Out.lean ====
abbrev S2x8192x1024 : Shape := ⟨3, ![2, 8192, 1024]⟩
abbrev S2048x2048 : Shape := ⟨2, ![2048, 2048]⟩
abbrev S16384x1024 : Shape := ⟨2, ![16384, 1024]⟩
abbrev S1024x2048 : Shape := ⟨2, ![1024, 2048]⟩
abbrev S16384x2048 : Shape := ⟨2, ![16384, 2048]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 9
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2048x2048, .f32⟩
  | .hbm, ⟨3, _⟩ => ⟨S16384x1024, .f32⟩
  | .hbm, ⟨4, _⟩ => ⟨S16384x1024, .f32⟩
  | .hbm, ⟨5, _⟩ => ⟨S2048x2048, .bf16⟩
  | .hbm, ⟨6, _⟩ => ⟨S1024x2048, .bf16⟩
  | .hbm, ⟨7, _⟩ => ⟨S1024x2048, .bf16⟩
  | .hbm, ⟨8, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S512x512, .f32⟩
  | .local _ .vmem, ⟨9, _⟩ => ⟨S512x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutReferenceIdeal.lean ====
abbrev S2x8192x1024 : Shape := ⟨3, ![2, 8192, 1024]⟩
abbrev S2048x2048 : Shape := ⟨2, ![2048, 2048]⟩
abbrev S2x8192x2048 : Shape := ⟨3, ![2, 8192, 2048]⟩
abbrev S16384x2048 : Shape := ⟨2, ![16384, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2048x2048, .f32⟩
  | .hbm, ⟨3, _⟩ => ⟨S2x8192x2048, .f32⟩
  | .hbm, ⟨4, _⟩ => ⟨S2x8192x2048, .f32⟩
  | .hbm, ⟨5, _⟩ => ⟨S16384x2048, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KeysValues.lean ====
abbrev S2x8448x256 : Shape := ⟨3, ![2, 8448, 256]⟩
abbrev S256 : Shape := ⟨1, ![256]⟩
abbrev S256x2048 : Shape := ⟨2, ![256, 2048]⟩
abbrev S_ : Shape := ⟨0, ![]⟩
abbrev S2x8448 : Shape := ⟨2, ![2, 8448]⟩
abbrev S2x8448x1 : Shape := ⟨3, ![2, 8448, 1]⟩
abbrev S1x1x256 : Shape := ⟨3, ![1, 1, 256]⟩
abbrev S16896x256 : Shape := ⟨2, ![16896, 256]⟩
abbrev S16896x2048 : Shape := ⟨2, ![16896, 2048]⟩
abbrev S512x256 : Shape := ⟨2, ![512, 256]⟩
abbrev S256x512 : Shape := ⟨2, ![256, 512]⟩
abbrev S512x512 : Shape := ⟨2, ![512, 512]⟩

abbrev nBuf : Space → Nat
  | .hbm => 25
  | .vmem => 6
  | .smem => 0
  | _ => 0

abbrev bufTy : (tb : Table) → Fin (tcTables nBuf tb) → BufTy
  | .hbm, ⟨0, _⟩ => ⟨S2x8448x256, .f32⟩
  | .hbm, ⟨1, _⟩ => ⟨S256, .f32⟩
  | .hbm, ⟨2, _⟩ => ⟨S256x2048, .f32⟩
  | .hbm, ⟨3, _⟩ => ⟨S2x8448x256, .f32⟩
  | .hbm, ⟨4, _⟩ => ⟨S_, .f32⟩
  | .hbm, ⟨5, _⟩ => ⟨S2x8448, .f32⟩
  | .hbm, ⟨6, _⟩ => ⟨S2x8448x1, .f32⟩
  | .hbm, ⟨7, _⟩ => ⟨S_, .f32⟩
  | .hbm, ⟨8, _⟩ => ⟨S2x8448x1, .f32⟩
  | .hbm, ⟨9, _⟩ => ⟨S2x8448x1, .f32⟩
  | .hbm, ⟨10, _⟩ => ⟨S_, .f32⟩
  | .hbm, ⟨11, _⟩ => ⟨S2x8448x1, .f32⟩
  | .hbm, ⟨12, _⟩ => ⟨S2x8448x1, .f32⟩
  | .hbm, ⟨13, _⟩ => ⟨S2x8448x1, .f32⟩
  | .hbm, ⟨14, _⟩ => ⟨S2x8448x256, .f32⟩
  | .hbm, ⟨15, _⟩ => ⟨S2x8448x256, .f32⟩
  | .hbm, ⟨16, _⟩ => ⟨S1x1x256, .f32⟩
  | .hbm, ⟨17, _⟩ => ⟨S2x8448x256, .f32⟩
  | .hbm, ⟨18, _⟩ => ⟨S2x8448x256, .f32⟩
  | .hbm, ⟨19, _⟩ => ⟨S16896x256, .f32⟩
  | .hbm, ⟨20, _⟩ => ⟨S256x2048, .bf16⟩
  | .hbm, ⟨21, _⟩ => ⟨S_, .i32⟩
  | .hbm, ⟨22, _⟩ => ⟨S_, .bf16⟩
  | .hbm, ⟨23, _⟩ => ⟨S256x2048, .bf16⟩
  | .hbm, ⟨24, _⟩ => ⟨S16896x2048, .f32⟩
  | .local _ .vmem, ⟨0, _⟩ => ⟨S512x256, .f32⟩
  | .local _ .vmem, ⟨1, _⟩ => ⟨S512x256, .f32⟩
  | .local _ .vmem, ⟨2, _⟩ => ⟨S256x512, .bf16⟩
  | .local _ .vmem, ⟨3, _⟩ => ⟨S256x512, .bf16⟩
  | .local _ .vmem, ⟨4, _⟩ => ⟨S512x512, .f32⟩
  | .local _ .vmem, ⟨5, _⟩ => ⟨S512x512, .f32⟩
  | _, _ => ⟨S2x8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![33, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KeysValuesReferenceIdeal.lean ====
abbrev S2x8448x256 : Shape := ⟨3, ![2, 8448, 256]⟩
abbrev S256 : Shape := ⟨1, ![256]⟩
abbrev S256x2048 : Shape := ⟨2, ![256, 2048]⟩
abbrev S_ : Shape := ⟨0, ![]⟩
abbrev S2x8448 : Shape := ⟨2, ![2, 8448]⟩
abbrev S2x8448x1 : Shape := ⟨3, ![2, 8448, 1]⟩
abbrev S1x1x256 : Shape := ⟨3, ![1, 1, 256]⟩
abbrev S2x8448x2048 : Shape := ⟨3, ![2, 8448, 2048]⟩
abbrev S16896x2048 : Shape := ⟨2, ![16896, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2x8448x256, .f32⟩
  | .hbm, ⟨1, _⟩ => ⟨S256, .f32⟩
  | .hbm, ⟨2, _⟩ => ⟨S256x2048, .f32⟩
  | .hbm, ⟨3, _⟩ => ⟨S2x8448x256, .f32⟩
  | .hbm, ⟨4, _⟩ => ⟨S_, .f32⟩
  | .hbm, ⟨5, _⟩ => ⟨S2x8448, .f32⟩
  | .hbm, ⟨6, _⟩ => ⟨S2x8448x1, .f32⟩
  | .hbm, ⟨7, _⟩ => ⟨S_, .f32⟩
  | .hbm, ⟨8, _⟩ => ⟨S2x8448x1, .f32⟩
  | .hbm, ⟨9, _⟩ => ⟨S2x8448x1, .f32⟩
  | .hbm, ⟨10, _⟩ => ⟨S_, .f32⟩
  | .hbm, ⟨11, _⟩ => ⟨S2x8448x1, .f32⟩
  | .hbm, ⟨12, _⟩ => ⟨S2x8448x1, .f32⟩
  | .hbm, ⟨13, _⟩ => ⟨S2x8448x1, .f32⟩
  | .hbm, ⟨14, _⟩ => ⟨S2x8448x256, .f32⟩
  | .hbm, ⟨15, _⟩ => ⟨S2x8448x256, .f32⟩
  | .hbm, ⟨16, _⟩ => ⟨S1x1x256, .f32⟩
  | .hbm, ⟨17, _⟩ => ⟨S2x8448x256, .f32⟩
  | .hbm, ⟨18, _⟩ => ⟨S2x8448x256, .f32⟩
  | .hbm, ⟨19, _⟩ => ⟨S2x8448x2048, .f32⟩
  | .hbm, ⟨20, _⟩ => ⟨S16896x2048, .f32⟩
  | _, _ => ⟨S2x8448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Norm.lean ====
abbrev S2x8192x2048 : Shape := ⟨3, ![2, 8192, 2048]⟩
abbrev S2x1x2048 : Shape := ⟨3, ![2, 1, 2048]⟩
abbrev S2048 : Shape := ⟨1, ![2048]⟩
abbrev S1x2048 : Shape := ⟨2, ![1, 2048]⟩
abbrev S1x256x2048 : Shape := ⟨3, ![1, 256, 2048]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 16
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S2x1x2048, .f32⟩
  | .hbm, ⟨3, _⟩ => ⟨S2048, .f32⟩
  | .hbm, ⟨4, _⟩ => ⟨S2048, .f32⟩
  | .hbm, ⟨5, _⟩ => ⟨S2x1x2048, .f32⟩
  | .hbm, ⟨6, _⟩ => ⟨S2x1x2048, .f32⟩
  | .hbm, ⟨7, _⟩ => ⟨S1x2048, .f32⟩
  | .hbm, ⟨8, _⟩ => ⟨S1x2048, .f32⟩
  | .hbm, ⟨9, _⟩ => ⟨S2x8192x2048, .f32⟩
  | .hbm, ⟨10, _⟩ => ⟨S2x8192x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== NormReferenceIdeal.lean ====
abbrev S2x8192x2048 : Shape := ⟨3, ![2, 8192, 2048]⟩
abbrev S2x1x2048 : Shape := ⟨3, ![2, 1, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S2x1x2048, .f32⟩
  | .hbm, ⟨3, _⟩ => ⟨S2048, .f32⟩
  | .hbm, ⟨4, _⟩ => ⟨S2048, .f32⟩
  | .hbm, ⟨5, _⟩ => ⟨S2x1x2048, .f32⟩
  | .hbm, ⟨6, _⟩ => ⟨S2x1x2048, .f32⟩
  | .hbm, ⟨7, _⟩ => ⟨S_, .f32⟩
  | .hbm, ⟨8, _⟩ => ⟨S2x8192x2048, .f32⟩
  | .hbm, ⟨9, _⟩ => ⟨S2x8192x2048, .f32⟩
  | .hbm, ⟨10, _⟩ => ⟨S2x8192x2048, .f32⟩
  | .hbm, ⟨11, _⟩ => ⟨S2x8192x2048, .f32⟩
  | .hbm, ⟨12, _⟩ => ⟨S2x8192x2048, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x2048, .f32⟩
  | .hbm, ⟨20, _⟩ => ⟨S2x8192x2048, .f32⟩
  | .hbm, ⟨21, _⟩ => ⟨S2x8192x2048, .f32⟩
  | .hbm, ⟨22, _⟩ => ⟨S_, .f32⟩
  | .hbm, ⟨23, _⟩ => ⟨S2x8192, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S_, .f32⟩
  | .hbm, ⟨29, _⟩ => ⟨S2x8192x1, .f32⟩
  | .hbm, ⟨30, _⟩ => ⟨S2x8192x1, .f32⟩
  | .hbm, ⟨31, _⟩ => ⟨S2x8192x1, .f32⟩
  | .hbm, ⟨32, _⟩ => ⟨S2x8192x2048, .f32⟩
  | .hbm, ⟨33, _⟩ => ⟨S2x8192x2048, .f32⟩
  | .hbm, ⟨34, _⟩ => ⟨S1x1x2048, .f32⟩
  | .hbm, ⟨35, _⟩ => ⟨S2x8192x2048, .f32⟩
  | .hbm, ⟨36, _⟩ => ⟨S2x8192x2048, .f32⟩
  | .hbm, ⟨37, _⟩ => ⟨S1x1x2048, .f32⟩
  | .hbm, ⟨38, _⟩ => ⟨S2x8192x2048, .f32⟩
  | .hbm, ⟨39, _⟩ => ⟨S2x8192x2048, .f32⟩
  | .hbm, ⟨40, _⟩ => ⟨S_, .f32⟩
  | .hbm, ⟨41, _⟩ => ⟨S2x1x2048, .f32⟩
  | .hbm, ⟨42, _⟩ => ⟨S2x1x2048, .f32⟩
  | .hbm, ⟨43, _⟩ => ⟨S2x8192x2048, .f32⟩
  | .hbm, ⟨44, _⟩ => ⟨S2x8192x2048, .f32⟩
  | .hbm, ⟨45, _⟩ => ⟨S2x8192x2048, .f32⟩
  | .hbm, ⟨46, _⟩ => ⟨S2x8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== AttIn.lean ====
abbrev S2x8192x2048 : Shape := ⟨3, ![2, 8192, 2048]⟩
abbrev S2048x3904 : Shape := ⟨2, ![2048, 3904]⟩
abbrev S2048x832 : Shape := ⟨2, ![2048, 832]⟩
abbrev S_ : Shape := ⟨0, ![]⟩
abbrev S2048x1024 : Shape := ⟨2, ![2048, 1024]⟩
abbrev S16384x2048 : Shape := ⟨2, ![16384, 2048]⟩
abbrev S16384x1024 : Shape := ⟨2, ![16384, 1024]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 9
  | .vmem => 6
  | .smem => 0
  | _ => 0

abbrev bufTy : (tb : Table) → Fin (tcTables nBuf tb) → BufTy
  | .hbm, ⟨0, _⟩ => ⟨S2x8192x2048, .f32⟩
  | .hbm, ⟨1, _⟩ => ⟨S2048x3904, .f32⟩
  | .hbm, ⟨2, _⟩ => ⟨S2048x832, .f32⟩
  | .hbm, ⟨3, _⟩ => ⟨S2048x832, .bf16⟩
  | .hbm, ⟨4, _⟩ => ⟨S_, .i32⟩
  | .hbm, ⟨5, _⟩ => ⟨S_, .bf16⟩
  | .hbm, ⟨6, _⟩ => ⟨S2048x1024, .bf16⟩
  | .hbm, ⟨7, _⟩ => ⟨S16384x2048, .f32⟩
  | .hbm, ⟨8, _⟩ => ⟨S16384x1024, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttInReferenceIdeal.lean ====
abbrev S2x8192x2048 : Shape := ⟨3, ![2, 8192, 2048]⟩
abbrev S2048x3904 : Shape := ⟨2, ![2048, 3904]⟩
abbrev S2x8192x3904 : Shape := ⟨3, ![2, 8192, 3904]⟩
abbrev S2x8192x832 : Shape := ⟨3, ![2, 8192, 832]⟩
abbrev S16384x832 : Shape := ⟨2, ![16384, 832]⟩
abbrev S_ : Shape := ⟨0, ![]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x3904, .f32⟩
  | .hbm, ⟨2, _⟩ => ⟨S2x8192x3904, .f32⟩
  | .hbm, ⟨3, _⟩ => ⟨S2x8192x832, .f32⟩
  | .hbm, ⟨4, _⟩ => ⟨S16384x832, .f32⟩
  | .hbm, ⟨5, _⟩ => ⟨S_, .i32⟩
  | .hbm, ⟨6, _⟩ => ⟨S_, .f32⟩
  | .hbm, ⟨7, _⟩ => ⟨S16384x1024, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Queries.lean ====
abbrev S2x8192x512 : Shape := ⟨3, ![2, 8192, 512]⟩
abbrev S512 : Shape := ⟨1, ![512]⟩
abbrev S512x1536 : Shape := ⟨2, ![512, 1536]⟩
abbrev S_ : Shape := ⟨0, ![]⟩
abbrev S2x8192 : Shape := ⟨2, ![2, 8192]⟩
abbrev S2x8192x1 : Shape := ⟨3, ![2, 8192, 1]⟩
abbrev S1x1x512 : Shape := ⟨3, ![1, 1, 512]⟩
abbrev S16384x512 : Shape := ⟨2, ![16384, 512]⟩
abbrev S512x8x192 : Shape := ⟨3, ![512, 8, 192]⟩
abbrev S512x8x64 : Shape := ⟨3, ![512, 8, 64]⟩
abbrev S512x8x128 : Shape := ⟨3, ![512, 8, 128]⟩
abbrev S512x1024 : Shape := ⟨2, ![512, 1024]⟩
abbrev S512x2048 : Shape := ⟨2, ![512, 2048]⟩
abbrev S16384x2048 : Shape := ⟨2, ![16384, 2048]⟩
abbrev S512x512 : Shape := ⟨2, ![512, 512]⟩

abbrev nBuf : Space → Nat
  | .hbm => 37
  | .vmem => 6
  | .smem => 0
  | _ => 0

abbrev bufTy : (tb : Table) → Fin (tcTables nBuf tb) → BufTy
  | .hbm, ⟨0, _⟩ => ⟨S2x8192x512, .f32⟩
  | .hbm, ⟨1, _⟩ => ⟨S512, .f32⟩
  | .hbm, ⟨2, _⟩ => ⟨S512x1536, .f32⟩
  | .hbm, ⟨3, _⟩ => ⟨S2x8192x512, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x512, .f32⟩
  | .hbm, ⟨15, _⟩ => ⟨S2x8192x512, .f32⟩
  | .hbm, ⟨16, _⟩ => ⟨S1x1x512, .f32⟩
  | .hbm, ⟨17, _⟩ => ⟨S2x8192x512, .f32⟩
  | .hbm, ⟨18, _⟩ => ⟨S2x8192x512, .f32⟩
  | .hbm, ⟨19, _⟩ => ⟨S16384x512, .f32⟩
  | .hbm, ⟨20, _⟩ => ⟨S512x8x192, .f32⟩
  | .hbm, ⟨21, _⟩ => ⟨S_, .f32⟩
  | .hbm, ⟨22, _⟩ => ⟨S512x8x192, .f32⟩
  | .hbm, ⟨23, _⟩ => ⟨S512x8x192, .f32⟩
  | .hbm, ⟨24, _⟩ => ⟨S512x8x64, .f32⟩
  | .hbm, ⟨25, _⟩ => ⟨S_, .i32⟩
  | .hbm, ⟨26, _⟩ => ⟨S_, .f32⟩
  | .hbm, ⟨27, _⟩ => ⟨S512x8x128, .f32⟩
  | .hbm, ⟨28, _⟩ => ⟨S512x8x128, .f32⟩
  | .hbm, ⟨29, _⟩ => ⟨S512x1024, .f32⟩
  | .hbm, ⟨30, _⟩ => ⟨S512x1024, .f32⟩
  | .hbm, ⟨31, _⟩ => ⟨S512x2048, .f32⟩
  | .hbm, ⟨32, _⟩ => ⟨S512x2048, .bf16⟩
  | .hbm, ⟨33, _⟩ => ⟨S_, .i32⟩
  | .hbm, ⟨34, _⟩ => ⟨S_, .bf16⟩
  | .hbm, ⟨35, _⟩ => ⟨S512x2048, .bf16⟩
  | .hbm, ⟨36, _⟩ => ⟨S16384x2048, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_call1_v0 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QueriesReferenceIdeal.lean ====
abbrev S2x8192x512 : Shape := ⟨3, ![2, 8192, 512]⟩
abbrev S512 : Shape := ⟨1, ![512]⟩
abbrev S512x1536 : Shape := ⟨2, ![512, 1536]⟩
abbrev S_ : Shape := ⟨0, ![]⟩
abbrev S2x8192 : Shape := ⟨2, ![2, 8192]⟩
abbrev S2x8192x1 : Shape := ⟨3, ![2, 8192, 1]⟩
abbrev S1x1x512 : Shape := ⟨3, ![1, 1, 512]⟩
abbrev S2x8192x1536 : Shape := ⟨3, ![2, 8192, 1536]⟩
abbrev S16384x8x192 : Shape := ⟨3, ![16384, 8, 192]⟩
abbrev S16384x8x128 : Shape := ⟨3, ![16384, 8, 128]⟩
abbrev S16384x8x64 : Shape := ⟨3, ![16384, 8, 64]⟩
abbrev S16384x1024 : Shape := ⟨2, ![16384, 1024]⟩
abbrev S16384x2048 : Shape := ⟨2, ![16384, 2048]⟩

abbrev nBuf : Space → Nat
  | .hbm => 32
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S512, .f32⟩
  | .hbm, ⟨2, _⟩ => ⟨S512x1536, .f32⟩
  | .hbm, ⟨3, _⟩ => ⟨S2x8192x512, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x512, .f32⟩
  | .hbm, ⟨15, _⟩ => ⟨S2x8192x512, .f32⟩
  | .hbm, ⟨16, _⟩ => ⟨S1x1x512, .f32⟩
  | .hbm, ⟨17, _⟩ => ⟨S2x8192x512, .f32⟩
  | .hbm, ⟨18, _⟩ => ⟨S2x8192x512, .f32⟩
  | .hbm, ⟨19, _⟩ => ⟨S2x8192x1536, .f32⟩
  | .hbm, ⟨20, _⟩ => ⟨S16384x8x192, .f32⟩
  | .hbm, ⟨21, _⟩ => ⟨S_, .f32⟩
  | .hbm, ⟨22, _⟩ => ⟨S16384x8x192, .f32⟩
  | .hbm, ⟨23, _⟩ => ⟨S16384x8x192, .f32⟩
  | .hbm, ⟨24, _⟩ => ⟨S16384x8x128, .f32⟩
  | .hbm, ⟨25, _⟩ => ⟨S16384x8x64, .f32⟩
  | .hbm, ⟨26, _⟩ => ⟨S_, .f32⟩
  | .hbm, ⟨27, _⟩ => ⟨S16384x8x64, .f32⟩
  | .hbm, ⟨28, _⟩ => ⟨S16384x8x128, .f32⟩
  | .hbm, ⟨29, _⟩ => ⟨S16384x1024, .f32⟩
  | .hbm, ⟨30, _⟩ => ⟨S16384x1024, .f32⟩
  | .hbm, ⟨31, _⟩ => ⟨S16384x2048, .f32⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== NormMid.lean ====
abbrev S2x8192x2048 : Shape := ⟨3, ![2, 8192, 2048]⟩
abbrev S2x1x2048 : Shape := ⟨3, ![2, 1, 2048]⟩
abbrev S2048 : Shape := ⟨1, ![2048]⟩
abbrev S1x2048 : Shape := ⟨2, ![1, 2048]⟩
abbrev S2048x16384 : Shape := ⟨2, ![2048, 16384]⟩
abbrev S1x256x2048 : Shape := ⟨3, ![1, 256, 2048]⟩
abbrev S1x1x2048 : Shape := ⟨3, ![1, 1, 2048]⟩
abbrev S2048x256 : Shape := ⟨2, ![2048, 256]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 18
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S2x1x2048, .f32⟩
  | .hbm, ⟨3, _⟩ => ⟨S2048, .f32⟩
  | .hbm, ⟨4, _⟩ => ⟨S2048, .f32⟩
  | .hbm, ⟨5, _⟩ => ⟨S2x1x2048, .f32⟩
  | .hbm, ⟨6, _⟩ => ⟨S2x1x2048, .f32⟩
  | .hbm, ⟨7, _⟩ => ⟨S1x2048, .f32⟩
  | .hbm, ⟨8, _⟩ => ⟨S1x2048, .f32⟩
  | .hbm, ⟨9, _⟩ => ⟨S2x8192x2048, .f32⟩
  | .hbm, ⟨10, _⟩ => ⟨S2x8192x2048, .f32⟩
  | .hbm, ⟨11, _⟩ => ⟨S2048x16384, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S2048x256, .bf16⟩
  | .local _ .vmem, ⟨17, _⟩ => ⟨S2048x256, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== NormMidReferenceIdeal.lean ====
abbrev S2x8192x2048 : Shape := ⟨3, ![2, 8192, 2048]⟩
abbrev S2x1x2048 : Shape := ⟨3, ![2, 1, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩
abbrev S2048x16384 : Shape := ⟨2, ![2048, 16384]⟩

abbrev nBuf : Space → Nat
  | .hbm => 50
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192x2048, .f32⟩
  | .hbm, ⟨2, _⟩ => ⟨S2x1x2048, .f32⟩
  | .hbm, ⟨3, _⟩ => ⟨S2048, .f32⟩
  | .hbm, ⟨4, _⟩ => ⟨S2048, .f32⟩
  | .hbm, ⟨5, _⟩ => ⟨S2x1x2048, .f32⟩
  | .hbm, ⟨6, _⟩ => ⟨S2x1x2048, .f32⟩
  | .hbm, ⟨7, _⟩ => ⟨S_, .f32⟩
  | .hbm, ⟨8, _⟩ => ⟨S2x8192x2048, .f32⟩
  | .hbm, ⟨9, _⟩ => ⟨S2x8192x2048, .f32⟩
  | .hbm, ⟨10, _⟩ => ⟨S2x8192x2048, .f32⟩
  | .hbm, ⟨11, _⟩ => ⟨S2x8192x2048, .f32⟩
  | .hbm, ⟨12, _⟩ => ⟨S2x8192x2048, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x2048, .f32⟩
  | .hbm, ⟨20, _⟩ => ⟨S2x8192x2048, .f32⟩
  | .hbm, ⟨21, _⟩ => ⟨S2x8192x2048, .f32⟩
  | .hbm, ⟨22, _⟩ => ⟨S_, .f32⟩
  | .hbm, ⟨23, _⟩ => ⟨S2x8192, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S_, .f32⟩
  | .hbm, ⟨29, _⟩ => ⟨S2x8192x1, .f32⟩
  | .hbm, ⟨30, _⟩ => ⟨S2x8192x1, .f32⟩
  | .hbm, ⟨31, _⟩ => ⟨S2x8192x1, .f32⟩
  | .hbm, ⟨32, _⟩ => ⟨S2x8192x2048, .f32⟩
  | .hbm, ⟨33, _⟩ => ⟨S2x8192x2048, .f32⟩
  | .hbm, ⟨34, _⟩ => ⟨S1x1x2048, .f32⟩
  | .hbm, ⟨35, _⟩ => ⟨S2x8192x2048, .f32⟩
  | .hbm, ⟨36, _⟩ => ⟨S2x8192x2048, .f32⟩
  | .hbm, ⟨37, _⟩ => ⟨S1x1x2048, .f32⟩
  | .hbm, ⟨38, _⟩ => ⟨S2x8192x2048, .f32⟩
  | .hbm, ⟨39, _⟩ => ⟨S2x8192x2048, .f32⟩
  | .hbm, ⟨40, _⟩ => ⟨S_, .f32⟩
  | .hbm, ⟨41, _⟩ => ⟨S2x1x2048, .f32⟩
  | .hbm, ⟨42, _⟩ => ⟨S2x1x2048, .f32⟩
  | .hbm, ⟨43, _⟩ => ⟨S2x8192x2048, .f32⟩
  | .hbm, ⟨44, _⟩ => ⟨S2x8192x2048, .f32⟩
  | .hbm, ⟨45, _⟩ => ⟨S2x8192x2048, .f32⟩
  | .hbm, ⟨46, _⟩ => ⟨S2x8192x2048, .f32⟩
  | .hbm, ⟨47, _⟩ => ⟨S16384x2048, .f32⟩
  | .hbm, ⟨48, _⟩ => ⟨S2048x16384, .f32⟩
  | .hbm, ⟨49, _⟩ => ⟨S2048x16384, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Carry.lean ====
abbrev S1056x128x128 : Shape := ⟨3, ![1056, 128, 128]⟩
abbrev S2x128x64 : Shape := ⟨3, ![2, 128, 64]⟩
abbrev S2x128x128 : Shape := ⟨3, ![2, 128, 128]⟩
abbrev S8x128x128 : Shape := ⟨3, ![8, 128, 128]⟩
abbrev S128x128 : Shape := ⟨2, ![128, 128]⟩
abbrev S1x128x128 : Shape := ⟨3, ![1, 128, 128]⟩

abbrev nBuf : Space → Nat
  | .hbm => 9
  | .vmem => 12
  | .smem => 0
  | _ => 0

abbrev bufTy : (tb : Table) → Fin (tcTables nBuf tb) → BufTy
  | .hbm, ⟨0, _⟩ => ⟨S1056x128x128, .f32⟩
  | .hbm, ⟨1, _⟩ => ⟨S1056x128x128, .f32⟩
  | .hbm, ⟨2, _⟩ => ⟨S2x128x64, .f32⟩
  | .hbm, ⟨3, _⟩ => ⟨S2x128x64, .f32⟩
  | .hbm, ⟨4, _⟩ => ⟨S2x128x128, .f32⟩
  | .hbm, ⟨5, _⟩ => ⟨S2x128x64, .f32⟩
  | .hbm, ⟨6, _⟩ => ⟨S2x128x128, .f32⟩
  | .hbm, ⟨7, _⟩ => ⟨S1056x128x128, .f32⟩
  | .hbm, ⟨8, _⟩ => ⟨S1056x128x128, .f32⟩
  | .local _ .vmem, ⟨0, _⟩ => ⟨S8x128x128, .f32⟩
  | .local _ .vmem, ⟨1, _⟩ => ⟨S8x128x128, .f32⟩
  | .local _ .vmem, ⟨2, _⟩ => ⟨S8x128x128, .f32⟩
  | .local _ .vmem, ⟨3, _⟩ => ⟨S8x128x128, .f32⟩
  | .local _ .vmem, ⟨4, _⟩ => ⟨S2x128x128, .f32⟩
  | .local _ .vmem, ⟨5, _⟩ => ⟨S2x128x128, .f32⟩
  | .local _ .vmem, ⟨6, _⟩ => ⟨S8x128x128, .f32⟩
  | .local _ .vmem, ⟨7, _⟩ => ⟨S8x128x128, .f32⟩
  | .local _ .vmem, ⟨8, _⟩ => ⟨S8x128x128, .f32⟩
  | .local _ .vmem, ⟨9, _⟩ => ⟨S8x128x128, .f32⟩
  | .local _ .vmem, ⟨10, _⟩ => ⟨S128x128, .f32⟩
  | .local _ .vmem, ⟨11, _⟩ => ⟨S128x128, .f32⟩
  | _, _ => ⟨S1056x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 66], ![false, false]⟩

def cc0_transform_0 (i : grid0.Coords) : Fin 3 → Nat :=
  let arg0 : BitVec 32 := BitVec.ofNat 32 (i 0).val
  let arg1 : BitVec 32 := BitVec.ofNat 32 (i 1).val
  let c66_i32 : BitVec 32 := 66#32
  let v0 : BitVec 32 := Scalar.muli arg0 c66_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c66_i32 : BitVec 32 := 66#32
  let v0 : BitVec 32 := Scalar.muli arg0 c66_i32
  let c2_i32 : BitVec 32 := 2#32
  let v1 : BitVec 1 := Scalar.cmpi .slt arg1 c2_i32
  let c1_i32 : BitVec 32 := 1#32
  let v2 : BitVec 32 := Scalar.subi c1_i32 arg1
  let c67_i32 : BitVec 32 := 67#32
  let v3 : BitVec 32 := Scalar.subi c67_i32 arg1
  let v4 : BitVec 32 := Scalar.select v1 v2 v3
  let v5 : BitVec 32 := Scalar.addi v0 v4
  let c0_i32 : BitVec 32 := 0#32
  let c0_i32_0 : BitVec 32 := 0#32
  let c0_i32_1 : BitVec 32 := 0#32
  ![v5.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c66_i32 : BitVec 32 := 66#32
  let v0 : BitVec 32 := Scalar.muli arg0 c66_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c66_i32 : BitVec 32 := 66#32
  let v0 : BitVec 32 := Scalar.muli arg0 c66_i32
  let c2_i32 : BitVec 32 := 2#32
  let v1 : BitVec 1 := Scalar.cmpi .slt arg1 c2_i32
  let c1_i32 : BitVec 32 := 1#32
  let v2 : BitVec 32 := Scalar.subi c1_i32 arg1
  let c67_i32 : BitVec 32 := 67#32
  let v3 : BitVec 32 := Scalar.subi c67_i32 arg1
  let v4 : BitVec 32 := Scalar.select v1 v2 v3
  let v5 : BitVec 32 := Scalar.addi v0 v4
  let c0_i32 : BitVec 32 := 0#32
  let c0_i32_0 : BitVec 32 := 0#32
  let c0_i32_1 : BitVec 32 := 0#32
  ![v5.toNat, c0_i32.toNat, c0_i32_0.toNat]

abbrev stage0_0 : Fin 2 → Memref sig .tc .vmem S8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CarryReferenceIdeal.lean ====
abbrev S1056x128x128 : Shape := ⟨3, ![1056, 128, 128]⟩
abbrev S2x128x64 : Shape := ⟨3, ![2, 128, 64]⟩
abbrev S2x528x128x128 : Shape := ⟨4, ![2, 528, 128, 128]⟩
abbrev S2x16x128x128 : Shape := ⟨4, ![2, 16, 128, 128]⟩
abbrev S2x512x128x128 : Shape := ⟨4, ![2, 512, 128, 128]⟩
abbrev S2x528x1x128x128 : Shape := ⟨5, ![2, 528, 1, 128, 128]⟩
abbrev S2x528x2x128x128 : Shape := ⟨5, ![2, 528, 2, 128, 128]⟩
abbrev S_ : Shape := ⟨0, ![]⟩
abbrev S2x2x128x64 : Shape := ⟨4, ![2, 2, 128, 64]⟩
abbrev S528x2x2x128x128 : Shape := ⟨5, ![528, 2, 2, 128, 128]⟩
abbrev S1x2x2x128x128 : Shape := ⟨5, ![1, 2, 2, 128, 128]⟩
abbrev S2x2x128x128 : Shape := ⟨4, ![2, 2, 128, 128]⟩
abbrev S1x2x128x64 : Shape := ⟨4, ![1, 2, 128, 64]⟩

abbrev nBuf : Space → Nat
  | .hbm => 74
  | .vmem => 0
  | .smem => 0
  | _ => 0

abbrev bufTy : (tb : Table) → Fin (tcTables nBuf tb) → BufTy
  | .hbm, ⟨0, _⟩ => ⟨S1056x128x128, .f32⟩
  | .hbm, ⟨1, _⟩ => ⟨S1056x128x128, .f32⟩
  | .hbm, ⟨2, _⟩ => ⟨S2x128x64, .f32⟩
  | .hbm, ⟨3, _⟩ => ⟨S2x128x64, .f32⟩
  | .hbm, ⟨4, _⟩ => ⟨S2x528x128x128, .f32⟩
  | .hbm, ⟨5, _⟩ => ⟨S2x528x128x128, .f32⟩
  | .hbm, ⟨6, _⟩ => ⟨S2x16x128x128, .f32⟩
  | .hbm, ⟨7, _⟩ => ⟨S2x16x128x128, .f32⟩
  | .hbm, ⟨8, _⟩ => ⟨S2x512x128x128, .f32⟩
  | .hbm, ⟨9, _⟩ => ⟨S2x512x128x128, .f32⟩
  | .hbm, ⟨10, _⟩ => ⟨S2x528x128x128, .f32⟩
  | .hbm, ⟨11, _⟩ => ⟨S2x528x1x128x128, .f32⟩
  | .hbm, ⟨12, _⟩ => ⟨S2x528x1x128x128, .f32⟩
  | .hbm, ⟨13, _⟩ => ⟨S2x528x2x128x128, .f32⟩
  | .hbm, ⟨14, _⟩ => ⟨S_, .f32⟩
  | .hbm, ⟨15, _⟩ => ⟨S2x2x128x64, .f32⟩
  | .hbm, ⟨16, _⟩ => ⟨S528x2x2x128x128, .f32⟩
  | .hbm, ⟨17, _⟩ => ⟨S_, .f32⟩
  | .hbm, ⟨18, _⟩ => ⟨S528x2x2x128x128, .f32⟩
  | .hbm, ⟨19, _⟩ => ⟨S_, .i32⟩
  | .hbm, ⟨20, _⟩ => ⟨S528x2x2x128x128, .f32⟩
  | .hbm, ⟨21, _⟩ => ⟨S2x128x64, .f32⟩
  | .hbm, ⟨22, _⟩ => ⟨S2x128x64, .f32⟩
  | .hbm, ⟨23, _⟩ => ⟨S_, .i32⟩
  | .hbm, ⟨24, _⟩ => ⟨S2x2x128x64, .f32⟩
  | .hbm, ⟨25, _⟩ => ⟨S2x2x128x64, .f32⟩
  | .hbm, ⟨26, _⟩ => ⟨S528x2x2x128x128, .f32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1x2x2x128x128, .f32⟩
  | .hbm, ⟨34, _⟩ => ⟨S2x2x128x128, .f32⟩
  | .hbm, ⟨35, _⟩ => ⟨S1x2x128x64, .f32⟩
  | .hbm, ⟨36, _⟩ => ⟨S2x2x128x64, .f32⟩
  | .hbm, ⟨37, _⟩ => ⟨S2x2x128x64, .f32⟩
  | .hbm, ⟨38, _⟩ => ⟨S1x2x128x64, .f32⟩
  | .hbm, ⟨39, _⟩ => ⟨S2x2x128x64, .f32⟩
  | .hbm, ⟨40, _⟩ => ⟨S2x2x128x64, .f32⟩
  | .hbm, ⟨41, _⟩ => ⟨S2x2x128x64, .f32⟩
  | .hbm, ⟨42, _⟩ => ⟨S2x2x128x64, .f32⟩
  | .hbm, ⟨43, _⟩ => ⟨S2x2x128x64, .f32⟩
  | .hbm, ⟨44, _⟩ => ⟨S1x2x128x64, .f32⟩
  | .hbm, ⟨45, _⟩ => ⟨S2x2x128x64, .f32⟩
  | .hbm, ⟨46, _⟩ => ⟨S2x2x128x64, .f32⟩
  | .hbm, ⟨47, _⟩ => ⟨S1x2x128x64, .f32⟩
  | .hbm, ⟨48, _⟩ => ⟨S2x2x128x64, .f32⟩
  | .hbm, ⟨49, _⟩ => ⟨S2x2x128x64, .f32⟩
  | .hbm, ⟨50, _⟩ => ⟨S2x2x128x64, .f32⟩
  | .hbm, ⟨51, _⟩ => ⟨S2x2x128x64, .f32⟩
  | .hbm, ⟨52, _⟩ => ⟨S2x2x128x64, .f32⟩
  | .hbm, ⟨53, _⟩ => ⟨S2x2x128x128, .f32⟩
  | .hbm, ⟨54, _⟩ => ⟨S1x2x2x128x128, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S528x2x2x128x128, .f32⟩
  | .hbm, ⟨60, _⟩ => ⟨S_, .i32⟩
  | .hbm, ⟨61, _⟩ => ⟨S_, .i32⟩
  | .hbm, ⟨62, _⟩ => ⟨S2x528x2x128x128, .f32⟩
  | .hbm, ⟨63, _⟩ => ⟨S2x528x1x128x128, .f32⟩
  | .hbm, ⟨64, _⟩ => ⟨S2x528x128x128, .f32⟩
  | .hbm, ⟨65, _⟩ => ⟨S1056x128x128, .f32⟩
  | .hbm, ⟨66, _⟩ => ⟨S2x528x1x128x128, .f32⟩
  | .hbm, ⟨67, _⟩ => ⟨S2x528x128x128, .f32⟩
  | .hbm, ⟨68, _⟩ => ⟨S2x16x128x128, .f32⟩
  | .hbm, ⟨69, _⟩ => ⟨S2x16x128x128, .f32⟩
  | .hbm, ⟨70, _⟩ => ⟨S2x512x128x128, .f32⟩
  | .hbm, ⟨71, _⟩ => ⟨S2x512x128x128, .f32⟩
  | .hbm, ⟨72, _⟩ => ⟨S2x528x128x128, .f32⟩
  | .hbm, ⟨73, _⟩ => ⟨S1056x128x128, .f32⟩
  | _, _ => ⟨S1056x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_c : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev main_v13_4 : Ref sig .tc := ⟨.hbm, 24, rfl⟩
abbrev main_v13_5 : Ref sig .tc := ⟨.hbm, 25, rfl⟩
abbrev main_v13_6 : Ref sig .tc := ⟨.hbm, 26, rfl⟩
abbrev main_while0c_c_7 : Ref sig .tc := ⟨.hbm, 27, rfl⟩
abbrev main_while0c_v26 : Ref sig .tc := ⟨.hbm, 28, rfl⟩
abbrev main_while0b_call0_c : Ref sig .tc := ⟨.hbm, 29, rfl⟩
abbrev main_while0b_call0_c_0 : Ref sig .tc := ⟨.hbm, 30, rfl⟩
abbrev main_while0b_call0_c_1 : Ref sig .tc := ⟨.hbm, 31, rfl⟩
abbrev main_while0b_call0_c_2 : Ref sig .tc := ⟨.hbm, 32, rfl⟩
abbrev main_while0b_call0_v0 : Ref sig .tc := ⟨.hbm, 33, rfl⟩
abbrev main_while0b_v26 : Ref sig .tc := ⟨.hbm, 34, rfl⟩
abbrev main_while0b_v27 : Ref sig .tc := ⟨.hbm, 35, rfl⟩
abbrev main_while0b_v28 : Ref sig .tc := ⟨.hbm, 36, rfl⟩
abbrev main_while0b_v29 : Ref sig .tc := ⟨.hbm, 37, rfl⟩
abbrev main_while0b_v30 : Ref sig .tc := ⟨.hbm, 38, rfl⟩
abbrev main_while0b_v31 : Ref sig .tc := ⟨.hbm, 39, rfl⟩
abbrev main_while0b_v32 : Ref sig .tc := ⟨.hbm, 40, rfl⟩
abbrev main_while0b_v33 : Ref sig .tc := ⟨.hbm, 41, rfl⟩
abbrev main_while0b_v34 : Ref sig .tc := ⟨.hbm, 42, rfl⟩
abbrev main_while0b_v35 : Ref sig .tc := ⟨.hbm, 43, rfl⟩
abbrev main_while0b_v36 : Ref sig .tc := ⟨.hbm, 44, rfl⟩
abbrev main_while0b_v37 : Ref sig .tc := ⟨.hbm, 45, rfl⟩
abbrev main_while0b_v38 : Ref sig .tc := ⟨.hbm, 46, rfl⟩
abbrev main_while0b_v39 : Ref sig .tc := ⟨.hbm, 47, rfl⟩
abbrev main_while0b_v40 : Ref sig .tc := ⟨.hbm, 48, rfl⟩
abbrev main_while0b_v41 : Ref sig .tc := ⟨.hbm, 49, rfl⟩
abbrev main_while0b_v42 : Ref sig .tc := ⟨.hbm, 50, rfl⟩
abbrev main_while0b_v43 : Ref sig .tc := ⟨.hbm, 51, rfl⟩
abbrev main_while0b_v44 : Ref sig .tc := ⟨.hbm, 52, rfl⟩
abbrev main_while0b_v45 : Ref sig .tc := ⟨.hbm, 53, rfl⟩
abbrev main_while0b_call1_v0 : Ref sig .tc := ⟨.hbm, 54, rfl⟩
abbrev main_while0b_call1_c : Ref sig .tc := ⟨.hbm, 55, rfl⟩
abbrev main_while0b_call1_c_0 : Ref sig .tc := ⟨.hbm, 56, rfl⟩
abbrev main_while0b_call1_c_1 : Ref sig .tc := ⟨.hbm, 57, rfl⟩
abbrev main_while0b_call1_c_2 : Ref sig .tc := ⟨.hbm, 58, rfl⟩
abbrev main_while0b_v46 : Ref sig .tc := ⟨.hbm, 59, rfl⟩
abbrev main_while0b_c_7 : Ref sig .tc := ⟨.hbm, 60, rfl⟩
abbrev main_while0b_v47 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩

abbrev nD : Nat := 1
abbrev τ : Topo := Topo.v7x

variable {F : FTy → Type} [FloatOps F]

abbrev main_while0_count : Scf.Loop 32 := ⟨0#32, 528#32, 1#32⟩
-- ==== Proof.Host.lean ====
/-
  The arrays the kernel is launched on, read at an element: the host code splits the keys from the values, turns the
  rotary keys, scales the queries and lays them out by head, and pads the rotary lanes from 64 to 128 with zeros.
-/
module

public import proofs.«01_k».proof.Proof.Gen.KernelIdeal.Value
public import Idealize.ShloMosaic.Lib.Claim
public import Idealize.ShloMosaic.Lib.Pointwise
public import Idealize.ShloMosaic.Lib.StableHlo.ReadAt
public import Idealize.ShloMosaic.Lib.ValueIdxRank6

@[expose] public section

set_option maxRecDepth 16384

noncomputable section

namespace Cert.Proof.Host

open Idealize.ShloMosaic Idealize.ShloMosaic.TcCoe Cert.KernelIdeal Cert.KernelIdeal.Gen

variable (m : (ℓ : Loc nD τ sig) → Buf (Elt Ideal) ℓ) (c : Dev nD)

/-- The queries as launched. -/
abbrev argQ : FVec Ideal S2x8192x8x192 .f32 := m ((c : Thread nD τ).loc main_arg0)
/-- The keys and values as launched. -/
abbrev argKV : FVec Ideal S2x8448x8x256 .f32 := m ((c : Thread nD τ).loc main_arg1)
/-- The rotary keys of the context as launched. -/
abbrev argCK : FVec Ideal S2x256x64 .f32 := m ((c : Thread nD τ).loc main_arg2)
/-- The rotary keys of the latents as launched. -/
abbrev argLK : FVec Ideal S2x8192x64 .f32 := m ((c : Thread nD τ).loc main_arg3)
/-- The cosines as launched. -/
abbrev argCos : FVec Ideal S8192x64 .f32 := m ((c : Thread nD τ).loc main_arg4)
/-- The sines as launched. -/
abbrev argSin : FVec Ideal S8192x64 .f32 := m ((c : Thread nD τ).loc main_arg5)
/-- The scale of the scores. -/
abbrev scale : EReal := Ideal.ofBits .f32 0x3D93CD3A#32

/-- The word zero, as a number. -/
theorem zero_word (φ : FTy) : (FloatOps.sitofp φ 0#32 : Ideal φ) = (0 : EReal) := by
  show (((0#32 : BitVec 32).toInt : ℝ) : EReal) = 0
  simp

/-- The padded cosines. -/
theorem cos_at (i : Fin 8192) (x : Fin 128) :
    V m c main_v27 (ix2 i x) = (if h : x.val < 64 then argCos m c (ix2 i ⟨x.val, h⟩) else (0 : EReal) : EReal) := by
  unfold V
  after_reads_at
  rw [zero_word]

/-- The padded sines. -/
theorem sin_at (i : Fin 8192) (x : Fin 128) :
    V m c main_v28 (ix2 i x) = (if h : x.val < 64 then argSin m c (ix2 i ⟨x.val, h⟩) else (0 : EReal) : EReal) := by
  unfold V
  after_reads_at
  rw [zero_word]

/-- The keys, head by head and transposed. -/
theorem knt_at (b : Fin 2) (h : Fin 8) (x : Fin 128) (k : Fin 8448) :
    V m c main_v30 (ix4 b h x k) = argKV m c (ix4 b k h ⟨x.val, by omega⟩) := by
  unfold V
  after_reads_at

/-- The values, head by head. -/
theorem v_at (b : Fin 2) (h : Fin 8) (k : Fin 8448) (d : Fin 128) :
    V m c main_v35 (ix4 b h k d) = argKV m c (ix4 b k h ⟨128 + d.val, by omega⟩) := by
  unfold V
  after_reads_at

/-- The plain lanes of the scaled queries. -/
theorem q_plain_at (b : Fin 2) (i : Fin 8192) (h : Fin 8) (x : Fin 128) :
    V m c main_v26 (ix3 b i ⟨h.val * 128 + x.val, by omega⟩)
      = (argQ m c (ix4 b i h ⟨x.val, by omega⟩) * scale : EReal) := by
  unfold V
  after_reads_at
  rw [dif_pos (by omega)]
  after_reads_at
  simp only [show (b.val * 8192 + i.val) / 8192 = b.val by omega, show (b.val * 8192 + i.val) % 8192 = i.val by omega,
    show (h.val * 192 + x.val) / 192 = h.val by omega, show (h.val * 192 + x.val) % 192 = x.val by omega, Fin.eta]

/-- The rotary lanes of the scaled queries, padded. -/
theorem q_rope_at (b : Fin 2) (i : Fin 8192) (h : Fin 8) (x : Fin 128) :
    V m c main_v26 (ix3 b i ⟨1024 + (h.val * 128 + x.val), by omega⟩)
      = (if hx : x.val < 64 then argQ m c (ix4 b i h ⟨128 + x.val, by omega⟩) * scale else (0 : EReal) : EReal) := by
  unfold V
  after_reads_at
  after_reads_at
  have h₀ : b.val * 8192 + i.val < 16384 := by omega
  by_cases hx : x.val < 64
  · simp only [h₀, hx, and_self, ↓reduceDIte, show (b.val * 8192 + i.val) / 8192 = b.val by omega,
      show (b.val * 8192 + i.val) % 8192 = i.val by omega, show (h.val * 192 + (128 + x.val)) / 192 = h.val by omega,
      show (h.val * 192 + (128 + x.val)) % 192 = 128 + x.val by omega, Fin.eta]
  · simp only [hx, and_false, ↓reduceDIte, zero_word]

/-- The rotary keys: the context's as given, the latents' turned, padded and transposed. -/
theorem krt_at (b : Fin 2) (x : Fin 128) (k : Fin 8448) :
    V m c main_v33 (ix3 b x k) = (if h : x.val < 64 then
        if h' : k.val < 256 then argCK m c (ix3 b ⟨k.val, h'⟩ ⟨x.val, h⟩)
        else argLK m c (ix3 b ⟨k.val - 256, by omega⟩ ⟨x.val, h⟩) * argCos m c (ix2 ⟨k.val - 256, by omega⟩ ⟨x.val, h⟩)
          + (if h'' : x.val % 32 < 16 then - argLK m c (ix3 b ⟨k.val - 256, by omega⟩ ⟨x.val + 16, by omega⟩)
              else argLK m c (ix3 b ⟨k.val - 256, by omega⟩ ⟨x.val - 16, by omega⟩))
            * argSin m c (ix2 ⟨k.val - 256, by omega⟩ ⟨x.val, h⟩)
      else (0 : EReal) : EReal) := by
  unfold V
  after_reads_at
  after_reads_at
  after_reads_at
  by_cases hx : x.val < 64
  · by_cases hk : k.val < 256
    · simp only [hx, hk, ↓reduceDIte]
    · by_cases hl : x.val % 32 < 16
      · have hl' : x.val / 16 % 2 < 1 := by omega
        simp only [hx, hk, hl, hl', ↓reduceDIte,
          show x.val / 32 * 32 + (1 + x.val / 16 % 2) * 16 + x.val % 16 = x.val + 16 by omega]
      · have hl' : ¬ x.val / 16 % 2 < 1 := by omega
        simp only [hx, hk, hl, hl', ↓reduceDIte,
          show x.val / 32 * 32 + (x.val / 16 % 2 - 1) * 16 + x.val % 16 = x.val - 16 by omega]
  · simp only [hx, ↓reduceDIte, zero_word]

end Cert.Proof.Host

end
-- ==== Proof.Windows.lean ====
/-
  The blocks an iteration reads, as entries of the arrays: iteration (b, h, i) reads the queries of batch b, head h and
  rows 512 i to 512 i + 511, the cosines and sines of those rows, and the keys and values of batch b and head h.
-/
module

public import proofs.«01_k».proof.Proof.Gen.KernelIdeal.Value
public import Idealize.ShloMosaic.Lib.Claim
public import Idealize.ShloMosaic.Lib.Pointwise
public import Idealize.ShloMosaic.Lib.Pipeline.ValueKit

@[expose] public section

set_option maxRecDepth 16384

noncomputable section

namespace Cert.Proof.Windows

open Idealize.ShloMosaic Idealize.ShloMosaic.TcCoe Cert.KernelIdeal Cert.KernelIdeal.Gen

theorem idx0 : ∀ t : Fin cfg0.N, win0_0.index t
    = ![(grid0.coords t 0).val, (grid0.coords t 2).val, (grid0.coords t 1).val] :=
  (by decide +kernel : ∀ t : Fin grid0.N, _)
theorem idx1 : ∀ t : Fin cfg0.N, win0_1.index t
    = ![(grid0.coords t 0).val, (grid0.coords t 2).val, 8 + (grid0.coords t 1).val] :=
  (by decide +kernel : ∀ t : Fin grid0.N, _)
theorem idx2 : ∀ t : Fin cfg0.N, win0_2.index t = ![(grid0.coords t 2).val, 0] :=
  (by decide +kernel : ∀ t : Fin grid0.N, _)
theorem idx3 : ∀ t : Fin cfg0.N, win0_3.index t = ![(grid0.coords t 2).val, 0] :=
  (by decide +kernel : ∀ t : Fin grid0.N, _)
theorem idx4 : ∀ t : Fin cfg0.N, win0_4.index t = ![(grid0.coords t 0).val, (grid0.coords t 1).val, 0, 0] :=
  (by decide +kernel : ∀ t : Fin grid0.N, _)
theorem idx5 : ∀ t : Fin cfg0.N, win0_5.index t = ![(grid0.coords t 0).val, 0, 0] :=
  (by decide +kernel : ∀ t : Fin grid0.N, _)
theorem idx6 : ∀ t : Fin cfg0.N, win0_6.index t = ![(grid0.coords t 0).val, (grid0.coords t 1).val, 0, 0] :=
  (by decide +kernel : ∀ t : Fin grid0.N, _)
theorem idx7 : ∀ t : Fin cfg0.N, win0_7.index t
    = ![(grid0.coords t 0).val, (grid0.coords t 2).val, (grid0.coords t 1).val] :=
  (by decide +kernel : ∀ t : Fin grid0.N, _)

/-- The batch, the head and the block of rows of an iteration. -/
theorem bounds (t : Fin cfg0.N) : (grid0.coords t 0).val < 2 ∧ (grid0.coords t 1).val < 8 ∧ (grid0.coords t 2).val < 16 :=
  ⟨(grid0.coords t 0).isLt, (grid0.coords t 1).isLt, (grid0.coords t 2).isLt⟩

abbrev batch (t : Fin cfg0.N) : Fin 2 := ⟨(grid0.coords t 0).val, (bounds t).1⟩
abbrev head (t : Fin cfg0.N) : Fin 8 := ⟨(grid0.coords t 1).val, (bounds t).2.1⟩
abbrev row (t : Fin cfg0.N) (r : Fin 512) : Fin 8192 :=
  ⟨(grid0.coords t 2).val * 512 + r.val, by have := (bounds t).2.2; omega⟩

variable (m : (ℓ : Loc nD τ sig) → Buf (Elt Ideal) ℓ) (c : Dev nD) (t : Fin cfg0.N)

theorem emb0 (r : Fin 512) (x : Fin 128) : (win0_0.blk t).view.emb (ix3 0 r x)
    = ix3 (batch t) (row t r) ⟨(head t).val * 128 + x.val, by omega⟩ := by
  blk_ext [idx0 t]

theorem emb1 (r : Fin 512) (x : Fin 128) : (win0_1.blk t).view.emb (ix3 0 r x)
    = ix3 (batch t) (row t r) ⟨1024 + ((head t).val * 128 + x.val), by omega⟩ := by
  blk_ext [idx1 t]

theorem read0 (X : FVec Ideal S2x8192x2048 .f32) (r : Fin 512) (x : Fin 128) :
    (win0_0.blk t).view.read (Elt Ideal) X (ix3 0 r x)
      = X (ix3 (batch t) (row t r) ⟨(head t).val * 128 + x.val, by omega⟩) := congrArg X (emb0 t r x)

theorem read1 (X : FVec Ideal S2x8192x2048 .f32) (r : Fin 512) (x : Fin 128) :
    (win0_1.blk t).view.read (Elt Ideal) X (ix3 0 r x)
      = X (ix3 (batch t) (row t r) ⟨1024 + ((head t).val * 128 + x.val), by omega⟩) := congrArg X (emb1 t r x)

theorem blk0_at (r : Fin 512) (x : Fin 128) : iblk m c 0 t (ix3 0 r x)
    = V m c main_v26 (ix3 (batch t) (row t r) ⟨(head t).val * 128 + x.val, by omega⟩) := by
  unfold iblk
  exact read0 t (V m c main_v26) r x

theorem blk1_at (r : Fin 512) (x : Fin 128) : iblk m c 1 t (ix3 0 r x)
    = V m c main_v26 (ix3 (batch t) (row t r) ⟨1024 + ((head t).val * 128 + x.val), by omega⟩) := by
  unfold iblk
  exact read1 t (V m c main_v26) r x

theorem blk2_at (r : Fin 512) (x : Fin 128) : iblk m c 2 t (ix2 r x) = V m c main_v27 (ix2 (row t r) x) := by
  blk_ext [iblk, idx2 t]

theorem blk3_at (r : Fin 512) (x : Fin 128) : iblk m c 3 t (ix2 r x) = V m c main_v28 (ix2 (row t r) x) := by
  blk_ext [iblk, idx3 t]

theorem blk4_at (x : Fin 128) (k : Fin 8448) : iblk m c 4 t (ix4 0 0 x k)
    = V m c main_v30 (ix4 (batch t) (head t) x k) := by
  blk_ext [iblk, idx4 t]

theorem blk5_at (x : Fin 128) (k : Fin 8448) : iblk m c 5 t (ix3 0 x k) = V m c main_v33 (ix3 (batch t) x k) := by
  blk_ext [iblk, idx5 t]

theorem blk6_at (k : Fin 8448) (d : Fin 128) : iblk m c 6 t (ix4 0 0 k d)
    = V m c main_v35 (ix4 (batch t) (head t) k d) := by
  blk_ext [iblk, idx6 t]

/-- Where an iteration's row and lane land in the result. -/
theorem emb7 (r : Fin 512) (d : Fin 128) : (win0_7.blk t).view.emb (ix3 0 r d)
    = ix3 (batch t) (row t r) ⟨(head t).val * 128 + d.val, by omega⟩ := by
  blk_ext [idx7 t]

end Cert.Proof.Windows

end
-- ==== Proof.Rows.lean ====
/-
  Rows of a matrix, read at an element: a column spread along the rows, a row's largest entry, a row's sum, and a
  matrix product. The extents are variables, so that no reading depends on how large the tiles are.
-/
module

public import Idealize.ShloMosaic.Lib.Pointwise
public import Idealize.ShloMosaic.Lib.MatmulPlain
public import Idealize.ShloMosaic.Lib.Pipeline.ValueKit

@[expose] public section

noncomputable section

namespace Cert.Proof.Rows

open Idealize.ShloMosaic

variable {M K N : ℕ} {φ φ₁ φ₂ : FTy}

/-- A column spread along the rows holds the row's entry everywhere. -/
theorem spread_at {α : Type} (x : (⟨2, ![M, 1]⟩ : Shape).Idx → α) (h : (⟨2, ![M, 1]⟩ : Shape).Broadcasts ⟨2, ![M, N]⟩)
    (r : Fin M) (k : Fin N) : broadcastTo ⟨2, ![M, N]⟩ x h (ix2 r k) = x (ix2 r 0) := by
  refine broadcastTo_apply x h (ix2 r k) (ix2 r 0) fun a => ?_
  match a with
  | ⟨0, _⟩ =>
    show r.val = if M = 1 then 0 else r.val
    split_ifs with hM
    · have := r.isLt; omega
    · rfl
  | ⟨1, _⟩ => rfl

/-- A vector made a column. -/
theorem col_at {α : Type} (x : (⟨1, ![M]⟩ : Shape).Idx → α) (h : (⟨1, ![M]⟩ : Shape).ShapeCasts ⟨2, ![M, 1]⟩) (r : Fin M) :
    shapeCast ⟨2, ![M, 1]⟩ x h (ix2 r 0) = x (ix1 r) := by
  refine shapeCast_apply x h _ _ ?_
  rw [Shape.rowMajor_val_one, Shape.rowMajor_val_two]
  show r.val = r.val * 1 + 0
  omega

/-- The largest entry of each row. -/
theorem rowmax_at (s : FVec Ideal ⟨2, ![M, N]⟩ φ) (acc : BitVec φ.bits) (h : (⟨2, ![M, N]⟩ : Shape).Reduces [1] ⟨1, ![M]⟩)
    (hφ : FKind.Formats φ) (hacc : acc = FKind.maximumf.neutral φ hφ) (r : Fin M) :
    multiReduction .maximumf [1] ⟨1, ![M]⟩ s acc h hφ hacc (ix1 r)
      = Finset.univ.fold max (Ideal.ofBits φ acc) (fun k => s (ix2 r k)) := by
  rw [multiReduction_maximumf_eq_fold]
  exact h.fold_fiber_r2_a1 (ix1 r) _ _ s

/-- The sum of each row. -/
theorem rowsum_at (s : FVec Ideal ⟨2, ![M, N]⟩ φ) (acc : BitVec φ.bits) (h : (⟨2, ![M, N]⟩ : Shape).Reduces [1] ⟨1, ![M]⟩)
    (hφ : FKind.Formats φ) (hacc : acc = FKind.add.neutral φ hφ) (r : Fin M) :
    multiReduction .add [1] ⟨1, ![M]⟩ s acc h hφ hacc (ix1 r) = ∑ k, s (ix2 r k) :=
  Ideal.reduceAdd_r2_a1 h s (ix1 r)

/-- A product from a zero accumulator. -/
theorem product_at (a : FVec Ideal ⟨2, ![M, K]⟩ φ₁) (b : FVec Ideal ⟨2, ![K, N]⟩ φ₂) (r : Fin M) (c : Fin N) :
    matmul (DotDims.plain M K N) none a b (constant ⟨2, ![M, N]⟩ .f32 0x00000000#32) (ix2 r c)
      = ∑ k, a (ix2 r k) * b (ix2 k c) := by
  simp only [ix2_eq_valueIdx]
  refine (Ideal.matmul_plain_apply none a b _ r c).trans ?_
  rw [ValueIdx.constant_apply, Ideal.ofBits_zero_f32, zero_add]

/-- A sum over three tiles of 2816 positions. -/
theorem sum_tiles {A : Type} [AddCommMonoid A] (f : Fin 8448 → A) :
    ∑ k, f k = ∑ k : Fin 2816, f ⟨k.val, by omega⟩ + ∑ k : Fin 2816, f ⟨2816 + k.val, by omega⟩
      + ∑ k : Fin 2816, f ⟨5632 + k.val, by omega⟩ :=
  (Fin.sum_univ_add (a := 5632) (b := 2816) f).trans
    (congrArg (· + ∑ k : Fin 2816, f ⟨5632 + k.val, by omega⟩)
      (Fin.sum_univ_add (a := 2816) (b := 2816) fun k => f ⟨k.val, by omega⟩))

end Cert.Proof.Rows

end
-- ==== Proof.Payload.lean ====
/-
  The values the kernel body computes, read at an element: the rotated queries, the scores of a tile of keys, the
  running maximum, the running sum of the weights and the running weighted values.
-/
module

public import proofs.«01_k».proof.Proof.Gen.KernelIdeal.Value
public import proofs.«01_k».proof.Proof.Rows

@[expose] public section

set_option maxRecDepth 16384

noncomputable section

namespace Cert.Proof.Payload

open Idealize.ShloMosaic Cert.KernelIdeal Cert.KernelIdeal.Gen

/-- The finite number the running maximum starts from. -/
abbrev low : EReal := Ideal.ofBits FTy.f32 0xFF61B1E6#32
/-- Minus infinity, from which the largest of a row is taken. -/
abbrev bot : EReal := Ideal.ofBits FTy.f32 0xFF800000#32

theorem dims_weigh : dot_S512x2816_S2816x128_S512x128_1_0_0_1_n_n = DotDims.plain 512 2816 128 := rfl

/-- How the kernel spells "the lane number modulo 32 is below 16". -/
theorem lane_test : ∀ d : Fin 128,
    IntOp.cmpi CmpIPredicate.slt
      (Scalar.select
        (IntOp.andi
          (IntOp.xori
            (IntOp.cmpi CmpIPredicate.slt
              (IntOp.remsi ArithUnit.vector (BitVec.ofNat 32 d.val)
                (Scalar.select (Scalar.cmpi CmpIPredicate.eq 32#32 0#32) 1#32 32#32)) 0#32)
            (Scalar.cmpi CmpIPredicate.slt (Scalar.select (Scalar.cmpi CmpIPredicate.eq 32#32 0#32) 1#32 32#32) 0#32))
          (IntOp.cmpi CmpIPredicate.ne
            (IntOp.remsi ArithUnit.vector (BitVec.ofNat 32 d.val)
              (Scalar.select (Scalar.cmpi CmpIPredicate.eq 32#32 0#32) 1#32 32#32)) 0#32))
        (IntOp.addi
          (IntOp.remsi ArithUnit.vector (BitVec.ofNat 32 d.val)
            (Scalar.select (Scalar.cmpi CmpIPredicate.eq 32#32 0#32) 1#32 32#32))
          (Scalar.select (Scalar.cmpi CmpIPredicate.eq 32#32 0#32) 1#32 32#32))
        (IntOp.remsi ArithUnit.vector (BitVec.ofNat 32 d.val)
          (Scalar.select (Scalar.cmpi CmpIPredicate.eq 32#32 0#32) 1#32 32#32)))
      16#32 = BitVec.ofBool (decide (d.val % 32 < 16)) := by
  decide +kernel

/-- The rotated queries: each lane times its cosine, and the lane sixteen above (negated) or below times its sine. -/
theorem rotated_at (v0 : Vec Ideal S1x512x128 .f32) (v28 v31 : Vec Ideal S512x128 .f32) (r : Fin 512) (d : Fin 128) :
    k0_pay2 v0 v28 v31 (ix2 r d) = v0 (ix3 0 r d) * v28 (ix2 r d)
      + (if d.val % 32 < 16 then 0 - v0 (ix3 0 r ⟨(d.val + 128 - 112) % 128, by omega⟩)
          else v0 (ix3 0 r ⟨(d.val + 128 - 16) % 128, by omega⟩)) * v31 (ix2 r d) := by
  pointwise [k0_pay2]
  rw [lane_test]
  by_cases h : d.val % 32 < 16 <;> simp [h, Scalar.select]

/-- The plain part of the queries. -/
theorem plain_at (v : Vec Ideal S1x512x128 .f32) (r : Fin 512) (d : Fin 128) :
    k0_pay3 v (ix2 r d) = v (ix3 0 r d) := by
  pointwise [k0_pay3]

section Tile

variable (a b : FVec Ideal S512x128 .f32) (r : Fin 512)

/-- The scores of the first tile. -/
theorem score1_at (kn : Vec Ideal S1x1x128x2816 .bf16) (kr : Vec Ideal S1x128x2816 .bf16) (k : Fin 2816) :
    k0_pay6 a b kn kr (ix2 r k)
      = ∑ x, b (ix2 r x) * kn (ix4 0 0 x k) + ∑ x, a (ix2 r x) * kr (ix3 0 x k) := by
  pointwise [k0_pay6, k0_pay4]

/-- The scores of the second tile. -/
theorem score2_at (kn : Vec Ideal S1x1x128x2816 .bf16) (kr : Vec Ideal S1x128x2816 .bf16) (k : Fin 2816) :
    k0_pay14 (k0_pay4 a b) (k0_pay12 kn) (k0_pay13 kr) (ix2 r k)
      = ∑ x, b (ix2 r x) * kn (ix4 0 0 x k) + ∑ x, a (ix2 r x) * kr (ix3 0 x k) := by
  pointwise [k0_pay14, k0_pay4, k0_pay12, k0_pay13]

/-- The scores of the third tile. -/
theorem score3_at (kn : Vec Ideal S1x1x128x2816 .bf16) (kr : Vec Ideal S1x128x2816 .bf16) (k : Fin 2816) :
    k0_pay18 (k0_pay4 a b) kn kr (ix2 r k)
      = ∑ x, b (ix2 r x) * kn (ix4 0 0 x k) + ∑ x, a (ix2 r x) * kr (ix3 0 x k) := by
  pointwise [k0_pay18, k0_pay4]

end Tile

/-- A word spread over a vector. -/
theorem splat_at (s : Shape) (w : BitVec 32) (i : s.Idx) :
    broadcast s (Scalar.ofBits (F := Ideal) .f32 w) i = Ideal.ofBits .f32 w := rfl

theorem low_at (i : S512x1.Idx) : k0_pay5 (F := Ideal) i = low := by
  unfold k0_pay5
  exact splat_at _ _ i

theorem exp_sub_at {s : Shape} (x y : FVec Ideal s .f32) (i : s.Idx) : exp (subf x y) i = Ideal.exp (x i - y i) := rfl

/-- The values of a tile as a matrix. -/
theorem values_at (v : Vec Ideal S1x1x2816x128 .bf16) (k : Fin 2816) (d : Fin 128) :
    (shapeCast S2816x128 v shapeCasts_S1x1x2816x128_S2816x128 : FVec Ideal S2816x128 .bf16) (ix2 k d)
      = v (ix4 0 0 k d) := by
  pointwise

/-! ### The first tile -/

section First

variable (a b : FVec Ideal S512x128 .f32) (kn : Vec Ideal S1x1x128x2816 .bf16) (kr : Vec Ideal S1x128x2816 .bf16)
  (r : Fin 512)

theorem max1_at : k0_pay7 a b kn kr (ix2 r 0)
    = max low (Finset.univ.fold max bot fun k => k0_pay6 a b kn kr (ix2 r k)) := by
  unfold k0_pay7
  rw [ValueIdx.maximumf_apply, low_at]
  exact congrArg (max low) ((Rows.col_at _ _ r).trans (Rows.rowmax_at _ _ _ _ _ r))

theorem shrink1_at : k0_pay8 a b kn kr (ix2 r 0) = Ideal.exp (low - k0_pay7 a b kn kr (ix2 r 0)) := by
  unfold k0_pay8
  rw [exp_sub_at, low_at]

theorem weight1_at (k : Fin 2816) : k0_pay9 a b kn kr (ix2 r k)
    = Ideal.exp (k0_pay6 a b kn kr (ix2 r k) - k0_pay7 a b kn kr (ix2 r 0)) := by
  unfold k0_pay9
  exact congrArg (fun z => Ideal.exp (k0_pay6 a b kn kr (ix2 r k) - z)) (Rows.spread_at _ _ r k)

theorem sum1_at : k0_pay10 a b kn kr (ix2 r 0)
    = Ideal.exp (low - k0_pay7 a b kn kr (ix2 r 0)) * 0
      + ∑ k, Ideal.exp (k0_pay6 a b kn kr (ix2 r k) - k0_pay7 a b kn kr (ix2 r 0)) := by
  unfold k0_pay10
  rw [ValueIdx.addf_apply, ValueIdx.mulf_apply, shrink1_at, splat_at, Ideal.ofBits_zero_f32]
  generalize Ideal.exp (low - k0_pay7 a b kn kr (ix2 r 0)) * 0 = e
  refine congrArg (e + ·) ((Rows.col_at _ _ r).trans ?_)
  refine (Rows.rowsum_at _ _ _ _ _ r).trans (Finset.sum_congr rfl fun k _ => weight1_at a b kn kr r k)

theorem acc1_at (v : Vec Ideal S1x1x2816x128 .bf16) (d : Fin 128) : k0_pay11 a b kn kr v (ix2 r d)
    = Ideal.exp (low - k0_pay7 a b kn kr (ix2 r 0)) * 0
      + ∑ k, Ideal.exp (k0_pay6 a b kn kr (ix2 r k) - k0_pay7 a b kn kr (ix2 r 0)) * v (ix4 0 0 k d) := by
  unfold k0_pay11
  rw [ValueIdx.addf_apply, ValueIdx.mulf_apply, splat_at, Ideal.ofBits_zero_f32, dims_weigh]
  have h : broadcastTo S512x128 (k0_pay8 a b kn kr) broadcasts_S512x1_S512x128 (ix2 r d)
      = Ideal.exp (low - k0_pay7 a b kn kr (ix2 r 0)) := (Rows.spread_at _ _ r d).trans (shrink1_at a b kn kr r)
  rw [h]
  generalize Ideal.exp (low - k0_pay7 a b kn kr (ix2 r 0)) * 0 = e
  refine congrArg (e + ·) ?_
  refine (Rows.product_at _ _ r d).trans (Finset.sum_congr rfl fun k _ => ?_)
  exact congrArg₂ (· * ·) (weight1_at a b kn kr r k) (values_at v k d)

end First

/-! ### The second tile -/

section Second

variable (q : FVec Ideal S512x256 .bf16) (m : FVec Ideal S512x1 .f32) (kn kr : FVec Ideal S128x2816 .bf16) (r : Fin 512)

theorem max2_at : k0_pay15 q m kn kr (ix2 r 0)
    = max (m (ix2 r 0)) (Finset.univ.fold max bot fun k => k0_pay14 q kn kr (ix2 r k)) := by
  unfold k0_pay15
  rw [ValueIdx.maximumf_apply]
  exact congrArg (max _) ((Rows.col_at _ _ r).trans (Rows.rowmax_at _ _ _ _ _ r))

theorem shrink2_at : k0_pay16 q m kn kr (ix2 r 0) = Ideal.exp (m (ix2 r 0) - k0_pay15 q m kn kr (ix2 r 0)) := rfl

theorem weight2_at (k : Fin 2816) : k0_pay17 q m kn kr (ix2 r k)
    = Ideal.exp (k0_pay14 q kn kr (ix2 r k) - k0_pay15 q m kn kr (ix2 r 0)) := by
  unfold k0_pay17
  exact congrArg (fun z => Ideal.exp (k0_pay14 q kn kr (ix2 r k) - z)) (Rows.spread_at _ _ r k)

end Second

/-! ### The third tile, and the quotient -/

section Third

variable (q : FVec Ideal S512x256 .bf16) (m l : FVec Ideal S512x1 .f32) (acc : FVec Ideal S512x128 .f32)
  (kn kr : FVec Ideal S128x2816 .bf16) (v v' : Vec Ideal S1x1x2816x128 .bf16)
  (kn' : Vec Ideal S1x1x128x2816 .bf16) (kr' : Vec Ideal S1x128x2816 .bf16) (r : Fin 512) (d : Fin 128)

theorem max3_at : k0_pay19 q m kn kr kn' kr' (ix2 r 0)
    = max (k0_pay15 q m kn kr (ix2 r 0)) (Finset.univ.fold max bot fun k => k0_pay18 q kn' kr' (ix2 r k)) := by
  unfold k0_pay19
  rw [ValueIdx.maximumf_apply]
  exact congrArg (max _) ((Rows.col_at _ _ r).trans (Rows.rowmax_at _ _ _ _ _ r))

theorem shrink3_at : k0_pay20 q m kn kr kn' kr' (ix2 r 0)
    = Ideal.exp (k0_pay15 q m kn kr (ix2 r 0) - k0_pay19 q m kn kr kn' kr' (ix2 r 0)) := rfl

theorem weight3_at (k : Fin 2816) : k0_pay21 q m kn kr kn' kr' (ix2 r k)
    = Ideal.exp (k0_pay18 q kn' kr' (ix2 r k) - k0_pay19 q m kn kr kn' kr' (ix2 r 0)) := by
  unfold k0_pay21
  exact congrArg (fun z => Ideal.exp (k0_pay18 q kn' kr' (ix2 r k) - z)) (Rows.spread_at _ _ r k)

theorem sum3_at : k0_pay22 q m l kn kr kn' kr' (ix2 r 0)
    = Ideal.exp (k0_pay15 q m kn kr (ix2 r 0) - k0_pay19 q m kn kr kn' kr' (ix2 r 0))
        * (Ideal.exp (m (ix2 r 0) - k0_pay15 q m kn kr (ix2 r 0)) * l (ix2 r 0)
            + ∑ k, Ideal.exp (k0_pay14 q kn kr (ix2 r k) - k0_pay15 q m kn kr (ix2 r 0)))
      + ∑ k, Ideal.exp (k0_pay18 q kn' kr' (ix2 r k) - k0_pay19 q m kn kr kn' kr' (ix2 r 0)) := by
  unfold k0_pay22
  simp only [ValueIdx.addf_apply, ValueIdx.mulf_apply, Rows.col_at]
  refine congrArg₂ (· + ·) (congrArg₂ (· * ·) (shrink3_at q m kn kr kn' kr' r)
    (congrArg₂ (· + ·) (congrArg₂ (· * ·) (shrink2_at q m kn kr r) rfl) ?_)) ?_
  · exact (Rows.rowsum_at _ _ _ _ _ r).trans (Finset.sum_congr rfl fun k _ => weight2_at q m kn kr r k)
  · exact (Rows.rowsum_at _ _ _ _ _ r).trans (Finset.sum_congr rfl fun k _ => weight3_at q m kn kr kn' kr' r k)

theorem acc3_at : k0_pay23 q m acc kn kr v kn' kr' (ix2 r d)
    = Ideal.exp (k0_pay15 q m kn kr (ix2 r 0) - k0_pay19 q m kn kr kn' kr' (ix2 r 0))
        * (Ideal.exp (m (ix2 r 0) - k0_pay15 q m kn kr (ix2 r 0)) * acc (ix2 r d)
            + ∑ k, Ideal.exp (k0_pay14 q kn kr (ix2 r k) - k0_pay15 q m kn kr (ix2 r 0)) * v (ix4 0 0 k d)) := by
  unfold k0_pay23
  simp only [ValueIdx.addf_apply, ValueIdx.mulf_apply, dims_weigh]
  refine congrArg₂ (· * ·) ((Rows.spread_at _ _ r d).trans (shrink3_at q m kn kr kn' kr' r))
    (congrArg₂ (· + ·) (congrArg₂ (· * ·) ((Rows.spread_at _ _ r d).trans (shrink2_at q m kn kr r)) rfl) ?_)
  refine (Rows.product_at _ _ r d).trans (Finset.sum_congr rfl fun k _ => ?_)
  exact congrArg₂ (· * ·) (weight2_at q m kn kr r k) (values_at v k d)

theorem quotient_at : k0_pay1 l acc (k0_pay24 q m kn kr kn' kr') v' (ix3 0 r d)
    = Ideal.div (acc (ix2 r d)
        + ∑ k, Ideal.exp (k0_pay18 q kn' kr' (ix2 r k) - k0_pay19 q m kn kr kn' kr' (ix2 r 0)) * v' (ix4 0 0 k d))
      (l (ix2 r 0)) := by
  have h : ∀ x : FVec Ideal S512x128 .f32, shapeCast S1x512x128 x shapeCasts_S512x128_S1x512x128 (ix3 0 r d) = x (ix2 r d) :=
    fun x => by pointwise
  unfold k0_pay1
  simp only [h, ValueIdx.divf_apply, ValueIdx.addf_apply, dims_weigh]
  refine congrArg₂ Ideal.div (congrArg₂ (· + ·) rfl ?_) (Rows.spread_at _ _ r d)
  refine (Rows.product_at _ _ r d).trans (Finset.sum_congr rfl fun k _ => ?_)
  exact congrArg₂ (· * ·) (weight3_at q m kn kr kn' kr' r k) (values_at v' k d)

end Third

end Cert.Proof.Payload

end
-- ==== Proof.Softmax.lean ====
/-
  The mathematics of the softmax average, away from any program: a row of real scores weighed in one pass,
  chunk after chunk under a running maximum, and the same row weighed at once under its own maximum, both give
  `(∑ exp s · v) / (∑ exp s)`.
-/
module

public import Idealize.ShloMosaic.PureOps.Ideal
public import Idealize.ShloMosaic.Lib.IdealHost

@[expose] public section

noncomputable section

namespace Cert.Proof.Softmax

open Idealize.ShloMosaic

/-- What a running state stands for: a real maximum `x`, and the two running sums scaled by `exp (-x)`. -/
def Stands (m l a : EReal) (L A : ℝ) : Prop :=
  ∃ x : ℝ, m = (x : EReal) ∧ l = ((Real.exp (-x) * L : ℝ) : EReal) ∧ a = ((Real.exp (-x) * A : ℝ) : EReal)

/-- The larger of two reals, read in the extended reals. -/
theorem coe_max (a b : ℝ) : max (a : EReal) (b : EReal) = ((max a b : ℝ) : EReal) :=
  (Monotone.map_max (f := fun x : ℝ => (x : EReal)) fun _ _ h => EReal.coe_le_coe_iff.mpr h).symm

/-- The largest of finitely many reals, begun from minus infinity, is minus infinity or a real. -/
theorem fold_max_real {ι : Type} (t : Finset ι) (s : ι → ℝ) :
    t.fold max (⊥ : EReal) (fun k => (s k : EReal)) = ⊥
      ∨ ∃ y : ℝ, t.fold max (⊥ : EReal) (fun k => (s k : EReal)) = (y : EReal) := by
  classical
  induction t using Finset.induction_on with
  | empty => exact Or.inl rfl
  | insert k t hk ih =>
    right
    rw [Finset.fold_insert hk]
    rcases ih with h | ⟨y, h⟩
    · exact ⟨s k, by rw [h]; simp⟩
    · exact ⟨max (s k) y, by rw [h, coe_max]⟩

/-- With at least one of them, it is a real. -/
theorem fold_max_real_of_pos {n : ℕ} (h : 0 < n) (s : Fin n → ℝ) :
    ∃ y : ℝ, Finset.univ.fold max (⊥ : EReal) (fun k => (s k : EReal)) = (y : EReal) := by
  rcases fold_max_real Finset.univ s with hb | hy
  · exfalso
    have hle : ((s ⟨0, h⟩ : ℝ) : EReal) ≤ Finset.univ.fold max (⊥ : EReal) (fun k => (s k : EReal)) :=
      (Finset.le_fold_max _).mpr (Or.inr ⟨⟨0, h⟩, Finset.mem_univ _, le_refl _⟩)
    rw [hb] at hle
    exact absurd (le_bot_iff.mp hle) (EReal.coe_ne_bot _)
  · exact hy

/-- The running maximum stays real. -/
theorem max_fold_real {n : ℕ} (x : ℝ) (s : Fin n → ℝ) :
    ∃ y : ℝ, max (x : EReal) (Finset.univ.fold max (⊥ : EReal) (fun k => (s k : EReal))) = (y : EReal) := by
  rcases fold_max_real Finset.univ s with h | ⟨y, h⟩
  · exact ⟨x, by rw [h]; simp⟩
  · exact ⟨max x y, by rw [h, coe_max]⟩

/-- A finite sum of reals read in the extended reals. -/
theorem coe_sum {ι : Type} (t : Finset ι) (f : ι → ℝ) :
    ∑ k ∈ t, (f k : EReal) = ((∑ k ∈ t, f k : ℝ) : EReal) := by
  classical
  induction t using Finset.induction_on with
  | empty => simp
  | insert k t hk ih => rw [Finset.sum_insert hk, Finset.sum_insert hk, ih, EReal.coe_add]

/-- The exponential of a difference of reals. -/
theorem exp_sub_coe (a b : ℝ) : Ideal.exp ((a : EReal) - (b : EReal)) = ((Real.exp (a - b) : ℝ) : EReal) := by
  rw [← EReal.coe_sub, Ideal.exp_coe]

/-- Taking in one chunk of scores keeps what the state stands for, the chunk's terms added. -/
theorem Stands.step {n : ℕ} {m l a : EReal} {L A : ℝ} (h : Stands m l a L A) (s v : Fin n → ℝ) {m' l' a' : EReal}
    (hm : m' = max m (Finset.univ.fold max (⊥ : EReal) (fun k => (s k : EReal))))
    (hl : l' = Ideal.exp (m - m') * l + ∑ k, Ideal.exp ((s k : EReal) - m'))
    (ha : a' = Ideal.exp (m - m') * a + ∑ k, Ideal.exp ((s k : EReal) - m') * (v k : EReal)) :
    Stands m' l' a' (L + ∑ k, Real.exp (s k)) (A + ∑ k, Real.exp (s k) * v k) := by
  obtain ⟨x, rfl, rfl, rfl⟩ := h
  obtain ⟨y, hy⟩ := max_fold_real x s
  rw [hy] at hm
  subst hm
  refine ⟨y, rfl, ?_, ?_⟩
  · rw [hl]
    simp only [exp_sub_coe, coe_sum, ← EReal.coe_mul, ← EReal.coe_add]
    congr 1
    rw [mul_add, Finset.mul_sum, ← mul_assoc, ← Real.exp_add]
    congr 2
    · congr 1; ring
    · funext k; rw [← Real.exp_add]; congr 1; ring
  · rw [ha]
    simp only [exp_sub_coe, coe_sum, ← EReal.coe_mul, ← EReal.coe_add]
    congr 1
    rw [mul_add, Finset.mul_sum, ← mul_assoc, ← Real.exp_add]
    congr 2
    · congr 1; ring
    · funext k; rw [← mul_assoc, ← Real.exp_add]; congr 2; ring

/-- The quotient of the two running sums no longer depends on the maximum. -/
theorem Stands.quotient {m l a : EReal} {L A : ℝ} (h : Stands m l a L A) (hL : 0 < L) :
    Ideal.div a l = ((A / L : ℝ) : EReal) := by
  obtain ⟨x, -, rfl, rfl⟩ := h
  have hx := (Real.exp_pos (-x)).ne'
  rw [Ideal.div_coe (mul_ne_zero hx hL.ne'), ← EReal.coe_mul, mul_one_div, mul_div_mul_left _ _ hx]

/-- The empty state: any real maximum and two zero sums. -/
theorem Stands.start (x : ℝ) : Stands (x : EReal) 0 0 0 0 := ⟨x, rfl, by simp, by simp⟩

/-- The row weighed at once: every score less the row's maximum, exponentiated, divided by the row's sum. -/
theorem at_once {n : ℕ} (hn : 0 < n) (s v : Fin n → ℝ) {M Z : EReal}
    (hM : ∃ x : ℝ, M = (x : EReal)) (hZ : Z = ∑ k, Ideal.exp ((s k : EReal) - M)) :
    ∑ k, (v k : EReal) * Ideal.div (Ideal.exp ((s k : EReal) - M)) Z
      = (((∑ k, Real.exp (s k) * v k) / ∑ k, Real.exp (s k) : ℝ) : EReal) := by
  obtain ⟨x, rfl⟩ := hM
  have : Nonempty (Fin n) := ⟨⟨0, hn⟩⟩
  have hp : 0 < ∑ k, Real.exp (s k) := Finset.sum_pos (fun k _ => Real.exp_pos _) Finset.univ_nonempty
  have hZ' : Z = ((Real.exp (-x) * ∑ k, Real.exp (s k) : ℝ) : EReal) := by
    rw [hZ]
    simp only [exp_sub_coe, coe_sum]
    congr 1
    rw [Finset.mul_sum]
    refine Finset.sum_congr rfl fun k _ => ?_
    rw [← Real.exp_add]; congr 1; ring
  have hx := (Real.exp_pos (-x)).ne'
  subst hZ'
  simp only [exp_sub_coe, Ideal.div_coe (mul_ne_zero hx hp.ne'), ← EReal.coe_mul, coe_sum]
  congr 1
  rw [Finset.sum_div]
  refine Finset.sum_congr rfl fun k _ => ?_
  rw [sub_eq_neg_add, Real.exp_add, mul_one_div, mul_div_mul_left _ _ hx]
  ring

end Cert.Proof.Softmax

end
-- ==== Proof.Block.lean ====
/-
  What one block of the kernel leaves: for every query of the block, the values of all 8448 keys weighed by the
  exponentials of the scores and divided by the sum of those exponentials — the three tiles of keys taken one after
  another, each with its own shift of the exponent, come to the same as the row taken whole.
-/
module

public import proofs.«01_k».proof.Proof.Payload
public import proofs.«01_k».proof.Proof.Softmax

@[expose] public section

set_option maxRecDepth 16384

noncomputable section

namespace Cert.Proof.Block

open Idealize.ShloMosaic Cert.KernelIdeal Cert.KernelIdeal.Gen Cert.Proof.Payload Cert.Proof.Softmax

theorem bot_eq : bot = ⊥ := by simp [Ideal.ofBits, Ideal.ieee, -EReal.coe_mul]

theorem low_real : ∃ x : ℝ, low = (x : EReal) := by
  refine ⟨-(14791142 * 2 ^ 104), ?_⟩
  simp [Ideal.ofBits, Ideal.ieee, -EReal.coe_mul]

/-- The row the three tiles leave, from the scores and the values as real numbers. -/
theorem weighed (a b : FVec Ideal S512x128 .f32) (kn₁ kn₂ kn₃ : Vec Ideal S1x1x128x2816 .bf16)
    (kr₁ kr₂ kr₃ : Vec Ideal S1x128x2816 .bf16) (v₁ v₂ v₃ : Vec Ideal S1x1x2816x128 .bf16) (r : Fin 512) (d : Fin 128)
    (s w : Fin 8448 → ℝ)
    (h₁ : ∀ k : Fin 2816, ∑ x, b (ix2 r x) * kn₁ (ix4 0 0 x k) + ∑ x, a (ix2 r x) * kr₁ (ix3 0 x k)
      = ((s ⟨k.val, by omega⟩ : ℝ) : EReal))
    (h₂ : ∀ k : Fin 2816, ∑ x, b (ix2 r x) * kn₂ (ix4 0 0 x k) + ∑ x, a (ix2 r x) * kr₂ (ix3 0 x k)
      = ((s ⟨2816 + k.val, by omega⟩ : ℝ) : EReal))
    (h₃ : ∀ k : Fin 2816, ∑ x, b (ix2 r x) * kn₃ (ix4 0 0 x k) + ∑ x, a (ix2 r x) * kr₃ (ix3 0 x k)
      = ((s ⟨5632 + k.val, by omega⟩ : ℝ) : EReal))
    (w₁ : ∀ k : Fin 2816, v₁ (ix4 0 0 k d) = ((w ⟨k.val, by omega⟩ : ℝ) : EReal))
    (w₂ : ∀ k : Fin 2816, v₂ (ix4 0 0 k d) = ((w ⟨2816 + k.val, by omega⟩ : ℝ) : EReal))
    (w₃ : ∀ k : Fin 2816, v₃ (ix4 0 0 k d) = ((w ⟨5632 + k.val, by omega⟩ : ℝ) : EReal)) :
    k0_pay1
        (k0_pay22 (k0_pay4 a b) (k0_pay7 a b kn₁ kr₁) (k0_pay10 a b kn₁ kr₁) (k0_pay12 kn₂) (k0_pay13 kr₂) kn₃ kr₃)
        (k0_pay23 (k0_pay4 a b) (k0_pay7 a b kn₁ kr₁) (k0_pay11 a b kn₁ kr₁ v₁) (k0_pay12 kn₂) (k0_pay13 kr₂) v₂ kn₃ kr₃)
        (k0_pay24 (k0_pay4 a b) (k0_pay7 a b kn₁ kr₁) (k0_pay12 kn₂) (k0_pay13 kr₂) kn₃ kr₃) v₃ (ix3 0 r d)
      = (((∑ k, Real.exp (s k) * w k) / ∑ k, Real.exp (s k) : ℝ) : EReal) := by
  have g₁ : ∀ k : Fin 2816, k0_pay6 a b kn₁ kr₁ (ix2 r k) = ((s ⟨k.val, by omega⟩ : ℝ) : EReal) :=
    fun k => (score1_at a b r kn₁ kr₁ k).trans (h₁ k)
  have g₂ : ∀ k : Fin 2816, k0_pay14 (k0_pay4 a b) (k0_pay12 kn₂) (k0_pay13 kr₂) (ix2 r k)
      = ((s ⟨2816 + k.val, by omega⟩ : ℝ) : EReal) := fun k => (score2_at a b r kn₂ kr₂ k).trans (h₂ k)
  have g₃ : ∀ k : Fin 2816, k0_pay18 (k0_pay4 a b) kn₃ kr₃ (ix2 r k) = ((s ⟨5632 + k.val, by omega⟩ : ℝ) : EReal) :=
    fun k => (score3_at a b r kn₃ kr₃ k).trans (h₃ k)
  rw [quotient_at, sum3_at, acc3_at, sum1_at, acc1_at]
  have m₁ := max1_at a b kn₁ kr₁ r
  have m₂ := max2_at (k0_pay4 a b) (k0_pay7 a b kn₁ kr₁) (k0_pay12 kn₂) (k0_pay13 kr₂) r
  have m₃ := max3_at (k0_pay4 a b) (k0_pay7 a b kn₁ kr₁) (k0_pay12 kn₂) (k0_pay13 kr₂) kn₃ kr₃ r
  simp only [g₁, g₂, g₃, w₁, w₂, w₃] at m₁ m₂ m₃ ⊢
  generalize k0_pay7 a b kn₁ kr₁ (ix2 r 0) = M₁ at *
  generalize k0_pay15 (k0_pay4 a b) (k0_pay7 a b kn₁ kr₁) (k0_pay12 kn₂) (k0_pay13 kr₂) (ix2 r 0) = M₂ at *
  generalize k0_pay19 (k0_pay4 a b) (k0_pay7 a b kn₁ kr₁) (k0_pay12 kn₂) (k0_pay13 kr₂) kn₃ kr₃ (ix2 r 0) = M₃ at *
  rw [bot_eq] at m₁ m₂ m₃
  obtain ⟨x, hx⟩ := low_real
  rw [hx] at m₁ ⊢
  have S₁ := (Stands.start x).step (fun k : Fin 2816 => s ⟨k.val, by omega⟩) (fun k => w ⟨k.val, by omega⟩) m₁ rfl rfl
  have S₂ := S₁.step (fun k : Fin 2816 => s ⟨2816 + k.val, by omega⟩) (fun k => w ⟨2816 + k.val, by omega⟩) m₂ rfl rfl
  have S₃ := S₂.step (fun k : Fin 2816 => s ⟨5632 + k.val, by omega⟩) (fun k => w ⟨5632 + k.val, by omega⟩) m₃ rfl rfl
  rw [Rows.sum_tiles fun k => Real.exp (s k), Rows.sum_tiles fun k => Real.exp (s k) * w k]
  have hp : 0 < 0 + ∑ k : Fin 2816, Real.exp (s ⟨k.val, by omega⟩) + ∑ k : Fin 2816, Real.exp (s ⟨2816 + k.val, by omega⟩)
      + ∑ k : Fin 2816, Real.exp (s ⟨5632 + k.val, by omega⟩) := by
    have : ∀ f : Fin 2816 → Fin 8448, 0 < ∑ k, Real.exp (s (f k)) := fun f =>
      Finset.sum_pos (fun k _ => Real.exp_pos _) Finset.univ_nonempty
    have e₁ := this fun k => ⟨k.val, by omega⟩
    have e₂ := this fun k => ⟨2816 + k.val, by omega⟩
    have e₃ := this fun k => ⟨5632 + k.val, by omega⟩
    linarith
  have := S₃.quotient hp
  rw [zero_add, zero_add] at this
  exact this

/-- A lane of the queries turned: the lane times its cosine, the lane sixteen above (negated) or below times its sine. -/
def turned (q c s : Fin 128 → ℝ) (x : Fin 128) : ℝ :=
  q x * c x + (if x.val % 32 < 16 then 0 - q ⟨(x.val + 128 - 112) % 128, by omega⟩
    else q ⟨(x.val + 128 - 16) % 128, by omega⟩) * s x

/-- The score of a key: the plain lanes and the turned lanes of the query against the key's. -/
def score (q₀ q₁ c s : Fin 128 → ℝ) (k₄ k₅ : Fin 128 → Fin 8448 → ℝ) (k : Fin 8448) : ℝ :=
  ∑ x, q₀ x * k₄ x k + ∑ x, turned q₁ c s x * k₅ x k

theorem sum_mul_coe (f g : Fin 128 → ℝ) : ∑ x, (f x : EReal) * (g x : EReal) = ((∑ x, f x * g x : ℝ) : EReal) := by
  simp only [← EReal.coe_mul, coe_sum]

/-- The block an iteration leaves, on real inputs. -/
theorem block_at (x0 x1 : Vec Ideal S1x512x128 .f32) (x2 x3 : Vec Ideal S512x128 .f32)
    (x4 : Vec Ideal S1x1x128x8448 .bf16) (x5 : Vec Ideal S1x128x8448 .bf16) (x6 : Vec Ideal S1x1x8448x128 .bf16)
    (r : Fin 512) (d : Fin 128) (q₀ q₁ c s : Fin 128 → ℝ) (k₄ k₅ : Fin 128 → Fin 8448 → ℝ) (w : Fin 8448 → ℝ)
    (h0 : ∀ x, x0 (ix3 0 r x) = (q₀ x : EReal)) (h1 : ∀ x, x1 (ix3 0 r x) = (q₁ x : EReal))
    (h2 : ∀ x, x2 (ix2 r x) = (c x : EReal)) (h3 : ∀ x, x3 (ix2 r x) = (s x : EReal))
    (h4 : ∀ x k, x4 (ix4 0 0 x k) = (k₄ x k : EReal)) (h5 : ∀ x k, x5 (ix3 0 x k) = (k₅ x k : EReal))
    (h6 : ∀ k, x6 (ix4 0 0 k d) = (w k : EReal)) :
    out0_7 x0 x1 x2 x3 x4 x5 x6 (ix3 0 r d)
      = (((∑ k, Real.exp (score q₀ q₁ c s k₄ k₅ k) * w k) / ∑ k, Real.exp (score q₀ q₁ c s k₄ k₅ k) : ℝ) : EReal) := by
  have hz3 : (![0, 0, 0] : Fin 3 → Nat) = fun _ => 0 := by decide
  have hz2 : (![0, 0] : Fin 2 → Nat) = fun _ => 0 := by decide
  have hq : ∀ x : Fin 128, k0_pay2 (View.ld x1 r0_0) (View.ld x2 r0_1) (View.ld x3 r0_1) (ix2 r x)
      = ((turned q₁ c s x : ℝ) : EReal) := fun x => by
    rw [rotated_at, View.ld_unit_zero hz3, View.ld_unit_zero hz2, View.ld_unit_zero hz2]
    simp only [h1, h2, h3, turned]
    split_ifs <;> simp only [EReal.coe_add, EReal.coe_mul, EReal.coe_sub, EReal.coe_zero]
  have hp : ∀ x : Fin 128, k0_pay3 (View.ld x0 r0_0) (ix2 r x) = ((q₀ x : ℝ) : EReal) := fun x => by
    rw [plain_at, View.ld_unit_zero hz3, h0]
  have hs : ∀ (kn : Vec Ideal S1x1x128x2816 .bf16) (kr : Vec Ideal S1x128x2816 .bf16) (k : Fin 2816) (k' : Fin 8448),
      (∀ x, kn (ix4 0 0 x k) = x4 (ix4 0 0 x k')) → (∀ x, kr (ix3 0 x k) = x5 (ix3 0 x k')) →
      ∑ x, k0_pay3 (View.ld x0 r0_0) (ix2 r x) * kn (ix4 0 0 x k)
        + ∑ x, k0_pay2 (View.ld x1 r0_0) (View.ld x2 r0_1) (View.ld x3 r0_1) (ix2 r x) * kr (ix3 0 x k)
      = ((score q₀ q₁ c s k₄ k₅ k' : ℝ) : EReal) := fun kn kr k k' e4 e5 => by
    simp only [hq, hp, e4, e5, h4, h5, sum_mul_coe, score, EReal.coe_add]
  unfold out0_7
  rw [View.canon_unit_zero hz3]
  unfold k0_pay27 k0_pay28 k0_pay29 k0_pay30 k0_pay25 k0_pay26
  refine weighed _ _ _ _ _ _ _ _ _ _ _ r d (score q₀ q₁ c s k₄ k₅) w
    (fun k => hs _ _ k _ (fun x => ?_) fun x => ?_) (fun k => hs _ _ k _ (fun x => ?_) fun x => ?_)
    (fun k => hs _ _ k _ (fun x => ?_) fun x => ?_) (fun k => ?_) (fun k => ?_) (fun k => ?_)
  · exact View.ld_unit_apply_of x4 _ _ _ _ _ fun a => by fin_cases a <;> simp
  · exact View.ld_unit_apply_of x5 _ _ _ _ _ fun a => by fin_cases a <;> simp
  · exact View.ld_unit_apply_of x4 _ _ _ _ _ fun a => by fin_cases a <;> simp
  · exact View.ld_unit_apply_of x5 _ _ _ _ _ fun a => by fin_cases a <;> simp
  · exact View.ld_unit_apply_of x4 _ _ _ _ _ fun a => by fin_cases a <;> simp
  · exact View.ld_unit_apply_of x5 _ _ _ _ _ fun a => by fin_cases a <;> simp
  · exact (View.ld_unit_apply_of x6 _ _ _ _ (ix4 0 0 _ d) fun a => by fin_cases a <;> simp).trans (h6 _)
  · exact (View.ld_unit_apply_of x6 _ _ _ _ (ix4 0 0 _ d) fun a => by fin_cases a <;> simp).trans (h6 _)
  · exact (View.ld_unit_apply_of x6 _ _ _ _ (ix4 0 0 _ d) fun a => by fin_cases a <;> simp).trans (h6 _)

end Cert.Proof.Block

end
-- ==== Proof.Spec.lean ====
/-
  The attention over the real numbers: rotary turning of 64 lanes, the scores, and the values weighed by the exponentials
  of the scaled scores and divided by the sum of those exponentials.
-/
module

public import proofs.«01_k».proof.Proof.Block

@[expose] public section

noncomputable section

namespace Cert.Proof.Spec

/-- The six arrays as real numbers: queries by batch, position, head and lane; keys beside values by batch, position,
    head and lane; the rotary keys of the context and of the latents; the cosines and the sines. -/
structure Arrays where
  q : Fin 2 → Fin 8192 → Fin 8 → Fin 192 → ℝ
  kv : Fin 2 → Fin 8448 → Fin 8 → Fin 256 → ℝ
  ck : Fin 2 → Fin 256 → Fin 64 → ℝ
  lk : Fin 2 → Fin 8192 → Fin 64 → ℝ
  cos : Fin 8192 → Fin 64 → ℝ
  sin : Fin 8192 → Fin 64 → ℝ

/-- Lane `j` of a turned row: within each group of 32 lanes the first 16 take the negated later 16 times the sine, the
    later 16 the first 16. -/
def turn (y c s : Fin 64 → ℝ) (j : Fin 64) : ℝ :=
  y j * c j + (if h : j.val % 32 < 16 then - y ⟨j.val + 16, by omega⟩ else y ⟨j.val - 16, by omega⟩) * s j

variable (A : Arrays) (C : ℝ)

/-- The rotary key of a position: the context's as given, a latent's turned. -/
def keyRow (b : Fin 2) (k : Fin 8448) (j : Fin 64) : ℝ :=
  if h : k.val < 256 then A.ck b ⟨k.val, h⟩ j
  else turn (A.lk b ⟨k.val - 256, by omega⟩) (A.cos ⟨k.val - 256, by omega⟩) (A.sin ⟨k.val - 256, by omega⟩) j

/-- The score of a query and a key: 128 plain lanes and 64 rotary lanes. -/
def dot (b : Fin 2) (h : Fin 8) (i : Fin 8192) (k : Fin 8448) : ℝ :=
  ∑ x : Fin 128, A.q b i h ⟨x.val, by omega⟩ * A.kv b k h ⟨x.val, by omega⟩
    + ∑ j : Fin 64, turn (fun j => A.q b i h ⟨128 + j.val, by omega⟩) (A.cos i) (A.sin i) j * keyRow A b k j

/-- The attended value of a query at a lane. -/
def attended (b : Fin 2) (h : Fin 8) (i : Fin 8192) (d : Fin 128) : ℝ :=
  (∑ k, Real.exp (dot A b h i k * C) * A.kv b k h ⟨128 + d.val, by omega⟩) / ∑ k, Real.exp (dot A b h i k * C)

/-- The lanes an iteration of the kernel sees: scaled queries, and rotary lanes padded with zeros. -/
def padded (f : Fin 64 → ℝ) (x : Fin 128) : ℝ := if h : x.val < 64 then f ⟨x.val, h⟩ else 0

theorem sum_padded (f : Fin 128 → ℝ) (g : Fin 64 → ℝ) (h₁ : ∀ j : Fin 64, f ⟨j.val, by omega⟩ = g j)
    (h₂ : ∀ j : Fin 64, f ⟨64 + j.val, by omega⟩ = 0) : ∑ x, f x = ∑ j, g j := by
  have := Fin.sum_univ_add (a := 64) (b := 64) f
  refine this.trans ?_
  have e₂ : ∑ j : Fin 64, f (Fin.natAdd 64 j) = 0 := Finset.sum_eq_zero fun j _ => h₂ j
  have e₁ : ∑ j : Fin 64, f (Fin.castAdd 64 j) = ∑ j, g j := Finset.sum_congr rfl fun j _ => h₁ j
  rw [e₁, e₂, add_zero]

/-- The score of the padded, scaled lanes is the scaled score. -/
theorem score_eq (b : Fin 2) (h : Fin 8) (i : Fin 8192) (k : Fin 8448) :
    Block.score (fun x => A.q b i h ⟨x.val, by omega⟩ * C)
      (padded fun j => A.q b i h ⟨128 + j.val, by omega⟩ * C) (padded (A.cos i)) (padded (A.sin i))
      (fun x k => A.kv b k h ⟨x.val, by omega⟩) (fun x k => padded (keyRow A b k) x) k = dot A b h i k * C := by
  unfold Block.score dot
  rw [add_mul]
  congr 1
  · rw [Finset.sum_mul]
    exact Finset.sum_congr rfl fun x _ => by ring
  · rw [Finset.sum_mul]
    refine sum_padded _ _ (fun j => ?_) fun j => ?_
    · have hj := j.isLt
      unfold Block.turned padded turn
      by_cases hl : j.val % 32 < 16
      · have e : (j.val + 128 - 112) % 128 = j.val + 16 := by omega
        have e' : j.val + 16 < 64 := by omega
        simp only [hj, hl, e, e', ↓reduceIte, ↓reduceDIte, Fin.eta]
        ring
      · have e : (j.val + 128 - 16) % 128 = j.val - 16 := by omega
        have e' : j.val - 16 < 64 := by omega
        simp only [hj, hl, e, e', ↓reduceIte, ↓reduceDIte, Fin.eta]
        ring
    · have hj : ¬ 64 + j.val < 64 := by omega
      simp only [padded, hj, ↓reduceDIte, mul_zero]

end Cert.Proof.Spec

end
-- ==== Proof.KernelValue.lean ====
/-
  The array the kernel leaves, from launch arrays that hold real numbers: at batch b, position i and column 128 h + d the
  attended value of head h at lane d.
-/
module

public import proofs.«01_k».proof.Proof.Host
public import proofs.«01_k».proof.Proof.Windows
public import proofs.«01_k».proof.Proof.Spec

@[expose] public section

set_option maxRecDepth 16384

noncomputable section

namespace Cert.Proof.KernelValue

open Idealize.ShloMosaic Idealize.ShloMosaic.TcCoe Cert.KernelIdeal Cert.KernelIdeal.Gen
open Cert.Proof.Host Cert.Proof.Windows Cert.Proof.Spec

/-- Six arrays of extended reals hold the real numbers of `A`. -/
structure Holds (x0 : FVec Ideal S2x8192x8x192 .f32) (x1 : FVec Ideal S2x8448x8x256 .f32) (x2 : FVec Ideal S2x256x64 .f32)
    (x3 : FVec Ideal S2x8192x64 .f32) (x4 x5 : FVec Ideal S8192x64 .f32) (A : Arrays) : Prop where
  q : ∀ b i h x, x0 (ix4 b i h x) = ((A.q b i h x : ℝ) : EReal)
  kv : ∀ b k h x, x1 (ix4 b k h x) = ((A.kv b k h x : ℝ) : EReal)
  ck : ∀ b k j, x2 (ix3 b k j) = ((A.ck b k j : ℝ) : EReal)
  lk : ∀ b k j, x3 (ix3 b k j) = ((A.lk b k j : ℝ) : EReal)
  cos : ∀ i j, x4 (ix2 i j) = ((A.cos i j : ℝ) : EReal)
  sin : ∀ i j, x5 (ix2 i j) = ((A.sin i j : ℝ) : EReal)

/-- The array that holds the attended values. -/
def result (A : Arrays) (C : ℝ) : FVec Ideal S2x8192x1024 .f32 := fun i =>
  ((attended A C ⟨(i 0).val, (i 0).isLt⟩ ⟨(i 2).val / 128, by have : (i 2).val < 1024 := (i 2).isLt; omega⟩
    ⟨(i 1).val, (i 1).isLt⟩ ⟨(i 2).val % 128, by omega⟩ : ℝ) : EReal)

theorem result_at (A : Arrays) (C : ℝ) (b : Fin 2) (i : Fin 8192) (h : Fin 8) (d : Fin 128) :
    result A C (ix3 b i ⟨h.val * 128 + d.val, by omega⟩) = ((attended A C b h i d : ℝ) : EReal) := by
  have e₁ : (⟨(h.val * 128 + d.val) / 128, by omega⟩ : Fin 8) = h := Fin.ext (by show _ / 128 = _; omega)
  have e₂ : (⟨(h.val * 128 + d.val) % 128, by omega⟩ : Fin 128) = d := Fin.ext (by show _ % 128 = _; omega)
  show ((attended A C b ⟨(h.val * 128 + d.val) / 128, _⟩ i ⟨(h.val * 128 + d.val) % 128, _⟩ : ℝ) : EReal) = _
  rw [e₁, e₂]

theorem padded_coe (f : Fin 64 → ℝ) (g : Fin 64 → EReal) (h : ∀ j, g j = ((f j : ℝ) : EReal)) (x : Fin 128) :
    (if hx : x.val < 64 then g ⟨x.val, hx⟩ else (0 : EReal)) = ((padded f x : ℝ) : EReal) := by
  unfold padded
  by_cases hx : x.val < 64 <;> simp only [hx, h, ↓reduceDIte, EReal.coe_zero]

theorem turn_coe (y c s : Fin 64 → ℝ) (Y C S : Fin 64 → EReal) (hy : ∀ j, Y j = ((y j : ℝ) : EReal))
    (hc : ∀ j, C j = ((c j : ℝ) : EReal)) (hs : ∀ j, S j = ((s j : ℝ) : EReal)) (j : Fin 64) :
    Y j * C j + (if h : j.val % 32 < 16 then - Y ⟨j.val + 16, by omega⟩ else Y ⟨j.val - 16, by omega⟩) * S j
      = ((turn y c s j : ℝ) : EReal) := by
  unfold turn
  by_cases h : j.val % 32 < 16 <;>
    simp only [h, hy, hc, hs, ↓reduceDIte, EReal.coe_add, EReal.coe_mul, EReal.coe_neg]

variable (m : (ℓ : Loc nD τ sig) → Buf (Elt Ideal) ℓ) (c : Dev nD)

theorem array_eq (A : Arrays) (C : ℝ) (hC : scale = (C : EReal))
    (hA : Holds (argQ m c) (argKV m c) (argCK m c) (argLK m c) (argCos m c) (argSin m c) A) :
    (dats m 0 c).arrAt 7 cfg0.N = result A C := by
  refine (dats m 0 c).arrAt_eq_of_covers 7 _ (by decide +kernel) fun t hf y => ?_
  blk_simp
  rw [after0_7]
  obtain ⟨r, d, rfl⟩ : ∃ (r : Fin 512) (d : Fin 128), y = ix3 0 r d :=
    ⟨y 1, y 2, by
      funext a
      match a with
      | ⟨0, _⟩ => exact Fin.ext (Nat.lt_one_iff.mp (y 0).isLt)
      | ⟨1, _⟩ => rfl
      | ⟨2, _⟩ => rfl⟩
  rw [emb7, result_at]
  unfold attended
  simp only [← score_eq]
  refine Block.block_at _ _ _ _ _ _ _ r d _ _ _ _ _ _ _ (fun x => ?_) (fun x => ?_) (fun x => ?_) (fun x => ?_)
    (fun x k => ?_) (fun x k => ?_) (fun k => ?_)
  · rw [blk0_at, q_plain_at, hA.q, hC, EReal.coe_mul]
  · rw [blk1_at, q_rope_at]
    exact padded_coe _ (fun j => argQ m c (ix4 _ _ _ ⟨128 + j.val, by omega⟩) * scale)
      (fun j => by rw [hA.q, hC, EReal.coe_mul]) x
  · rw [blk2_at, cos_at]
    exact padded_coe _ (fun j => argCos m c (ix2 _ j)) (fun j => hA.cos _ j) x
  · rw [blk3_at, sin_at]
    exact padded_coe _ (fun j => argSin m c (ix2 _ j)) (fun j => hA.sin _ j) x
  · rw [blk4_at, knt_at, hA.kv]
  · rw [blk5_at, krt_at]
    refine padded_coe (keyRow A _ k) (fun j => if h' : k.val < 256 then argCK m c (ix3 _ ⟨k.val, h'⟩ j)
        else argLK m c (ix3 _ ⟨k.val - 256, by omega⟩ j) * argCos m c (ix2 ⟨k.val - 256, by omega⟩ j)
          + (if h'' : j.val % 32 < 16 then - argLK m c (ix3 _ ⟨k.val - 256, by omega⟩ ⟨j.val + 16, by omega⟩)
              else argLK m c (ix3 _ ⟨k.val - 256, by omega⟩ ⟨j.val - 16, by omega⟩))
            * argSin m c (ix2 ⟨k.val - 256, by omega⟩ j)) (fun j => ?_) x
    unfold keyRow
    by_cases hk : k.val < 256
    · simp only [hk, ↓reduceDIte, hA.ck]
    · simp only [hk, ↓reduceDIte]
      exact turn_coe _ _ _ (fun j => argLK m c (ix3 _ ⟨k.val - 256, by omega⟩ j))
        (fun j => argCos m c (ix2 ⟨k.val - 256, by omega⟩ j)) (fun j => argSin m c (ix2 ⟨k.val - 256, by omega⟩ j))
        (fun j => hA.lk _ _ j) (fun j => hA.cos _ j) (fun j => hA.sin _ j) j
  · rw [blk6_at, v_at, hA.kv]

end Cert.Proof.KernelValue

end
-- ==== Proof.RefKeys.lean ====
/-
  The rotary keys of the reference: the context's as given, the latents' turned.
-/
module

public import proofs.«01_k».proof.Proof.Gen.ReferenceIdeal.Read
public import proofs.«01_k».proof.Proof.KernelValue

@[expose] public section

set_option maxRecDepth 16384

noncomputable section

namespace Cert.Proof.RefKeys

open Idealize.ShloMosaic Cert.ReferenceIdeal Cert.ReferenceIdeal.Read
open Cert.Proof.Spec Cert.Proof.KernelValue

theorem keys_read (x2 : FVec Ideal S2x256x64 .f32) (x3 : FVec Ideal S2x8192x64 .f32) (x4 x5 : FVec Ideal S8192x64 .f32)
    (b : Fin 2) (k : Fin 8448) (j : Fin 64) :
    val_main_v32 (F := Ideal) x2 x3 x4 x5 (ix3 b k j)
      = if h : k.val < 256 then x2 (ix3 b ⟨k.val, h⟩ j) else
        x3 (ix3 b ⟨k.val - 256, by omega⟩ j) * x4 (ix2 ⟨k.val - 256, by omega⟩ j)
          + (if h₁ : j.val / 16 % 2 < 1 then
              - x3 (ix3 b ⟨k.val - 256, by omega⟩ ⟨j.val / 32 * 32 + (1 + j.val / 16 % 2) * 16 + j.val % 16, by omega⟩)
            else x3 (ix3 b ⟨k.val - 256, by omega⟩ ⟨j.val / 32 * 32 + (j.val / 16 % 2 - 1) * 16 + j.val % 16, by omega⟩))
            * x5 (ix2 ⟨k.val - 256, by omega⟩ j) := by
  pointwise [val_main_v32, val_main_v31, val_main_v30, val_main_v29, val_main_v28, val_main_v27, val_main_v26, val_main_v25,
    val_main_v24, val_main_v23, val_main_v22, val_main_v21, val_main_v20, val_main_v19]

theorem keys_at (x0 : FVec Ideal S2x8192x8x192 .f32) (x1 : FVec Ideal S2x8448x8x256 .f32) (x2 : FVec Ideal S2x256x64 .f32)
    (x3 : FVec Ideal S2x8192x64 .f32) (x4 x5 : FVec Ideal S8192x64 .f32) (A : Arrays) (hA : Holds x0 x1 x2 x3 x4 x5 A)
    (b : Fin 2) (k : Fin 8448) (j : Fin 64) :
    val_main_v32 (F := Ideal) x2 x3 x4 x5 (ix3 b k j) = ((keyRow A b k j : ℝ) : EReal) := by
  rw [keys_read]
  unfold keyRow
  by_cases hk : k.val < 256
  · simp only [hk, ↓reduceDIte]
    exact hA.ck _ _ _
  · simp only [hk, ↓reduceDIte]
    refine Eq.trans ?_ (turn_coe _ _ _ (fun j => x3 (ix3 b ⟨k.val - 256, by omega⟩ j))
      (fun j => x4 (ix2 ⟨k.val - 256, by omega⟩ j)) (fun j => x5 (ix2 ⟨k.val - 256, by omega⟩ j))
      (fun j => hA.lk _ _ _) (fun j => hA.cos _ _) (fun j => hA.sin _ _) j)
    have hj := j.isLt
    by_cases hl : j.val % 32 < 16
    · have h₁ : j.val / 16 % 2 < 1 := by omega
      have e : j.val / 32 * 32 + (1 + j.val / 16 % 2) * 16 + j.val % 16 = j.val + 16 := by omega
      simp only [hl, h₁, e, ↓reduceDIte]
    · have h₁ : ¬ j.val / 16 % 2 < 1 := by omega
      have e : j.val / 32 * 32 + (j.val / 16 % 2 - 1) * 16 + j.val % 16 = j.val - 16 := by omega
      simp only [hl, h₁, e, ↓reduceDIte]

end Cert.Proof.RefKeys

end
-- ==== Proof.RefValue.lean ====
/-
  The array the reference computes, from launch arrays that hold real numbers: the same attended values the kernel leaves.
-/
module

public import proofs.«01_k».proof.Proof.Gen.ReferenceIdeal.Read
public import proofs.«01_k».proof.Proof.KernelValue
public import proofs.«01_k».proof.Proof.RefKeys
public import Idealize.ShloMosaic.Lib.ValueIdxRank6

@[expose] public section

set_option maxRecDepth 16384

noncomputable section

namespace Cert.Proof.RefValue

open Idealize.ShloMosaic Cert.ReferenceIdeal Cert.ReferenceIdeal.Read
open Cert.Proof.Spec Cert.Proof.KernelValue

/-- A maximum over the last of four axes is a fold of `max` along it. -/
theorem hostmax_at {n0 n1 n2 n3 : Nat} (v : FVec Ideal ⟨4, ![n0, n1, n2, n3]⟩ .f32) (c : FVec Ideal ⟨0, ![]⟩ .f32)
    (h : (⟨4, ![n0, n1, n2, n3]⟩ : Shape).ReducesTo [3] ⟨3, ![n0, n1, n2]⟩) (hu : 0 < (⟨0, ![]⟩ : Shape).numel)
    (i : Fin n0) (j : Fin n1) (k : Fin n2) :
    Host.reduce FloatOps.maximumf v c h hu (ix3 i j k)
      = Finset.univ.fold max (c (Shape.Idx.first hu)) fun l : Fin n3 => v (ix4 i j k l) := by
  simp only [pointwise]

theorem lanes_at (x0 : FVec Ideal S2x8192x8x192 .f32) (b : Fin 2) (i : Fin 8192) (h : Fin 8) (j : Fin 64) :
    val_main_v1 (F := Ideal) x0 (ix4 b i h j) = x0 (ix4 b i h ⟨128 + j.val, by omega⟩) := by
  rw [val_main_v1_apply]
  refine congrArg x0 ?_
  funext a
  match a with
  | ⟨0, _⟩ => rfl | ⟨1, _⟩ => rfl | ⟨2, _⟩ => rfl
  | ⟨3, _⟩ => exact Fin.ext (by show _ + j.val = 128 + j.val; omega)

/-- The rotary lanes of a query in two groups of two halves of sixteen. -/
theorem halves_at (x0 : FVec Ideal S2x8192x8x192 .f32) (b : Fin 2) (i : Fin 8192) (h : Fin 8) (g e : Fin 2) (r : Fin 16) :
    val_main_v6 (F := Ideal) x0 (ValueIdx.ix6 b i h g e r)
      = x0 (ix4 b i h ⟨128 + (g.val * 32 + e.val * 16 + r.val), by omega⟩) := by
  have e₁ : val_main_v6 (F := Ideal) x0 (ValueIdx.ix6 b i h g e r)
      = val_main_v1 (F := Ideal) x0 (ix4 b i h ⟨g.val * 32 + e.val * 16 + r.val, by omega⟩) := by
    unfold val_main_v6
    generalize val_main_v1 (F := Ideal) x0 = y
    refine shapeCast_apply y _ _ _ ?_
    rw [Shape.rowMajor_val_four, Shape.rowMajor_val_six]
    show ((b.val * 8192 + i.val) * 8 + h.val) * 64 + (g.val * 32 + e.val * 16 + r.val)
      = ((((b.val * 8192 + i.val) * 8 + h.val) * 2 + g.val) * 2 + e.val) * 16 + r.val
    omega
  rw [e₁, lanes_at]

theorem swapped_first (x0 : FVec Ideal S2x8192x8x192 .f32) (b : Fin 2) (i : Fin 8192) (h : Fin 8) (g : Fin 2) (r : Fin 16) :
    val_main_v10 (F := Ideal) x0 (ValueIdx.ix6 b i h g 0 r)
      = - x0 (ix4 b i h ⟨128 + (g.val * 32 + 16 + r.val), by omega⟩) := by
  have e₁ : val_main_v10 (F := Ideal) x0 (ValueIdx.ix6 b i h g 0 r)
      = val_main_v8 (F := Ideal) x0 (ValueIdx.ix6 b i h g 0 r) := by
    unfold val_main_v10
    generalize val_main_v8 (F := Ideal) x0 = y
    generalize val_main_v9 (F := Ideal) x0 = z
    exact concatenate_pair_apply_left (t := S2x8192x8x2x2x16) (s₁ := S2x8192x8x2x1x16) (s₂ := S2x8192x8x2x1x16) 4 y z
      Gen.concatenates_S2x8192x8x2x1x16_S2x8192x8x2x1x16_S2x8192x8x2x2x16_d4 (ValueIdx.ix6 b i h g 0 r) rfl
      (ValueIdx.ix6 b i h g 0 r) fun a => match a with
      | ⟨0, _⟩ => rfl | ⟨1, _⟩ => rfl | ⟨2, _⟩ => rfl | ⟨3, _⟩ => rfl | ⟨4, _⟩ => rfl | ⟨5, _⟩ => rfl
  have e₂ : idx_main_v7 (ValueIdx.ix6 b i h g 0 r) = ValueIdx.ix6 b i h g 1 r := by
    funext a
    match a with
    | ⟨0, _⟩ => rfl | ⟨1, _⟩ => rfl | ⟨2, _⟩ => rfl | ⟨3, _⟩ => rfl | ⟨4, _⟩ => rfl | ⟨5, _⟩ => rfl
  rw [e₁, val_main_v8_apply, val_main_v7_apply, e₂, halves_at]
  rfl

theorem swapped_last (x0 : FVec Ideal S2x8192x8x192 .f32) (b : Fin 2) (i : Fin 8192) (h : Fin 8) (g : Fin 2) (r : Fin 16) :
    val_main_v10 (F := Ideal) x0 (ValueIdx.ix6 b i h g 1 r)
      = x0 (ix4 b i h ⟨128 + (g.val * 32 + r.val), by omega⟩) := by
  have e₁ : val_main_v10 (F := Ideal) x0 (ValueIdx.ix6 b i h g 1 r)
      = val_main_v9 (F := Ideal) x0 (ValueIdx.ix6 b i h g 0 r) := by
    unfold val_main_v10
    generalize val_main_v8 (F := Ideal) x0 = y
    generalize val_main_v9 (F := Ideal) x0 = z
    exact concatenate_pair_apply_right (t := S2x8192x8x2x2x16) (s₁ := S2x8192x8x2x1x16) (s₂ := S2x8192x8x2x1x16) 4 y z
      Gen.concatenates_S2x8192x8x2x1x16_S2x8192x8x2x1x16_S2x8192x8x2x2x16_d4 (ValueIdx.ix6 b i h g 1 r) rfl rfl
      (ValueIdx.ix6 b i h g 0 r) (fun a => match a with
        | ⟨0, _⟩ => fun _ => rfl | ⟨1, _⟩ => fun _ => rfl | ⟨2, _⟩ => fun _ => rfl | ⟨3, _⟩ => fun _ => rfl
        | ⟨4, _⟩ => fun ha => absurd rfl ha | ⟨5, _⟩ => fun _ => rfl) rfl
  have e₂ : idx_main_v9 (ValueIdx.ix6 b i h g 0 r) = ValueIdx.ix6 b i h g 0 r := by
    funext a
    match a with
    | ⟨0, _⟩ => rfl | ⟨1, _⟩ => rfl | ⟨2, _⟩ => rfl | ⟨3, _⟩ => rfl | ⟨4, _⟩ => rfl | ⟨5, _⟩ => rfl
  rw [e₁, val_main_v9_apply, e₂, halves_at]
  refine congrArg x0 ?_
  funext a
  match a with
  | ⟨0, _⟩ => rfl | ⟨1, _⟩ => rfl | ⟨2, _⟩ => rfl
  | ⟨3, _⟩ => exact Fin.ext (by show 128 + (g.val * 32 + 0 * 16 + r.val) = 128 + (g.val * 32 + r.val); omega)

theorem swapped_at (x0 : FVec Ideal S2x8192x8x192 .f32) (b : Fin 2) (i : Fin 8192) (h : Fin 8) (j : Fin 64) :
    val_main_v11 (F := Ideal) x0 (ix4 b i h j)
      = if hj : j.val % 32 < 16 then - x0 (ix4 b i h ⟨128 + (j.val + 16), by omega⟩)
        else x0 (ix4 b i h ⟨128 + (j.val - 16), by omega⟩) := by
  have hj64 := j.isLt
  have e₁ : ∀ (e : Fin 2), j.val % 32 / 16 = e.val → val_main_v11 (F := Ideal) x0 (ix4 b i h j)
      = val_main_v10 (F := Ideal) x0 (ValueIdx.ix6 b i h ⟨j.val / 32, by omega⟩ e ⟨j.val % 16, by omega⟩) := by
    intro e he
    unfold val_main_v11
    generalize val_main_v10 (F := Ideal) x0 = y
    refine shapeCast_apply y _ _ _ ?_
    rw [Shape.rowMajor_val_four, Shape.rowMajor_val_six]
    show ((((b.val * 8192 + i.val) * 8 + h.val) * 2 + j.val / 32) * 2 + e.val) * 16 + j.val % 16
      = ((b.val * 8192 + i.val) * 8 + h.val) * 64 + j.val
    omega
  by_cases hj : j.val % 32 < 16
  · rw [e₁ 0 (by show _ = 0; omega), swapped_first]
    simp only [hj, ↓reduceDIte]
    have : j.val / 32 * 32 + 16 + j.val % 16 = j.val + 16 := by omega
    simp only [this]
  · rw [e₁ 1 (by show _ = 1; omega), swapped_last]
    simp only [hj, ↓reduceDIte]
    have : j.val / 32 * 32 + j.val % 16 = j.val - 16 := by omega
    simp only [this]

theorem cosq_at (x4 : FVec Ideal S8192x64 .f32) (b : Fin 2) (i : Fin 8192) (h : Fin 8) (j : Fin 64) :
    val_main_v13 (F := Ideal) x4 (ix4 b i h j) = x4 (ix2 i j) := by
  rw [val_main_v13_apply, val_main_v12_apply, val_main_v4_apply]
  refine congrArg x4 ?_
  funext a
  match a with
  | ⟨0, _⟩ => rfl | ⟨1, _⟩ => rfl

theorem sinq_at (x5 : FVec Ideal S8192x64 .f32) (b : Fin 2) (i : Fin 8192) (h : Fin 8) (j : Fin 64) :
    val_main_v16 (F := Ideal) x5 (ix4 b i h j) = x5 (ix2 i j) := by
  rw [val_main_v16_apply, val_main_v15_apply, val_main_v5_apply]
  refine congrArg x5 ?_
  funext a
  match a with
  | ⟨0, _⟩ => rfl | ⟨1, _⟩ => rfl

section Arrays

variable (x0 : FVec Ideal S2x8192x8x192 .f32) (x1 : FVec Ideal S2x8448x8x256 .f32) (x2 : FVec Ideal S2x256x64 .f32)
  (x3 : FVec Ideal S2x8192x64 .f32) (x4 x5 : FVec Ideal S8192x64 .f32) (A : Arrays) (hA : Holds x0 x1 x2 x3 x4 x5 A)
include hA

theorem query_at (b : Fin 2) (i : Fin 8192) (h : Fin 8) (j : Fin 64) :
    val_main_v18 (F := Ideal) x0 x4 x5 (ix4 b i h j)
      = ((turn (fun j => A.q b i h ⟨128 + j.val, by omega⟩) (A.cos i) (A.sin i) j : ℝ) : EReal) := by
  rw [val_main_v18_apply, val_main_v14_apply, val_main_v17_apply, lanes_at, cosq_at, sinq_at, swapped_at]
  exact turn_coe _ _ _ (fun j => x0 (ix4 b i h ⟨128 + j.val, by omega⟩)) (fun j => x4 (ix2 i j)) (fun j => x5 (ix2 i j))
    (fun j => hA.q _ _ _ _) (fun j => hA.cos _ _) (fun j => hA.sin _ _) j

theorem plain_at (b : Fin 2) (h : Fin 8) (i : Fin 8192) (k : Fin 8448) :
    val_main_v33 (F := Ideal) x0 x1 (ix4 b h i k)
      = ((∑ x : Fin 128, A.q b i h ⟨x.val, by omega⟩ * A.kv b k h ⟨x.val, by omega⟩ : ℝ) : EReal) := by
  rw [val_main_v33_apply, ← Softmax.coe_sum]
  refine Finset.sum_congr rfl fun x _ => ?_
  have e₀ : idx_main_v0 (lidx_main_v33 (ix4 b h i k) x) = ix4 b i h ⟨x.val, by omega⟩ := by
    funext a
    match a with
    | ⟨0, _⟩ => rfl | ⟨1, _⟩ => rfl | ⟨2, _⟩ => rfl | ⟨3, _⟩ => rfl
  have e₂ : idx_main_v2 (ridx_main_v33 (ix4 b h i k) x) = ix4 b k h ⟨x.val, by omega⟩ := by
    funext a
    match a with
    | ⟨0, _⟩ => rfl | ⟨1, _⟩ => rfl | ⟨2, _⟩ => rfl | ⟨3, _⟩ => rfl
  rw [val_main_v0_apply, val_main_v2_apply, e₀, e₂, hA.q, hA.kv, EReal.coe_mul]

theorem rotary_at (b : Fin 2) (h : Fin 8) (i : Fin 8192) (k : Fin 8448) :
    val_main_v35 (F := Ideal) x0 x2 x3 x4 x5 (ix4 b h i k)
      = ((∑ j : Fin 64, turn (fun j => A.q b i h ⟨128 + j.val, by omega⟩) (A.cos i) (A.sin i) j * keyRow A b k j : ℝ)
        : EReal) := by
  rw [val_main_v35_apply, val_main_v34_apply, ← Softmax.coe_sum]
  refine Finset.sum_congr rfl fun j _ => ?_
  have e₀ : lidx_main_v34 (idx_main_v35 (ix4 b h i k)) j = ix3 b k j := by
    funext a
    match a with
    | ⟨0, _⟩ => rfl | ⟨1, _⟩ => rfl | ⟨2, _⟩ => rfl
  have e₂ : ridx_main_v34 (idx_main_v35 (ix4 b h i k)) j = ix4 b i h j := by
    funext a
    match a with
    | ⟨0, _⟩ => rfl | ⟨1, _⟩ => rfl | ⟨2, _⟩ => rfl | ⟨3, _⟩ => rfl
  rw [e₀, e₂, RefKeys.keys_at x0 x1 x2 x3 x4 x5 A hA, query_at x0 x1 x2 x3 x4 x5 A hA, mul_comm, EReal.coe_mul]

variable (C : ℝ) (hC : Host.scale = (C : EReal))
include hC

theorem score_at (b : Fin 2) (h : Fin 8) (i : Fin 8192) (k : Fin 8448) :
    val_main_v38 (F := Ideal) x0 x1 x2 x3 x4 x5 (ix4 b h i k) = ((dot A b h i k * C : ℝ) : EReal) := by
  rw [val_main_v38_apply, val_main_v36_apply, val_main_v37_apply, plain_at x0 x1 x2 x3 x4 x5 A hA,
    rotary_at x0 x1 x2 x3 x4 x5 A hA]
  have e : val_main_cst (F := Ideal) (idx_main_v37 (ix4 b h i k)) = (C : EReal) := hC
  rw [e]
  unfold dot
  rw [EReal.coe_mul, EReal.coe_add]
  rfl

/-- The largest score of a query is a real number. -/
theorem largest (b : Fin 2) (h : Fin 8) (i : Fin 8192) :
    ∃ M : ℝ, val_main_v41 (F := Ideal) x0 x1 x2 x3 x4 x5 (ix3 b h i) = (M : EReal) := by
  obtain ⟨M, hM⟩ := Softmax.fold_max_real_of_pos (n := 8448) (by omega) fun k => dot A b h i k * C
  refine ⟨M, ?_⟩
  have e₁ : val_main_v40 (F := Ideal) (ix3 b h i) = (⊥ : EReal) := by
    rw [val_main_v40_apply, val_main_cst_1_apply]
    exact Block.bot_eq
  have e₂ : val_main_v39 (F := Ideal) x0 x1 x2 x3 x4 x5 (ix3 b h i) = (M : EReal) := by
    unfold val_main_v39
    rw [hostmax_at, ← hM, val_main_cst_0_apply]
    have e₃ : FloatOps.ofBits (F := Ideal) .f32 0xFF800000#32 = (⊥ : EReal) := Block.bot_eq
    rw [e₃]
    exact Finset.fold_congr fun k _ => score_at x0 x1 x2 x3 x4 x5 A hA C hC b h i k
  rw [val_main_v41_apply, e₁, e₂]
  exact max_eq_right bot_le

theorem weight_at (b : Fin 2) (h : Fin 8) (i : Fin 8192) (k : Fin 8448) (M : ℝ)
    (hM : val_main_v41 (F := Ideal) x0 x1 x2 x3 x4 x5 (ix3 b h i) = (M : EReal)) :
    val_main_v45 (F := Ideal) x0 x1 x2 x3 x4 x5 (ix4 b h i k)
      = Ideal.exp (((dot A b h i k * C : ℝ) : EReal) - (M : EReal)) := by
  have e : idx_main_v42 (idx_main_v43 (ix4 b h i k)) = ix3 b h i := by
    funext a
    match a with
    | ⟨0, _⟩ => rfl | ⟨1, _⟩ => rfl | ⟨2, _⟩ => rfl
  rw [val_main_v45_apply, val_main_v44_apply, val_main_v43_apply, val_main_v42_apply, e, hM,
    score_at x0 x1 x2 x3 x4 x5 A hA C hC]
  rfl

theorem total_at (b : Fin 2) (h : Fin 8) (i : Fin 8192) (M : ℝ)
    (hM : val_main_v41 (F := Ideal) x0 x1 x2 x3 x4 x5 (ix3 b h i) = (M : EReal)) :
    val_main_v46 (F := Ideal) x0 x1 x2 x3 x4 x5 (ix3 b h i)
      = ∑ k, Ideal.exp (((dot A b h i k * C : ℝ) : EReal) - (M : EReal)) := by
  have e₀ : val_main_cst_2 (F := Ideal) (Shape.Idx.first Gen.h_S_) = (0 : EReal) := Ideal.ofBits_zero_f32
  rw [val_main_v46_apply, e₀, zero_add]
  refine Finset.sum_congr rfl fun k _ => ?_
  have e : idx_main_v46 (ix3 b h i) k = ix4 b h i k := by
    funext a
    match a with
    | ⟨0, _⟩ => rfl | ⟨1, _⟩ => rfl | ⟨2, _⟩ => rfl | ⟨3, _⟩ => rfl
  rw [e, weight_at x0 x1 x2 x3 x4 x5 A hA C hC b h i k M hM]

theorem value_at (b : Fin 2) (h : Fin 8) (i : Fin 8192) (d : Fin 128) :
    val_main_v50 (F := Ideal) x0 x1 x2 x3 x4 x5 (ix4 b h d i) = ((attended A C b h i d : ℝ) : EReal) := by
  obtain ⟨M, hM⟩ := largest x0 x1 x2 x3 x4 x5 A hA C hC b h i
  rw [val_main_v50_apply]
  refine Eq.trans (Finset.sum_congr rfl fun k _ => ?_)
    (Softmax.at_once (n := 8448) (by omega) (fun k => dot A b h i k * C) (fun k => A.kv b k h ⟨128 + d.val, by omega⟩)
      (M := (M : EReal)) ⟨M, rfl⟩ (total_at x0 x1 x2 x3 x4 x5 A hA C hC b h i M hM))
  have e₀ : idx_main_v3 (lidx_main_v50 (ix4 b h d i) k) = ix4 b k h ⟨128 + d.val, by omega⟩ := by
    funext a
    match a with
    | ⟨0, _⟩ => rfl | ⟨1, _⟩ => rfl | ⟨2, _⟩ => rfl
    | ⟨3, _⟩ => exact Fin.ext (by show _ + d.val = 128 + d.val; omega)
  have e₁ : ridx_main_v50 (ix4 b h d i) k = ix4 b h i k := by
    funext a
    match a with
    | ⟨0, _⟩ => rfl | ⟨1, _⟩ => rfl | ⟨2, _⟩ => rfl | ⟨3, _⟩ => rfl
  have e₂ : idx_main_v47 (idx_main_v48 (ix4 b h i k)) = ix3 b h i := by
    funext a
    match a with
    | ⟨0, _⟩ => rfl | ⟨1, _⟩ => rfl | ⟨2, _⟩ => rfl
  rw [val_main_v3_apply, e₀, e₁, hA.kv, val_main_v49_apply, val_main_v48_apply, val_main_v47_apply, e₂,
    weight_at x0 x1 x2 x3 x4 x5 A hA C hC b h i k M hM]
  rfl

/-- The reference's result. -/
theorem array_eq : val_main_v52 (F := Ideal) x0 x1 x2 x3 x4 x5 = result A C := by
  funext y
  obtain ⟨b, i, h, d, rfl⟩ : ∃ (b : Fin 2) (i : Fin 8192) (h : Fin 8) (d : Fin 128),
      y = ix3 b i ⟨h.val * 128 + d.val, by omega⟩ := by
    have h₂ : (y 2).val < 1024 := (y 2).isLt
    refine ⟨y 0, y 1, ⟨(y 2).val / 128, by omega⟩, ⟨(y 2).val % 128, by omega⟩, ?_⟩
    funext a
    match a with
    | ⟨0, _⟩ => rfl | ⟨1, _⟩ => rfl
    | ⟨2, _⟩ => exact Fin.ext (by show (y 2).val = (y 2).val / 128 * 128 + (y 2).val % 128; omega)
  have e : idx_main_v51 (idx_main_v52 (ix3 b i ⟨h.val * 128 + d.val, by omega⟩)) = ix4 b h d i := by
    have hb := b.isLt
    have hi := i.isLt
    have hh := h.isLt
    have hd := d.isLt
    funext a
    match a with
    | ⟨0, _⟩ => exact Fin.ext (by show ((b.val * 8192 + i.val) * 1024 + (h.val * 128 + d.val)) / 8388608 = b.val; omega)
    | ⟨1, _⟩ => exact Fin.ext (by show ((b.val * 8192 + i.val) * 1024 + (h.val * 128 + d.val)) / 128 % 8 = h.val; omega)
    | ⟨2, _⟩ => exact Fin.ext (by show ((b.val * 8192 + i.val) * 1024 + (h.val * 128 + d.val)) % 128 = d.val; omega)
    | ⟨3, _⟩ => exact Fin.ext (by
        show ((b.val * 8192 + i.val) * 1024 + (h.val * 128 + d.val)) / 1024 % 8192 = i.val; omega)
  rw [val_main_v52_apply, val_main_v51_apply, e, value_at x0 x1 x2 x3 x4 x5 A hA C hC, result_at]

end Arrays

end Cert.Proof.RefValue

end
-- ==== Proof.Finite.lean ====
/-
  What the precondition gives: every entry of the six arrays is a real number.
-/
module

public import proofs.«01_k».proof.Pre_finite
public import proofs.«01_k».proof.Proof.Gen.Pre_finite
public import proofs.«01_k».proof.Proof.KernelValue
public import Idealize.ShloMosaic.Lib.ReduceAll

@[expose] public section

set_option maxRecDepth 16384

noncomputable section

namespace Cert.Proof.Finite

open Idealize.ShloMosaic Cert.Pre_finite
open Cert.Proof.Spec Cert.Proof.KernelValue

theorem top_eq : Ideal.ofBits .f32 0x7F800000#32 = ⊤ := by simp [Ideal.ofBits, Ideal.ieee]

theorem bot_eq' : Ideal.ofBits .f32 0xFF800000#32 = ⊥ := by simp [Ideal.ofBits, Ideal.ieee]

/-- An array all of whose entries lie strictly between the infinities holds real numbers. -/
theorem real_of_all {s : Shape} {axes : List (Fin s.rank)} (x : FVec Ideal s .f32)
    (hb hb' : (⟨0, ![]⟩ : Shape).BroadcastsInDim s ![])
    (h : s.ReducesTo axes ⟨0, ![]⟩) (hu : 0 < (⟨0, ![]⟩ : Shape).numel)
    (e : Host.reduce IntOp.andi
      (andi (cmpf .olt x (broadcastInDim s ![] hb (constant ⟨0, ![]⟩ .f32 0x7F800000#32)))
        (cmpf .ogt x (broadcastInDim s ![] hb' (constant ⟨0, ![]⟩ .f32 0xFF800000#32))))
      (constantI ⟨0, ![]⟩ 1 1#1) h hu (Shape.Idx.first hu) = 1#1) (i : s.Idx) :
    x i = ((EReal.toReal (x i) : ℝ) : EReal) := by
  have hsub : Subsingleton (⟨0, ![]⟩ : Shape).Idx := ⟨fun a b => funext fun k => k.elim0⟩
  have hi := Host.reduce_andi_all _ _ h hu _ e i
  obtain ⟨h1, h2⟩ := IntOp.andi_eq_one.1 hi
  have h1' : Ideal.cmp .olt (x i) (Ideal.ofBits .f32 0x7F800000#32) = 1#1 := h1
  have h2' : Ideal.cmp .ogt (x i) (Ideal.ofBits .f32 0xFF800000#32) = 1#1 := h2
  rw [top_eq] at h1'
  rw [bot_eq'] at h2'
  refine (EReal.coe_toReal (fun ht => ?_) fun ht => ?_).symm
  · rw [ht] at h1'
    simp [Ideal.cmp] at h1'
  · rw [ht] at h2'
    simp [Ideal.cmp] at h2'

/-- The real numbers six arrays hold. -/
def reals (x0 : FVec Ideal S2x8192x8x192 .f32) (x1 : FVec Ideal S2x8448x8x256 .f32) (x2 : FVec Ideal S2x256x64 .f32)
    (x3 : FVec Ideal S2x8192x64 .f32) (x4 x5 : FVec Ideal S8192x64 .f32) : Arrays where
  q b i h x := EReal.toReal (x0 (ix4 b i h x))
  kv b k h x := EReal.toReal (x1 (ix4 b k h x))
  ck b k j := EReal.toReal (x2 (ix3 b k j))
  lk b k j := EReal.toReal (x3 (ix3 b k j))
  cos i j := EReal.toReal (x4 (ix2 i j))
  sin i j := EReal.toReal (x5 (ix2 i j))

theorem holds (x0 : FVec Ideal S2x8192x8x192 .f32) (x1 : FVec Ideal S2x8448x8x256 .f32) (x2 : FVec Ideal S2x256x64 .f32)
    (x3 : FVec Ideal S2x8192x64 .f32) (x4 x5 : FVec Ideal S8192x64 .f32)
    (e : ∀ i, fn (F := Ideal) x0 x1 x2 x3 x4 x5 i = 1#1) : Holds x0 x1 x2 x3 x4 x5 (reals x0 x1 x2 x3 x4 x5) := by
  have e := e (Shape.Idx.first Facts.h_S_)
  dsimp only [fn, fn_part1, fn_part2] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun b i h x => real_of_all x0 _ _ _ _ e0 _, fun b i h x => real_of_all x1 _ _ _ _ e1 _,
    fun b i h => real_of_all x2 _ _ _ _ e2 _, fun b i h => real_of_all x3 _ _ _ _ e3 _,
    fun i h => real_of_all x4 _ _ _ _ e4 _, fun i h => real_of_all x5 _ _ _ _ e5 _⟩

end Cert.Proof.Finite

end
-- ==== Proof.Glu.lean ====
/-
  The gated projection that ends a state-space block: the host code adds the skip and applies the activation, the kernel
  multiplies tiles of 512 rows by tiles of 512 columns of the two weights and stores the one product times the logistic
  of the other; the reference multiplies whole rows.
-/
module

public import proofs.«01_k».proof.Proof.Gen.GluIdeal.Value
public import proofs.«01_k».proof.Proof.Gen.GluReferenceIdeal.Read
public import proofs.«01_k».proof.Proof.Rows
public import Idealize.ShloMosaic.Lib.Claim
public import Idealize.ShloMosaic.Lib.StableHlo.ReadAt

@[expose] public section

set_option maxRecDepth 16384

noncomputable section

namespace Cert.Proof.Glu

open Idealize.ShloMosaic Idealize.ShloMosaic.TcCoe Cert.GluIdeal Cert.GluIdeal.Gen

theorem dims : dot_S512x2048_S2048x512_S512x512_1_0_0_1_n_n = DotDims.plain 512 2048 512 := rfl

/-- What the body stores: the product of its rows with the first weights, times the logistic of that with the second. -/
theorem tile_at (x : Vec Ideal S512x2048 .f32) (w v : Vec Ideal S2048x512 .bf16) (r d : Fin 512) :
    k0_pay1 x w v (ix2 r d) = (∑ k : Fin 2048, x (ix2 r k) * w (ix2 k d))
      * Ideal.logistic (∑ k : Fin 2048, x (ix2 r k) * v (ix2 k d)) := by
  have h : ∀ y : Vec Ideal S2048x512 .bf16,
      matmul dot_S512x2048_S2048x512_S512x512_1_0_0_1_n_n none
        (truncf .bf16 (shapeCast S512x2048 x shapeCasts_S512x2048_S512x2048) bitsLt_bf16_f32 : FVec Ideal S512x2048 .bf16)
        (shapeCast S2048x512 y shapeCasts_S2048x512_S2048x512 : FVec Ideal S2048x512 .bf16) (constant S512x512 .f32 0x00000000#32) (ix2 r d)
      = ∑ k : Fin 2048, x (ix2 r k) * y (ix2 k d) := fun y => by
    rw [dims]
    refine (Rows.product_at _ _ r d).trans (Finset.sum_congr rfl fun k _ => ?_)
    pointwise
  exact congrArg₂ (fun a g : EReal => a * Ideal.logistic g) (h w) (h v)

variable (m : (ℓ : Loc nD τ sig) → Buf (Elt Ideal) ℓ) (c : Dev nD)

/-- The scanned states as launched. -/
abbrev argY : FVec Ideal S2x8192x2048 .f32 := m ((c : Thread nD τ).loc main_arg0)
/-- The block's input as launched. -/
abbrev argH : FVec Ideal S2x8192x2048 .f32 := m ((c : Thread nD τ).loc main_arg1)
/-- The skip's coefficients as launched. -/
abbrev argD : FVec Ideal S2048 .f32 := m ((c : Thread nD τ).loc main_arg2)
/-- The weights of the product as launched. -/
abbrev argO : FVec Ideal S2048x2048 .f32 := m ((c : Thread nD τ).loc main_arg3)
/-- The weights of the gate as launched. -/
abbrev argG : FVec Ideal S2048x2048 .f32 := m ((c : Thread nD τ).loc main_arg4)

/-- The states with the skip added and the activation applied. -/
abbrev active (x0 x1 : FVec Ideal S2x8192x2048 .f32) (x2 : FVec Ideal S2048 .f32) : FVec Ideal S2x8192x2048 .f32 :=
  Cert.GluReferenceIdeal.Read.val_main_v16 (F := Ideal) x0 x1 x2

/-- The host code computes them as the reference does, and lays the batches one below the other. -/
theorem x_eq : V m c main_v17
    = shapeCast S16384x2048 (active (argY m c) (argH m c) (argD m c)) shapeCasts_S2x8192x2048_S16384x2048 := by
  unfold V
  after_reads_simp
  rfl

theorem x_at (i : Fin 16384) (k : Fin 2048) : V m c main_v17 (ix2 i k)
    = active (argY m c) (argH m c) (argD m c) (ix3 ⟨i.val / 8192, by omega⟩ ⟨i.val % 8192, by omega⟩ k) := by
  rw [x_eq]
  generalize active (argY m c) (argH m c) (argD m c) = y
  refine shapeCast_apply y _ _ _ ?_
  rw [Shape.rowMajor_val_three, Shape.rowMajor_val_two]
  show (i.val / 8192 * 8192 + i.val % 8192) * 2048 + k.val = i.val * 2048 + k.val
  omega

theorem w_at (k : Fin 2048) (j : Fin 2048) : V m c main_v18 (ix2 k j) = argO m c (ix2 k j) := by
  unfold V
  after_reads_at

theorem v_at (k : Fin 2048) (j : Fin 2048) : V m c main_v19 (ix2 k j) = argG m c (ix2 k j) := by
  unfold V
  after_reads_at

theorem idx0 : ∀ t : Fin cfg0.N, win0_0.index t = ![(grid0.coords t 0).val, 0] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![0, (grid0.coords t 1).val] := (by decide +kernel : ∀ t : Fin grid0.N, _)
theorem idx3 : ∀ t : Fin cfg0.N, win0_3.index t = ![(grid0.coords t 0).val, (grid0.coords t 1).val] :=
  (by decide +kernel : ∀ t : Fin grid0.N, _)

/-- Row r of an iteration's rows, and column d of its columns. -/
abbrev row (t : Fin cfg0.N) (r : Fin 512) : Fin 16384 :=
  ⟨(grid0.coords t 0).val * 512 + r.val, by have : (grid0.coords t 0).val < 32 := (grid0.coords t 0).isLt; omega⟩
abbrev col (t : Fin cfg0.N) (d : Fin 512) : Fin 2048 :=
  ⟨(grid0.coords t 1).val * 512 + d.val, by have : (grid0.coords t 1).val < 4 := (grid0.coords t 1).isLt; omega⟩

variable (t : Fin cfg0.N)

theorem blk0_at (r : Fin 512) (k : Fin 2048) : iblk m c 0 t (ix2 r k) = V m c main_v17 (ix2 (row t r) k) := by
  blk_ext [iblk, idx0 t]

theorem blk1_at (k : Fin 2048) (d : Fin 512) : iblk m c 1 t (ix2 k d) = V m c main_v18 (ix2 k (col t d)) := by
  blk_ext [iblk, idx1 t]

theorem blk2_at (k : Fin 2048) (d : Fin 512) : iblk m c 2 t (ix2 k d) = V m c main_v19 (ix2 k (col t d)) := by
  blk_ext [iblk, idx2 t]

theorem emb3 (r d : Fin 512) : (win0_3.blk t).view.emb (ix2 r d) = ix2 (row t r) (col t d) := by
  blk_ext [idx3 t]

theorem one_word : (FloatOps.ofBits .f32 0x3F800000#32 : Ideal .f32) = (1 : EReal) := by
  show Ideal.ofBits .f32 0x3F800000#32 = 1
  simp [Ideal.ofBits, Ideal.ieee, -EReal.coe_mul]
  norm_num

/-- The quotient the reference writes is the logistic function. -/
theorem logistic_eq (x : EReal) : (FloatOps.hostDivf (FloatOps.ofBits .f32 0x3F800000#32 : Ideal .f32)
    (FloatOps.addf (FloatOps.ofBits .f32 0x3F800000#32 : Ideal .f32)
      (FloatOps.hostUnary .exp (FloatOps.hostNegf (x : Ideal .f32)))) : EReal) = Ideal.logistic x := by
  rw [one_word]
  rfl

/-- An index of the reference's row-by-row array, from the flat row. -/
theorem flat_index (i : Fin 16384) (j : Fin 2048) : Cert.GluReferenceIdeal.Read.idx_main_v26 (ix2 i j)
    = ix3 ⟨i.val / 8192, by omega⟩ ⟨i.val % 8192, by omega⟩ j := by
  funext a
  match a with
  | ⟨0, _⟩ => exact Fin.ext (by show (i.val * 2048 + j.val) / 16777216 = i.val / 8192; omega)
  | ⟨1, _⟩ => exact Fin.ext (by show (i.val * 2048 + j.val) / 2048 % 8192 = i.val % 8192; omega)
  | ⟨2, _⟩ => exact Fin.ext (by show (i.val * 2048 + j.val) % 2048 = j.val; omega)

theorem first_at (x0 x1 : FVec Ideal S2x8192x2048 .f32) (x2 : FVec Ideal S2048 .f32) (x3 : FVec Ideal S2048x2048 .f32)
    (b : Fin 2) (i : Fin 8192) (j : Fin 2048) : Cert.GluReferenceIdeal.Read.val_main_v17 (F := Ideal) x0 x1 x2 x3 (ix3 b i j)
      = ∑ k : Fin 2048, active x0 x1 x2 (ix3 b i k) * x3 (ix2 k j) := by
  rw [Cert.GluReferenceIdeal.Read.val_main_v17_apply]
  refine Finset.sum_congr rfl fun k _ => congrArg₂ (· * ·) (congrArg _ ?_) (congrArg x3 ?_)
  · funext a
    match a with
    | ⟨0, _⟩ => rfl
    | ⟨1, _⟩ => rfl
    | ⟨2, _⟩ => rfl
  · funext a
    match a with
    | ⟨0, _⟩ => rfl
    | ⟨1, _⟩ => rfl

theorem second_at (x0 x1 : FVec Ideal S2x8192x2048 .f32) (x2 : FVec Ideal S2048 .f32) (x4 : FVec Ideal S2048x2048 .f32)
    (b : Fin 2) (i : Fin 8192) (j : Fin 2048) : Cert.GluReferenceIdeal.Read.val_main_v18 (F := Ideal) x0 x1 x2 x4 (ix3 b i j)
      = ∑ k : Fin 2048, active x0 x1 x2 (ix3 b i k) * x4 (ix2 k j) := first_at x0 x1 x2 x4 b i j

/-- The reference at a row and a column. -/
theorem reference_at (x0 x1 : FVec Ideal S2x8192x2048 .f32) (x2 : FVec Ideal S2048 .f32) (x3 x4 : FVec Ideal S2048x2048 .f32)
    (i : Fin 16384) (j : Fin 2048) : Cert.GluReferenceIdeal.Read.val_main_v26 (F := Ideal) x0 x1 x2 x3 x4 (ix2 i j)
      = (∑ k : Fin 2048, active x0 x1 x2 (ix3 ⟨i.val / 8192, by omega⟩ ⟨i.val % 8192, by omega⟩ k) * x3 (ix2 k j))
        * Ideal.logistic (∑ k : Fin 2048, active x0 x1 x2 (ix3 ⟨i.val / 8192, by omega⟩ ⟨i.val % 8192, by omega⟩ k)
          * x4 (ix2 k j)) := by
  rw [Cert.GluReferenceIdeal.Read.val_main_v26_apply, flat_index, Cert.GluReferenceIdeal.Read.val_main_v25_apply,
    Cert.GluReferenceIdeal.Read.val_main_v24_apply, Cert.GluReferenceIdeal.Read.val_main_v23_apply,
    Cert.GluReferenceIdeal.Read.val_main_cst_4_apply, Cert.GluReferenceIdeal.Read.val_main_v22_apply,
    Cert.GluReferenceIdeal.Read.val_main_v21_apply, Cert.GluReferenceIdeal.Read.val_main_cst_3_apply,
    Cert.GluReferenceIdeal.Read.val_main_v20_apply, Cert.GluReferenceIdeal.Read.val_main_v19_apply,
    logistic_eq, first_at, second_at]
  rfl

/-- An array with the gated products at every row and column is what the kernel leaves. -/
theorem array_of (G : FVec Ideal S16384x2048 .f32) (hG : ∀ (i : Fin 16384) (j : Fin 2048), G (ix2 i j)
      = (∑ k : Fin 2048, active (argY m c) (argH m c) (argD m c) (ix3 ⟨i.val / 8192, by omega⟩ ⟨i.val % 8192, by omega⟩ k)
          * argO m c (ix2 k j))
        * Ideal.logistic (∑ k : Fin 2048, active (argY m c) (argH m c) (argD m c)
          (ix3 ⟨i.val / 8192, by omega⟩ ⟨i.val % 8192, by omega⟩ k) * argG m c (ix2 k j))) :
    (dats m 0 c).arrAt 3 cfg0.N = G := by
  refine (dats m 0 c).arrAt_eq_of_covers 3 _ (by decide +kernel) fun t hf y => ?_
  blk_simp
  rw [after0_3]
  frame_out
  obtain ⟨r, d, rfl⟩ : ∃ (r d : Fin 512), y = ix2 r d :=
    ⟨y 0, y 1, by
      funext a
      match a with
      | ⟨0, _⟩ => rfl
      | ⟨1, _⟩ => rfl⟩
  rw [emb3 t r d, hG]
  refine (tile_at _ _ _ r d).trans ?_
  refine congrArg₂ (fun a g : EReal => a * Ideal.logistic g) (Finset.sum_congr rfl fun k _ => ?_)
    (Finset.sum_congr rfl fun k _ => ?_)
  · rw [blk0_at, blk1_at, x_at, w_at]
  · rw [blk0_at, blk2_at, x_at, v_at]

/-- The array the kernel leaves is the reference's. -/
theorem array_eq : (dats m 0 c).arrAt 3 cfg0.N
    = Cert.GluReferenceIdeal.Read.val_main_v26 (F := Ideal) (argY m c) (argH m c) (argD m c) (argO m c) (argG m c) :=
  array_of m c _ fun i j => reference_at (argY m c) (argH m c) (argD m c) (argO m c) (argG m c) i j

end Cert.Proof.Glu

end
-- ==== Proof.HyenaIn.lean ====
/-
  The projection of the latents into the hyena's three branches: the kernel multiplies tiles of 512 rows by tiles of 512
  columns of the first 3072 columns of the weights; the reference multiplies by all 3904 columns and keeps the first 3072.
-/
module

public import proofs.«01_k».proof.Proof.Gen.HyenaInIdeal.Value
public import proofs.«01_k».proof.Proof.Gen.HyenaInReferenceIdeal.Read
public import proofs.«01_k».proof.Proof.Rows
public import Idealize.ShloMosaic.Lib.Claim
public import Idealize.ShloMosaic.Lib.StableHlo.ReadAt

@[expose] public section

set_option maxRecDepth 16384

noncomputable section

namespace Cert.Proof.HyenaIn

open Idealize.ShloMosaic Idealize.ShloMosaic.TcCoe Cert.HyenaInIdeal Cert.HyenaInIdeal.Gen

theorem dims : dot_S512x2048_S2048x512_S512x512_1_0_0_1_n_n = DotDims.plain 512 2048 512 := rfl

/-- What the body stores: the product of its two blocks. -/
theorem tile_at (x : Vec Ideal S512x2048 .f32) (w : Vec Ideal S2048x512 .bf16) (r d : Fin 512) :
    k0_pay1 x w (ix2 r d) = ∑ k : Fin 2048, x (ix2 r k) * w (ix2 k d) := by
  unfold k0_pay1
  rw [dims]
  refine (Rows.product_at _ _ r d).trans (Finset.sum_congr rfl fun k _ => ?_)
  pointwise

variable (m : (ℓ : Loc nD τ sig) → Buf (Elt Ideal) ℓ) (c : Dev nD)

/-- The latents as launched. -/
abbrev argX : FVec Ideal S2x8192x2048 .f32 := m ((c : Thread nD τ).loc main_arg0)
/-- The weights as launched. -/
abbrev argW : FVec Ideal S2048x3904 .f32 := m ((c : Thread nD τ).loc main_arg1)

/-- The rows, batch by batch. -/
theorem x_at (i : Fin 16384) (k : Fin 2048) : V m c main_v0 (ix2 i k)
    = argX m c (ix3 ⟨i.val / 8192, by omega⟩ ⟨i.val % 8192, by omega⟩ k) := by
  unfold V
  after_reads_at

/-- The weights' first columns. -/
theorem w_at (k : Fin 2048) (j : Fin 3072) : V m c main_v3 (ix2 k j) = argW m c (ix2 k ⟨j.val, by omega⟩) := by
  unfold V
  after_reads_at

theorem idx0 : ∀ t : Fin cfg0.N, win0_0.index t = ![(grid0.coords t 0).val, 0] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] :=
  (by decide +kernel : ∀ t : Fin grid0.N, _)

/-- Row r of an iteration's rows, and column d of its columns. -/
abbrev row (t : Fin cfg0.N) (r : Fin 512) : Fin 16384 :=
  ⟨(grid0.coords t 0).val * 512 + r.val, by have : (grid0.coords t 0).val < 32 := (grid0.coords t 0).isLt; omega⟩
abbrev col (t : Fin cfg0.N) (d : Fin 512) : Fin 3072 :=
  ⟨(grid0.coords t 1).val * 512 + d.val, by have : (grid0.coords t 1).val < 6 := (grid0.coords t 1).isLt; omega⟩

variable (t : Fin cfg0.N)

theorem blk0_at (r : Fin 512) (k : Fin 2048) : iblk m c 0 t (ix2 r k) = V m c main_v0 (ix2 (row t r) k) := by
  blk_ext [iblk, idx0 t]

theorem blk1_at (k : Fin 2048) (d : Fin 512) : iblk m c 1 t (ix2 k d) = V m c main_v3 (ix2 k (col t d)) := by
  blk_ext [iblk, idx1 t]

theorem emb2 (r d : Fin 512) : (win0_2.blk t).view.emb (ix2 r d) = ix2 (row t r) (col t d) := by
  blk_ext [idx2 t]

/-- The reference at a row and a column. -/
theorem reference_at (x0 : FVec Ideal S2x8192x2048 .f32) (x1 : FVec Ideal S2048x3904 .f32) (i : Fin 16384) (j : Fin 3072) :
    Cert.HyenaInReferenceIdeal.Read.val_main_v2 (F := Ideal) x0 x1 (ix2 i j)
      = ∑ k : Fin 2048, x0 (ix3 ⟨i.val / 8192, by omega⟩ ⟨i.val % 8192, by omega⟩ k) * x1 (ix2 k ⟨j.val, by omega⟩) := by
  rw [Cert.HyenaInReferenceIdeal.Read.val_main_v2_apply, Cert.HyenaInReferenceIdeal.Read.val_main_v1_apply,
    Cert.HyenaInReferenceIdeal.Read.val_main_v0_apply]
  refine Finset.sum_congr rfl fun k _ => congrArg₂ (· * ·) (congrArg x0 ?_) (congrArg x1 ?_)
  · funext a
    match a with
    | ⟨0, _⟩ => exact Fin.ext (by show (i.val * 3072 + j.val) / 25165824 = i.val / 8192; omega)
    | ⟨1, _⟩ => exact Fin.ext (by show (i.val * 3072 + j.val) / 3072 % 8192 = i.val % 8192; omega)
    | ⟨2, _⟩ => rfl
  · funext a
    match a with
    | ⟨0, _⟩ => rfl
    | ⟨1, _⟩ => exact Fin.ext (by show (i.val * 3072 + j.val) % 3072 = j.val; omega)

/-- An array with the projected latents at every row and column is what the kernel leaves. -/
theorem array_of (G : FVec Ideal S16384x3072 .f32) (hG : ∀ (i : Fin 16384) (j : Fin 3072), G (ix2 i j)
      = ∑ k : Fin 2048, argX m c (ix3 ⟨i.val / 8192, by omega⟩ ⟨i.val % 8192, by omega⟩ k)
        * argW m c (ix2 k ⟨j.val, by omega⟩)) : (dats m 0 c).arrAt 2 cfg0.N = G := by
  refine (dats m 0 c).arrAt_eq_of_covers 2 _ (by decide +kernel) fun t hf y => ?_
  blk_simp
  rw [after0_2]
  frame_out
  obtain ⟨r, d, rfl⟩ : ∃ (r d : Fin 512), y = ix2 r d :=
    ⟨y 0, y 1, by
      funext a
      match a with
      | ⟨0, _⟩ => rfl
      | ⟨1, _⟩ => rfl⟩
  rw [emb2 t r d, hG]
  refine (tile_at _ _ r d).trans (Finset.sum_congr rfl fun k _ => ?_)
  rw [blk0_at, blk1_at, x_at, w_at]

/-- The array the kernel leaves is the reference's. -/
theorem array_eq : (dats m 0 c).arrAt 2 cfg0.N
    = Cert.HyenaInReferenceIdeal.Read.val_main_v2 (F := Ideal) (argX m c) (argW m c) :=
  array_of m c _ fun i j => reference_at (argX m c) (argW m c) i j

end Cert.Proof.HyenaIn

end
-- ==== Proof.Out.lean ====
/-
  The projection of the hyena's and the attention's outputs: the kernel multiplies each by its half of the weights, tile by
  tile, and adds; the reference joins the two and multiplies once.
-/
module

public import proofs.«01_k».proof.Proof.Gen.OutIdeal.Value
public import proofs.«01_k».proof.Proof.Gen.OutReferenceIdeal.Read
public import proofs.«01_k».proof.Proof.Rows
public import Idealize.ShloMosaic.Lib.Claim
public import Idealize.ShloMosaic.Lib.StableHlo.ReadAt

@[expose] public section

set_option maxRecDepth 16384

noncomputable section

namespace Cert.Proof.Out

open Idealize.ShloMosaic Idealize.ShloMosaic.TcCoe Cert.OutIdeal Cert.OutIdeal.Gen

theorem dims : dot_S512x1024_S1024x512_S512x512_1_0_0_1_n_n = DotDims.plain 512 1024 512 := rfl

/-- What the body stores: the sum of the products of its blocks. -/
theorem tile_at (x : Vec Ideal S512x1024 .f32) (w : Vec Ideal S1024x512 .bf16) (y : Vec Ideal S512x1024 .f32)
    (v : Vec Ideal S1024x512 .bf16) (r d : Fin 512) : k0_pay1 x w y v (ix2 r d)
      = ∑ k : Fin 1024, x (ix2 r k) * w (ix2 k d) + ∑ k : Fin 1024, y (ix2 r k) * v (ix2 k d) := by
  have h : ∀ (x : Vec Ideal S512x1024 .f32) (y : Vec Ideal S1024x512 .bf16),
      matmul dot_S512x1024_S1024x512_S512x512_1_0_0_1_n_n none
        (truncf .bf16 (shapeCast S512x1024 x shapeCasts_S512x1024_S512x1024) bitsLt_bf16_f32 : FVec Ideal S512x1024 .bf16)
        (shapeCast S1024x512 y shapeCasts_S1024x512_S1024x512 : FVec Ideal S1024x512 .bf16) (constant S512x512 .f32 0x00000000#32) (ix2 r d)
      = ∑ k : Fin 1024, x (ix2 r k) * y (ix2 k d) := fun x y => by
    rw [dims]
    refine (Rows.product_at _ _ r d).trans (Finset.sum_congr rfl fun k _ => ?_)
    pointwise
  exact congrArg₂ (fun a g : EReal => a + g) (h x w) (h y v)

variable (m : (ℓ : Loc nD τ sig) → Buf (Elt Ideal) ℓ) (c : Dev nD)

/-- The hyena's output as launched. -/
abbrev argX : FVec Ideal S2x8192x1024 .f32 := m ((c : Thread nD τ).loc main_arg0)
/-- The attention's output as launched. -/
abbrev argY : FVec Ideal S2x8192x1024 .f32 := m ((c : Thread nD τ).loc main_arg1)
/-- The weights as launched. -/
abbrev argW : FVec Ideal S2048x2048 .f32 := m ((c : Thread nD τ).loc main_arg2)

theorem x_at (i : Fin 16384) (k : Fin 1024) : V m c main_v0 (ix2 i k)
    = argX m c (ix3 ⟨i.val / 8192, by omega⟩ ⟨i.val % 8192, by omega⟩ k) := by
  unfold V
  after_reads_at

theorem y_at (i : Fin 16384) (k : Fin 1024) : V m c main_v1 (ix2 i k)
    = argY m c (ix3 ⟨i.val / 8192, by omega⟩ ⟨i.val % 8192, by omega⟩ k) := by
  unfold V
  after_reads_at

/-- The weights' upper half. -/
theorem w_at (k : Fin 1024) (j : Fin 2048) : V m c main_v3 (ix2 k j) = argW m c (ix2 ⟨k.val, by omega⟩ j) := by
  unfold V
  after_reads_at

/-- The weights' lower half. -/
theorem v_at (k : Fin 1024) (j : Fin 2048) : V m c main_v4 (ix2 k j) = argW m c (ix2 ⟨1024 + k.val, by omega⟩ j) := by
  unfold V
  after_reads_at

theorem idx0 : ∀ t : Fin cfg0.N, win0_0.index t = ![(grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![0, (grid0.coords t 1).val] := (by decide +kernel : ∀ t : Fin grid0.N, _)
theorem idx3 : ∀ t : Fin cfg0.N, win0_3.index t = ![0, (grid0.coords t 1).val] := (by decide +kernel : ∀ t : Fin grid0.N, _)
theorem idx4 : ∀ t : Fin cfg0.N, win0_4.index t = ![(grid0.coords t 0).val, (grid0.coords t 1).val] :=
  (by decide +kernel : ∀ t : Fin grid0.N, _)

/-- Row r of an iteration's rows, and column d of its columns. -/
abbrev row (t : Fin cfg0.N) (r : Fin 512) : Fin 16384 :=
  ⟨(grid0.coords t 0).val * 512 + r.val, by have : (grid0.coords t 0).val < 32 := (grid0.coords t 0).isLt; omega⟩
abbrev col (t : Fin cfg0.N) (d : Fin 512) : Fin 2048 :=
  ⟨(grid0.coords t 1).val * 512 + d.val, by have : (grid0.coords t 1).val < 4 := (grid0.coords t 1).isLt; omega⟩

variable (t : Fin cfg0.N)

theorem blk0_at (r : Fin 512) (k : Fin 1024) : iblk m c 0 t (ix2 r k) = V m c main_v0 (ix2 (row t r) k) := by
  blk_ext [iblk, idx0 t]

theorem blk1_at (r : Fin 512) (k : Fin 1024) : iblk m c 1 t (ix2 r k) = V m c main_v1 (ix2 (row t r) k) := by
  blk_ext [iblk, idx1 t]

theorem blk2_at (k : Fin 1024) (d : Fin 512) : iblk m c 2 t (ix2 k d) = V m c main_v3 (ix2 k (col t d)) := by
  blk_ext [iblk, idx2 t]

theorem blk3_at (k : Fin 1024) (d : Fin 512) : iblk m c 3 t (ix2 k d) = V m c main_v4 (ix2 k (col t d)) := by
  blk_ext [iblk, idx3 t]

theorem emb4 (r d : Fin 512) : (win0_4.blk t).view.emb (ix2 r d) = ix2 (row t r) (col t d) := by
  blk_ext [idx4 t]

/-- The joined rows' first half. -/
theorem join_left (x0 x1 : FVec Ideal S2x8192x1024 .f32) (b : Fin 2) (i : Fin 8192) (k : Fin 1024) :
    Cert.OutReferenceIdeal.Read.val_main_v0 (F := Ideal) x0 x1 (ix3 b i ⟨k.val, by omega⟩) = x0 (ix3 b i k) := by
  unfold Cert.OutReferenceIdeal.Read.val_main_v0
  pointwise

/-- The joined rows' second half. -/
theorem join_right (x0 x1 : FVec Ideal S2x8192x1024 .f32) (b : Fin 2) (i : Fin 8192) (k : Fin 1024) :
    Cert.OutReferenceIdeal.Read.val_main_v0 (F := Ideal) x0 x1 (ix3 b i ⟨1024 + k.val, by omega⟩) = x1 (ix3 b i k) := by
  unfold Cert.OutReferenceIdeal.Read.val_main_v0
  pointwise

/-- The reference at a row and a column, the sum over the joined rows taken half by half. -/
theorem reference_at (x0 x1 : FVec Ideal S2x8192x1024 .f32) (x2 : FVec Ideal S2048x2048 .f32) (i : Fin 16384) (j : Fin 2048) :
    Cert.OutReferenceIdeal.Read.val_main_v2 (F := Ideal) x0 x1 x2 (ix2 i j)
      = ∑ k : Fin 1024, x0 (ix3 ⟨i.val / 8192, by omega⟩ ⟨i.val % 8192, by omega⟩ k) * x2 (ix2 ⟨k.val, by omega⟩ j)
        + ∑ k : Fin 1024, x1 (ix3 ⟨i.val / 8192, by omega⟩ ⟨i.val % 8192, by omega⟩ k) * x2 (ix2 ⟨1024 + k.val, by omega⟩ j) := by
  rw [Cert.OutReferenceIdeal.Read.val_main_v2_apply, Cert.OutReferenceIdeal.Read.val_main_v1_apply]
  have h : ∀ k : Fin 2048,
      Cert.OutReferenceIdeal.Read.val_main_v0 (F := Ideal) x0 x1
          (Cert.OutReferenceIdeal.Read.lidx_main_v1 (Cert.OutReferenceIdeal.Read.idx_main_v2 (ix2 i j)) k)
        * x2 (Cert.OutReferenceIdeal.Read.ridx_main_v1 (Cert.OutReferenceIdeal.Read.idx_main_v2 (ix2 i j)) k)
      = Cert.OutReferenceIdeal.Read.val_main_v0 (F := Ideal) x0 x1
          (ix3 ⟨i.val / 8192, by omega⟩ ⟨i.val % 8192, by omega⟩ k) * x2 (ix2 k j) := fun k => by
    refine congrArg₂ (· * ·) (congrArg _ ?_) (congrArg x2 ?_)
    · funext a
      match a with
      | ⟨0, _⟩ => exact Fin.ext (by show (i.val * 2048 + j.val) / 16777216 = i.val / 8192; omega)
      | ⟨1, _⟩ => exact Fin.ext (by show (i.val * 2048 + j.val) / 2048 % 8192 = i.val % 8192; omega)
      | ⟨2, _⟩ => rfl
    · funext a
      match a with
      | ⟨0, _⟩ => rfl
      | ⟨1, _⟩ => exact Fin.ext (by show (i.val * 2048 + j.val) % 2048 = j.val; omega)
  rw [Finset.sum_congr rfl fun k _ => h k]
  refine (Fin.sum_univ_add (a := 1024) (b := 1024) fun k : Fin 2048 =>
    Cert.OutReferenceIdeal.Read.val_main_v0 (F := Ideal) x0 x1
      (ix3 ⟨i.val / 8192, by omega⟩ ⟨i.val % 8192, by omega⟩ k) * x2 (ix2 k j)).trans (congrArg₂ (· + ·) ?_ ?_)
  · exact Finset.sum_congr rfl fun k _ => congrArg (· * _) (join_left x0 x1 _ _ k)
  · exact Finset.sum_congr rfl fun k _ => congrArg (· * _) (join_right x0 x1 _ _ k)

/-- An array with the projected rows at every row and column is what the kernel leaves. -/
theorem array_of (G : FVec Ideal S16384x2048 .f32) (hG : ∀ (i : Fin 16384) (j : Fin 2048), G (ix2 i j)
      = ∑ k : Fin 1024, argX m c (ix3 ⟨i.val / 8192, by omega⟩ ⟨i.val % 8192, by omega⟩ k) * argW m c (ix2 ⟨k.val, by omega⟩ j)
        + ∑ k : Fin 1024, argY m c (ix3 ⟨i.val / 8192, by omega⟩ ⟨i.val % 8192, by omega⟩ k)
          * argW m c (ix2 ⟨1024 + k.val, by omega⟩ j)) : (dats m 0 c).arrAt 4 cfg0.N = G := by
  refine (dats m 0 c).arrAt_eq_of_covers 4 _ (by decide +kernel) fun t hf y => ?_
  blk_simp
  rw [after0_4]
  frame_out
  obtain ⟨r, d, rfl⟩ : ∃ (r d : Fin 512), y = ix2 r d :=
    ⟨y 0, y 1, by
      funext a
      match a with
      | ⟨0, _⟩ => rfl
      | ⟨1, _⟩ => rfl⟩
  rw [emb4 t r d, hG]
  refine (tile_at _ _ _ _ r d).trans ?_
  refine congrArg₂ (fun a g : EReal => a + g) (Finset.sum_congr rfl fun k _ => ?_) (Finset.sum_congr rfl fun k _ => ?_)
  · rw [blk0_at, blk2_at, x_at, w_at]
  · rw [blk1_at, blk3_at, y_at, v_at]

/-- The array the kernel leaves is the reference's. -/
theorem array_eq : (dats m 0 c).arrAt 4 cfg0.N
    = Cert.OutReferenceIdeal.Read.val_main_v2 (F := Ideal) (argX m c) (argY m c) (argW m c) :=
  array_of m c _ fun i j => reference_at (argX m c) (argY m c) (argW m c) i j

end Cert.Proof.Out

end
-- ==== Proof.KeysValues.lean ====
/-
  The projection of the normalized key-value latents into keys and values: the host code normalizes the rows, the kernel
  multiplies tiles of 512 rows by tiles of 512 columns; the reference multiplies whole rows.
-/
module

public import proofs.«01_k».proof.Proof.Gen.KeysValuesIdeal.Value
public import proofs.«01_k».proof.Proof.Gen.KeysValuesReferenceIdeal.Read
public import proofs.«01_k».proof.Proof.Rows
public import Idealize.ShloMosaic.Lib.Claim
public import Idealize.ShloMosaic.Lib.StableHlo.ReadAt

@[expose] public section

set_option maxRecDepth 16384

noncomputable section

namespace Cert.Proof.KeysValues

open Idealize.ShloMosaic Idealize.ShloMosaic.TcCoe Cert.KeysValuesIdeal Cert.KeysValuesIdeal.Gen

theorem dims : dot_S512x256_S256x512_S512x512_1_0_0_1_n_n = DotDims.plain 512 256 512 := rfl

/-- What the body stores: the product of its two blocks. -/
theorem tile_at (x : Vec Ideal S512x256 .f32) (w : Vec Ideal S256x512 .bf16) (r d : Fin 512) :
    k0_pay1 x w (ix2 r d) = ∑ k : Fin 256, x (ix2 r k) * w (ix2 k d) := by
  unfold k0_pay1
  rw [dims]
  refine (Rows.product_at _ _ r d).trans (Finset.sum_congr rfl fun k _ => ?_)
  pointwise

variable (m : (ℓ : Loc nD τ sig) → Buf (Elt Ideal) ℓ) (c : Dev nD)

/-- The latents as launched. -/
abbrev argX : FVec Ideal S2x8448x256 .f32 := m ((c : Thread nD τ).loc main_arg0)
/-- The gains of the normalization as launched. -/
abbrev argN : FVec Ideal S256 .f32 := m ((c : Thread nD τ).loc main_arg1)
/-- The weights as launched. -/
abbrev argW : FVec Ideal S256x2048 .f32 := m ((c : Thread nD τ).loc main_arg2)

/-- The normalized rows. -/
abbrev normed (x0 : FVec Ideal S2x8448x256 .f32) (x1 : FVec Ideal S256 .f32) : FVec Ideal S2x8448x256 .f32 :=
  Cert.KeysValuesReferenceIdeal.Read.val_main_v12 (F := Ideal) x0 x1

/-- The host code normalizes the rows as the reference does, and lays the batches one below the other. -/
theorem x_eq : V m c main_v13
    = shapeCast S16896x256 (normed (argX m c) (argN m c)) shapeCasts_S2x8448x256_S16896x256 := by
  unfold V
  after_reads_simp
  rfl

theorem x_at (i : Fin 16896) (k : Fin 256) : V m c main_v13 (ix2 i k)
    = normed (argX m c) (argN m c) (ix3 ⟨i.val / 8448, by omega⟩ ⟨i.val % 8448, by omega⟩ k) := by
  rw [x_eq]
  generalize normed (argX m c) (argN m c) = y
  refine shapeCast_apply y _ _ _ ?_
  rw [Shape.rowMajor_val_three, Shape.rowMajor_val_two]
  show (i.val / 8448 * 8448 + i.val % 8448) * 256 + k.val = i.val * 256 + k.val
  omega

theorem w_at (k : Fin 256) (j : Fin 2048) : V m c main_v15 (ix2 k j) = argW m c (ix2 k j) := by
  unfold V
  after_reads_at

theorem idx0 : ∀ t : Fin cfg0.N, win0_0.index t = ![(grid0.coords t 0).val, 0] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] :=
  (by decide +kernel : ∀ t : Fin grid0.N, _)

/-- Row r of an iteration's rows, and column d of its columns. -/
abbrev row (t : Fin cfg0.N) (r : Fin 512) : Fin 16896 :=
  ⟨(grid0.coords t 0).val * 512 + r.val, by have : (grid0.coords t 0).val < 33 := (grid0.coords t 0).isLt; omega⟩
abbrev col (t : Fin cfg0.N) (d : Fin 512) : Fin 2048 :=
  ⟨(grid0.coords t 1).val * 512 + d.val, by have : (grid0.coords t 1).val < 4 := (grid0.coords t 1).isLt; omega⟩

variable (t : Fin cfg0.N)

theorem blk0_at (r : Fin 512) (k : Fin 256) : iblk m c 0 t (ix2 r k) = V m c main_v13 (ix2 (row t r) k) := by
  blk_ext [iblk, idx0 t]

theorem blk1_at (k : Fin 256) (d : Fin 512) : iblk m c 1 t (ix2 k d) = V m c main_v15 (ix2 k (col t d)) := by
  blk_ext [iblk, idx1 t]

theorem emb2 (r d : Fin 512) : (win0_2.blk t).view.emb (ix2 r d) = ix2 (row t r) (col t d) := by
  blk_ext [idx2 t]

/-- The reference at a row and a column. -/
theorem reference_at (x0 : FVec Ideal S2x8448x256 .f32) (x1 : FVec Ideal S256 .f32) (x2 : FVec Ideal S256x2048 .f32)
    (i : Fin 16896) (j : Fin 2048) : Cert.KeysValuesReferenceIdeal.Read.val_main_v14 (F := Ideal) x0 x1 x2 (ix2 i j)
      = ∑ k : Fin 256, normed x0 x1 (ix3 ⟨i.val / 8448, by omega⟩ ⟨i.val % 8448, by omega⟩ k) * x2 (ix2 k j) := by
  rw [Cert.KeysValuesReferenceIdeal.Read.val_main_v14_apply, Cert.KeysValuesReferenceIdeal.Read.val_main_v13_apply]
  refine Finset.sum_congr rfl fun k _ => congrArg₂ (· * ·) (congrArg _ ?_) (congrArg x2 ?_)
  · funext a
    match a with
    | ⟨0, _⟩ => exact Fin.ext (by show (i.val * 2048 + j.val) / 17301504 = i.val / 8448; omega)
    | ⟨1, _⟩ => exact Fin.ext (by show (i.val * 2048 + j.val) / 2048 % 8448 = i.val % 8448; omega)
    | ⟨2, _⟩ => rfl
  · funext a
    match a with
    | ⟨0, _⟩ => rfl
    | ⟨1, _⟩ => exact Fin.ext (by show (i.val * 2048 + j.val) % 2048 = j.val; omega)

/-- An array with the projected rows at every row and column is what the kernel leaves. -/
theorem array_of (G : FVec Ideal S16896x2048 .f32) (hG : ∀ (i : Fin 16896) (j : Fin 2048), G (ix2 i j)
      = ∑ k : Fin 256, normed (argX m c) (argN m c) (ix3 ⟨i.val / 8448, by omega⟩ ⟨i.val % 8448, by omega⟩ k)
        * argW m c (ix2 k j)) : (dats m 0 c).arrAt 2 cfg0.N = G := by
  refine (dats m 0 c).arrAt_eq_of_covers 2 _ (by decide +kernel) fun t hf y => ?_
  blk_simp
  rw [after0_2]
  frame_out
  obtain ⟨r, d, rfl⟩ : ∃ (r d : Fin 512), y = ix2 r d :=
    ⟨y 0, y 1, by
      funext a
      match a with
      | ⟨0, _⟩ => rfl
      | ⟨1, _⟩ => rfl⟩
  rw [emb2 t r d, hG]
  refine (tile_at _ _ r d).trans (Finset.sum_congr rfl fun k _ => ?_)
  rw [blk0_at, blk1_at, x_at, w_at]

/-- The array the kernel leaves is the reference's. -/
theorem array_eq : (dats m 0 c).arrAt 2 cfg0.N
    = Cert.KeysValuesReferenceIdeal.Read.val_main_v14 (F := Ideal) (argX m c) (argN m c) (argW m c) :=
  array_of m c _ fun i j => reference_at (argX m c) (argN m c) (argW m c) i j

end Cert.Proof.KeysValues

end
-- ==== Proof.Norm.lean ====
/-
  The residual sum with its normalization and modulation: the kernel works on 256 rows at a time, the reference on whole
  arrays. Row by row both are one function of the row, of the gains and offsets and of the batch's shift and scale.
-/
module

public import proofs.«01_k».proof.Proof.Gen.NormIdeal.Value
public import proofs.«01_k».proof.Proof.Gen.NormReferenceIdeal.Read
public import proofs.«01_k».proof.Proof.Rows
public import Idealize.ShloMosaic.Lib.Claim
public import Idealize.ShloMosaic.Lib.StableHlo.ReadAt

@[expose] public section

set_option maxRecDepth 16384

noncomputable section

namespace Cert.Proof.Norm

open Idealize.ShloMosaic Idealize.ShloMosaic.TcCoe Cert.NormIdeal Cert.NormIdeal.Gen

/-- The factor of the residual stream. -/
abbrev alpha : EReal := Ideal.ofBits .f32 0x3FD744FD#32

/-- A row's sum over its 2048 entries, divided by 2048. -/
def mean (v : Fin 2048 → EReal) : EReal := Ideal.div (∑ k, v k) (Ideal.ofBits .f32 0x45000000#32)

/-- A row less its mean. -/
def centred (v : Fin 2048 → EReal) (k : Fin 2048) : EReal := v k - mean v

/-- A row normalized to mean 0 and variance 1, with a gain and an offset. -/
def normalized (v : Fin 2048 → EReal) (g b : EReal) (k : Fin 2048) : EReal :=
  centred v k * Ideal.rsqrt (mean (fun l => centred v l * centred v l) + Ideal.ofBits .f32 0x3727C5AC#32) * g + b

/-! ## The kernel's block -/

/-- The means of the block's rows, as the body computes them. -/
def means (v : FVec Ideal S256x2048 .f32) : FVec Ideal S256x1 .f32 :=
  divf (shapeCast S256x1 (multiReduction .add [1] S256 v 0x00000000#32 reduces_S256x2048_S256 (.inl rfl) rfl) shapeCasts_S256_S256x1)
    (broadcast S256x1 (Scalar.ofBits .f32 0x45000000#32 : Ideal .f32))

theorem means_at (v : FVec Ideal S256x2048 .f32) (r : Fin 256) : means v (ix2 r 0) = mean (fun k => v (ix2 r k)) := by
  unfold means mean
  exact congrArg (Ideal.div · _) ((Rows.col_at _ _ r).trans (Rows.rowsum_at _ _ _ _ _ r))

/-- The block less its means. -/
def less (v : FVec Ideal S256x2048 .f32) : FVec Ideal S256x2048 .f32 :=
  subf v (broadcastTo S256x2048 (means v) broadcasts_S256x1_S256x2048)

theorem less_at (v : FVec Ideal S256x2048 .f32) (r : Fin 256) (k : Fin 2048) :
    less v (ix2 r k) = centred (fun k => v (ix2 r k)) k := by
  unfold less centred
  show v (ix2 r k) - broadcastTo S256x2048 (means v) broadcasts_S256x1_S256x2048 (ix2 r k) = _
  rw [Rows.spread_at, means_at]

/-- The residual sum of a block. -/
def mixed (x y : Vec Ideal S1x256x2048 .f32) (gate : Vec Ideal S1x1x2048 .f32) : FVec Ideal S256x2048 .f32 :=
  addf (mulf (broadcast S256x2048 (Scalar.ofBits .f32 0x3FD744FD#32 : Ideal .f32))
      (shapeCast S256x2048 x shapeCasts_S1x256x2048_S256x2048 : FVec Ideal S256x2048 .f32))
    (mulf (broadcastTo S256x2048 (shapeCast S1x2048 gate shapeCasts_S1x1x2048_S1x2048 : FVec Ideal S1x2048 .f32) broadcasts_S1x2048_S256x2048)
      (shapeCast S256x2048 y shapeCasts_S1x256x2048_S256x2048 : FVec Ideal S256x2048 .f32))

theorem mixed_at (x y : Vec Ideal S1x256x2048 .f32) (gate : Vec Ideal S1x1x2048 .f32) (r : Fin 256) (k : Fin 2048) :
    mixed x y gate (ix2 r k) = alpha * x (ix3 0 r k) + gate (ix3 0 0 k) * y (ix3 0 r k) := by
  unfold mixed
  pointwise

/-- What the body computes first, from its stages. -/
theorem pay3_eq (x : Vec Ideal S1x256x2048 .f32) (gate : Vec Ideal S1x1x2048 .f32) (y : Vec Ideal S1x256x2048 .f32)
    (g b : Vec Ideal S1x2048 .f32) : k0_pay3 x gate y g b
      = addf (mulf (mulf (less (mixed x y gate))
          (broadcastTo S256x2048 (rsqrt (addf (means (mulf (less (mixed x y gate)) (less (mixed x y gate))))
            (broadcast S256x1 (Scalar.ofBits .f32 0x3727C5AC#32 : Ideal .f32)))) broadcasts_S256x1_S256x2048))
          (broadcastTo S256x2048 (shapeCast S1x2048 g shapeCasts_S1x2048_S1x2048 : FVec Ideal S1x2048 .f32) broadcasts_S1x2048_S256x2048))
        (broadcastTo S256x2048 (shapeCast S1x2048 b shapeCasts_S1x2048_S1x2048 : FVec Ideal S1x2048 .f32) broadcasts_S1x2048_S256x2048) := rfl

/-- A row vector spread over the rows. -/
theorem gain_at (g : Vec Ideal S1x2048 .f32) (r : Fin 256) (k : Fin 2048) :
    broadcastTo S256x2048 (shapeCast S1x2048 g shapeCasts_S1x2048_S1x2048 : FVec Ideal S1x2048 .f32) broadcasts_S1x2048_S256x2048 (ix2 r k)
      = g (ix2 0 k) := by
  pointwise

/-- The body's first array: each row's sum, normalized. -/
theorem normalized_at (x : Vec Ideal S1x256x2048 .f32) (gate : Vec Ideal S1x1x2048 .f32) (y : Vec Ideal S1x256x2048 .f32)
    (g b : Vec Ideal S1x2048 .f32) (r : Fin 256) (k : Fin 2048) : k0_pay3 x gate y g b (ix2 r k)
      = normalized (fun l => alpha * x (ix3 0 r l) + gate (ix3 0 0 l) * y (ix3 0 r l)) (g (ix2 0 k)) (b (ix2 0 k)) k := by
  have hm : (fun l => mixed x y gate (ix2 r l)) = fun l => alpha * x (ix3 0 r l) + gate (ix3 0 0 l) * y (ix3 0 r l) :=
    funext fun l => mixed_at x y gate r l
  rw [pay3_eq, ← hm]
  generalize mixed x y gate = v
  have hs : (fun l => mulf (less v) (less v) (ix2 r l))
      = fun l => centred (fun k => v (ix2 r k)) l * centred (fun k => v (ix2 r k)) l :=
    funext fun l => congrArg₂ (fun a b : EReal => a * b) (less_at v r l) (less_at v r l)
  show less v (ix2 r k) * broadcastTo S256x2048 (rsqrt _) broadcasts_S256x1_S256x2048 (ix2 r k)
    * broadcastTo S256x2048 _ broadcasts_S1x2048_S256x2048 (ix2 r k) + broadcastTo S256x2048 _ broadcasts_S1x2048_S256x2048 (ix2 r k) = _
  rw [gain_at, gain_at, Rows.spread_at, less_at]
  show centred _ k * Ideal.rsqrt (means (mulf (less v) (less v)) (ix2 r 0) + _) * _ + _ = _
  rw [means_at, hs]
  rfl

/-- What the body stores first. -/
theorem pay1_at (v : FVec Ideal S256x2048 .f32) (r : Fin 256) (k : Fin 2048) : k0_pay1 v (ix3 0 r k) = v (ix2 r k) := by
  unfold k0_pay1
  pointwise

/-- What the body stores second: the first, scaled and shifted. -/
theorem pay2_at (v : FVec Ideal S256x2048 .f32) (s t : Vec Ideal S1x1x2048 .f32) (r : Fin 256) (k : Fin 2048) :
    k0_pay2 v s t (ix3 0 r k) = v (ix2 r k) * (Ideal.ofBits .f32 0x3F800000#32 + s (ix3 0 0 k)) + t (ix3 0 0 k) := by
  unfold k0_pay2
  pointwise

variable (m : (ℓ : Loc nD τ sig) → Buf (Elt Ideal) ℓ) (c : Dev nD)

/-- The residual stream as launched. -/
abbrev argX : FVec Ideal S2x8192x2048 .f32 := m ((c : Thread nD τ).loc main_arg0)
/-- The experts' output as launched. -/
abbrev argY : FVec Ideal S2x8192x2048 .f32 := m ((c : Thread nD τ).loc main_arg1)
/-- The gate as launched. -/
abbrev argGate : FVec Ideal S2x1x2048 .f32 := m ((c : Thread nD τ).loc main_arg2)
/-- The gains as launched. -/
abbrev argG : FVec Ideal S2048 .f32 := m ((c : Thread nD τ).loc main_arg3)
/-- The offsets as launched. -/
abbrev argB : FVec Ideal S2048 .f32 := m ((c : Thread nD τ).loc main_arg4)
/-- The shift as launched. -/
abbrev argShift : FVec Ideal S2x1x2048 .f32 := m ((c : Thread nD τ).loc main_arg5)
/-- The scale as launched. -/
abbrev argScale : FVec Ideal S2x1x2048 .f32 := m ((c : Thread nD τ).loc main_arg6)

theorem g_at (k : Fin 2048) : V m c main_v0 (ix2 0 k) = argG m c (ix1 k) := by
  unfold V
  after_reads_at

theorem b_at (k : Fin 2048) : V m c main_v1 (ix2 0 k) = argB m c (ix1 k) := by
  unfold V
  after_reads_at

theorem idx0 : ∀ t : Fin cfg0.N, win0_0.index t = ![(grid0.coords t 0).val, (grid0.coords t 1).val, 0] := (by decide +kernel : ∀ t : Fin grid0.N, _)
theorem idx1 : ∀ t : Fin cfg0.N, win0_1.index t = ![(grid0.coords t 0).val, (grid0.coords t 1).val, 0] := (by decide +kernel : ∀ t : Fin grid0.N, _)
theorem idx2 : ∀ t : Fin cfg0.N, win0_2.index t = ![(grid0.coords t 0).val, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![(grid0.coords t 0).val, 0, 0] := (by decide +kernel : ∀ t : Fin grid0.N, _)
theorem idx6 : ∀ t : Fin cfg0.N, win0_6.index t = ![(grid0.coords t 0).val, 0, 0] := (by decide +kernel : ∀ t : Fin grid0.N, _)
theorem idx7 : ∀ t : Fin cfg0.N, win0_7.index t = ![(grid0.coords t 0).val, (grid0.coords t 1).val, 0] := (by decide +kernel : ∀ t : Fin grid0.N, _)
theorem idx8 : ∀ t : Fin cfg0.N, win0_8.index t = ![(grid0.coords t 0).val, (grid0.coords t 1).val, 0] := (by decide +kernel : ∀ t : Fin grid0.N, _)

/-- The batch of an iteration, and row r of its rows. -/
abbrev batch (t : Fin cfg0.N) : Fin 2 := ⟨(grid0.coords t 0).val, (grid0.coords t 0).isLt⟩
abbrev row (t : Fin cfg0.N) (r : Fin 256) : Fin 8192 :=
  ⟨(grid0.coords t 1).val * 256 + r.val, by have : (grid0.coords t 1).val < 32 := (grid0.coords t 1).isLt; omega⟩

variable (t : Fin cfg0.N)

theorem blk0_at (r : Fin 256) (k : Fin 2048) : iblk m c 0 t (ix3 0 r k) = argX m c (ix3 (batch t) (row t r) k) := by
  rw [show argX m c = V m c main_arg0 from (V_main_arg0 m c).symm]
  blk_ext [iblk, idx0 t]

theorem blk1_at (r : Fin 256) (k : Fin 2048) : iblk m c 1 t (ix3 0 r k) = argY m c (ix3 (batch t) (row t r) k) := by
  rw [show argY m c = V m c main_arg1 from (V_main_arg1 m c).symm]
  blk_ext [iblk, idx1 t]

theorem blk2_at (k : Fin 2048) : iblk m c 2 t (ix3 0 0 k) = argGate m c (ix3 (batch t) 0 k) := by
  rw [show argGate m c = V m c main_arg2 from (V_main_arg2 m c).symm]
  blk_ext [iblk, idx2 t]

theorem blk3_at (k : Fin 2048) : iblk m c 3 t (ix2 0 k) = argG m c (ix1 k) := by
  rw [← g_at]
  blk_ext [iblk, idx3 t]

theorem blk4_at (k : Fin 2048) : iblk m c 4 t (ix2 0 k) = argB m c (ix1 k) := by
  rw [← b_at]
  blk_ext [iblk, idx4 t]

theorem blk5_at (k : Fin 2048) : iblk m c 5 t (ix3 0 0 k) = argShift m c (ix3 (batch t) 0 k) := by
  rw [show argShift m c = V m c main_arg5 from (V_main_arg5 m c).symm]
  blk_ext [iblk, idx5 t]

theorem blk6_at (k : Fin 2048) : iblk m c 6 t (ix3 0 0 k) = argScale m c (ix3 (batch t) 0 k) := by
  rw [show argScale m c = V m c main_arg6 from (V_main_arg6 m c).symm]
  blk_ext [iblk, idx6 t]

theorem emb7 (r : Fin 256) (k : Fin 2048) : (win0_7.blk t).view.emb (ix3 0 r k) = ix3 (batch t) (row t r) k := by
  blk_ext [idx7 t]

theorem emb8 (r : Fin 256) (k : Fin 2048) : (win0_8.blk t).view.emb (ix3 0 r k) = ix3 (batch t) (row t r) k := by
  blk_ext [idx8 t]

/-! ## The reference, at an element -/

section reference

variable (x y : FVec Ideal S2x8192x2048 .f32) (gate : FVec Ideal S2x1x2048 .f32) (g b : FVec Ideal S2048 .f32)
  (shift scale : FVec Ideal S2x1x2048 .f32)

/-- Row i of batch n of the residual sum. -/
abbrev sumRow (n : Fin 2) (i : Fin 8192) : Fin 2048 → EReal :=
  fun l => alpha * x (ix3 n i l) + gate (ix3 n 0 l) * y (ix3 n i l)

open Cert.NormReferenceIdeal.Read

theorem sum_at (n : Fin 2) (i : Fin 8192) (l : Fin 2048) :
    val_main_v4 (F := Ideal) x y gate (ix3 n i l) = sumRow x y gate n i l := by
  rw [val_main_v4_apply, val_main_v1_apply, val_main_v0_apply, val_main_v3_apply, val_main_v2_apply,
    show idx_main_v2 (ix3 n i l) = ix3 n 0 l from by
      funext a
      match a with
      | ⟨0, _⟩ => rfl
      | ⟨1, _⟩ => rfl
      | ⟨2, _⟩ => rfl]
  rfl

theorem centred_at (n : Fin 2) (i : Fin 8192) (l : Fin 2048) :
    val_main_v10 (F := Ideal) x y gate (ix3 n i l) = centred (sumRow x y gate n i) l := by
  rw [val_main_v10_apply, val_main_v9_apply, val_main_v8_apply, val_main_v6_apply, val_main_v5_apply, sum_at]
  have h : ∀ k : Fin 2048, val_main_v4 (F := Ideal) x y gate (idx_main_v5 (idx_main_v6 (idx_main_v9 (ix3 n i l))) k)
      = sumRow x y gate n i k := fun k => by
    rw [← sum_at]
    refine congrArg _ ?_
    funext a
    match a with
    | ⟨0, _⟩ => rfl
    | ⟨1, _⟩ => rfl
    | ⟨2, _⟩ => rfl
  rw [Finset.sum_congr rfl fun k _ => h k, show (val_main_cst_0 (F := Ideal)) (Shape.Idx.first Cert.NormReferenceIdeal.Gen.h_S_) = (0 : EReal) from Ideal.ofBits_zero_f32,
    zero_add]
  rfl

theorem variance_at (n : Fin 2) (i : Fin 8192) (l : Fin 2048) :
    val_main_v15 (F := Ideal) x y gate (idx_main_v19 (ix3 n i l))
      = mean (fun k => centred (sumRow x y gate n i) k * centred (sumRow x y gate n i) k) := by
  rw [val_main_v15_apply, val_main_v13_apply, val_main_v12_apply]
  have h : ∀ k : Fin 2048, val_main_v11 (F := Ideal) x y gate (idx_main_v12 (idx_main_v13 (idx_main_v19 (ix3 n i l))) k)
      = centred (sumRow x y gate n i) k * centred (sumRow x y gate n i) k := fun k => by
    rw [show idx_main_v12 (idx_main_v13 (idx_main_v19 (ix3 n i l))) k = ix3 n i k from by
      funext a
      match a with
      | ⟨0, _⟩ => rfl
      | ⟨1, _⟩ => rfl
      | ⟨2, _⟩ => rfl, val_main_v11_apply, centred_at]
    rfl
  rw [Finset.sum_congr rfl fun k _ => h k, show (val_main_cst_2 (F := Ideal)) (Shape.Idx.first Cert.NormReferenceIdeal.Gen.h_S_) = (0 : EReal) from Ideal.ofBits_zero_f32,
    zero_add]
  rfl

/-- The reference's normalized stream. -/
theorem stream_at (n : Fin 2) (i : Fin 8192) (k : Fin 2048) : val_main_v26 (F := Ideal) x y gate g b (ix3 n i k)
    = normalized (sumRow x y gate n i) (g (ix1 k)) (b (ix1 k)) k := by
  rw [val_main_v26_apply, val_main_v23_apply, val_main_v20_apply, val_main_v19_apply, val_main_v18_apply, val_main_v17_apply,
    variance_at, centred_at, val_main_v22_apply, val_main_v21_apply, val_main_v25_apply, val_main_v24_apply,
    show idx_main_v21 (idx_main_v22 (ix3 n i k)) = ix1 k from by
      funext a
      match a with
      | ⟨0, _⟩ => rfl,
    show idx_main_v24 (idx_main_v25 (ix3 n i k)) = ix1 k from by
      funext a
      match a with
      | ⟨0, _⟩ => rfl]
  rfl

/-- The reference's modulated stream. -/
theorem modulated_at (n : Fin 2) (i : Fin 8192) (k : Fin 2048) :
    val_main_v32 (F := Ideal) x y gate g b shift scale (ix3 n i k)
      = normalized (sumRow x y gate n i) (g (ix1 k)) (b (ix1 k)) k
        * (Ideal.ofBits .f32 0x3F800000#32 + scale (ix3 n 0 k)) + shift (ix3 n 0 k) := by
  have h : (ix3 n 0 k : S2x1x2048.Idx) = idx_main_v29 (ix3 n i k) := by
    funext a
    match a with
    | ⟨0, _⟩ => rfl
    | ⟨1, _⟩ => rfl
    | ⟨2, _⟩ => rfl
  rw [val_main_v32_apply, val_main_v30_apply, stream_at, val_main_v29_apply, val_main_v28_apply, val_main_v31_apply, h]
  rfl

end reference

/-! ## What the kernel leaves -/

/-- The body's first array, from the launched arrays. -/
theorem block_at (r : Fin 256) (k : Fin 2048) :
    k0_pay3 (iblk m c 0 t) (iblk m c 2 t) (iblk m c 1 t) (iblk m c 3 t) (iblk m c 4 t) (ix2 r k)
      = normalized (sumRow (argX m c) (argY m c) (argGate m c) (batch t) (row t r)) (argG m c (ix1 k)) (argB m c (ix1 k)) k := by
  refine (normalized_at _ _ _ _ _ r k).trans ?_
  rw [blk3_at, blk4_at]
  refine congrArg (fun v => normalized v _ _ k) (funext fun l => ?_)
  rw [blk0_at, blk1_at, blk2_at]

/-- The body loads whole blocks. -/
theorem block_ld (x0 x1 : Vec Ideal S1x256x2048 .f32) (x2 : Vec Ideal S1x1x2048 .f32) (x3 x4 : Vec Ideal S1x2048 .f32) :
    k0_pay3 (View.ld x0 r0_0) (View.ld x2 r0_1) (View.ld x1 r0_0) (View.ld x3 r0_2) (View.ld x4 r0_2)
      = k0_pay3 x0 x2 x1 x3 x4 := by
  have hz3 : (![0, 0, 0] : Fin 3 → ℕ) = fun _ => 0 := by funext a; fin_cases a <;> rfl
  have hz2 : (![0, 0] : Fin 2 → ℕ) = fun _ => 0 := by funext a; fin_cases a <;> rfl
  rw [View.ld_unit_zero hz3, View.ld_unit_zero hz3, View.ld_unit_zero hz3, View.ld_unit_zero hz2, View.ld_unit_zero hz2]

/-- The kernel leaves the reference's normalized stream. -/
theorem stream_eq : (dats m 0 c).arrAt 7 cfg0.N
    = Cert.NormReferenceIdeal.Read.val_main_v26 (F := Ideal) (argX m c) (argY m c) (argGate m c) (argG m c) (argB m c) := by
  refine (dats m 0 c).arrAt_eq_of_covers 7 _ (by decide +kernel) fun t hf y => ?_
  blk_simp
  rw [after0_7]
  frame_out
  obtain ⟨r, k, rfl⟩ : ∃ (r : Fin 256) (k : Fin 2048), y = ix3 0 r k :=
    ⟨y 1, y 2, by
      funext a
      match a with
      | ⟨0, _⟩ => exact Fin.ext (by have : (y 0).val < 1 := (y 0).isLt; show (y 0).val = 0; omega)
      | ⟨1, _⟩ => rfl
      | ⟨2, _⟩ => rfl⟩
  rw [emb7 t r k, stream_at]
  refine (pay1_at _ r k).trans ?_
  unfold k0_pay4
  rw [block_ld, block_at]

/-- The kernel leaves the reference's modulated stream. -/
theorem modulated_eq : (dats m 0 c).arrAt 8 cfg0.N
    = Cert.NormReferenceIdeal.Read.val_main_v32 (F := Ideal) (argX m c) (argY m c) (argGate m c) (argG m c) (argB m c)
      (argShift m c) (argScale m c) := by
  refine (dats m 0 c).arrAt_eq_of_covers 8 _ (by decide +kernel) fun t hf y => ?_
  blk_simp
  rw [after0_8]
  frame_out
  obtain ⟨r, k, rfl⟩ : ∃ (r : Fin 256) (k : Fin 2048), y = ix3 0 r k :=
    ⟨y 1, y 2, by
      funext a
      match a with
      | ⟨0, _⟩ => exact Fin.ext (by have : (y 0).val < 1 := (y 0).isLt; show (y 0).val = 0; omega)
      | ⟨1, _⟩ => rfl
      | ⟨2, _⟩ => rfl⟩
  rw [emb8 t r k, modulated_at]
  refine (pay2_at _ _ _ r k).trans ?_
  unfold k0_pay4
  rw [block_ld, block_at, blk5_at, blk6_at]

end Cert.Proof.Norm

end
-- ==== Proof.AttIn.lean ====
/-
  The projection of the latents to the attention's columns: the kernel multiplies tiles of 512 rows by tiles of 512
  columns of the last 832 columns of the weights, padded with zeros to 1024; the reference multiplies by all 3904
  columns, keeps the last 832 and pads the result with zeros.
-/
module

public import proofs.«01_k».proof.Proof.Gen.AttInIdeal.Value
public import proofs.«01_k».proof.Proof.Gen.AttInReferenceIdeal.Read
public import proofs.«01_k».proof.Proof.Rows
public import Idealize.ShloMosaic.Lib.Claim
public import Idealize.ShloMosaic.Lib.StableHlo.ReadAt

@[expose] public section

set_option maxRecDepth 16384

noncomputable section

namespace Cert.Proof.AttIn

open Idealize.ShloMosaic Idealize.ShloMosaic.TcCoe Cert.AttInIdeal Cert.AttInIdeal.Gen

theorem dims : dot_S512x2048_S2048x512_S512x512_1_0_0_1_n_n = DotDims.plain 512 2048 512 := rfl

/-- What the body stores: the product of its two blocks. -/
theorem tile_at (x : Vec Ideal S512x2048 .f32) (w : Vec Ideal S2048x512 .bf16) (r d : Fin 512) :
    k0_pay1 x w (ix2 r d) = ∑ k : Fin 2048, x (ix2 r k) * w (ix2 k d) := by
  unfold k0_pay1
  rw [dims]
  refine (Rows.product_at _ _ r d).trans (Finset.sum_congr rfl fun k _ => ?_)
  pointwise

variable (m : (ℓ : Loc nD τ sig) → Buf (Elt Ideal) ℓ) (c : Dev nD)

/-- The latents as launched. -/
abbrev argX : FVec Ideal S2x8192x2048 .f32 := m ((c : Thread nD τ).loc main_arg0)
/-- The weights as launched. -/
abbrev argW : FVec Ideal S2048x3904 .f32 := m ((c : Thread nD τ).loc main_arg1)

/-- The rows, batch by batch. -/
theorem x_at (i : Fin 16384) (k : Fin 2048) : V m c main_v3 (ix2 i k)
    = argX m c (ix3 ⟨i.val / 8192, by omega⟩ ⟨i.val % 8192, by omega⟩ k) := by
  unfold V
  after_reads_at

/-- The word zero, as a number. -/
theorem zero_word (φ : FTy) : (FloatOps.sitofp φ 0#32 : Ideal φ) = (0 : EReal) := by
  show (((0#32 : BitVec 32).toInt : ℝ) : EReal) = 0
  simp

/-- The weights' last columns, padded. -/
theorem w_at (k : Fin 2048) (j : Fin 1024) : V m c main_v2 (ix2 k j)
    = (if h : j.val < 832 then argW m c (ix2 k ⟨3072 + j.val, by omega⟩) else (0 : EReal) : EReal) := by
  unfold V
  after_reads_at
  simp only [k.isLt, true_and, zero_word]

theorem idx0 : ∀ t : Fin cfg0.N, win0_0.index t = ![(grid0.coords t 0).val, 0] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] :=
  (by decide +kernel : ∀ t : Fin grid0.N, _)

/-- Row r of an iteration's rows, and column d of its columns. -/
abbrev row (t : Fin cfg0.N) (r : Fin 512) : Fin 16384 :=
  ⟨(grid0.coords t 0).val * 512 + r.val, by have : (grid0.coords t 0).val < 32 := (grid0.coords t 0).isLt; omega⟩
abbrev col (t : Fin cfg0.N) (d : Fin 512) : Fin 1024 :=
  ⟨(grid0.coords t 1).val * 512 + d.val, by have : (grid0.coords t 1).val < 2 := (grid0.coords t 1).isLt; omega⟩

variable (t : Fin cfg0.N)

theorem blk0_at (r : Fin 512) (k : Fin 2048) : iblk m c 0 t (ix2 r k) = V m c main_v3 (ix2 (row t r) k) := by
  blk_ext [iblk, idx0 t]

theorem blk1_at (k : Fin 2048) (d : Fin 512) : iblk m c 1 t (ix2 k d) = V m c main_v2 (ix2 k (col t d)) := by
  blk_ext [iblk, idx1 t]

theorem emb2 (r d : Fin 512) : (win0_2.blk t).view.emb (ix2 r d) = ix2 (row t r) (col t d) := by
  blk_ext [idx2 t]

/-- The reference at a row and one of the 832 columns. -/
theorem reference_at (x0 : FVec Ideal S2x8192x2048 .f32) (x1 : FVec Ideal S2048x3904 .f32) (i : Fin 16384) (j : Fin 832) :
    Cert.AttInReferenceIdeal.Read.val_main_v2 (F := Ideal) x0 x1 (ix2 i j)
      = ∑ k : Fin 2048, x0 (ix3 ⟨i.val / 8192, by omega⟩ ⟨i.val % 8192, by omega⟩ k) * x1 (ix2 k ⟨3072 + j.val, by omega⟩) := by
  rw [Cert.AttInReferenceIdeal.Read.val_main_v2_apply, Cert.AttInReferenceIdeal.Read.val_main_v1_apply,
    Cert.AttInReferenceIdeal.Read.val_main_v0_apply]
  refine Finset.sum_congr rfl fun k _ => congrArg₂ (· * ·) (congrArg x0 ?_) (congrArg x1 ?_)
  · funext a
    match a with
    | ⟨0, _⟩ => exact Fin.ext (by show (i.val * 832 + j.val) / 6815744 = i.val / 8192; omega)
    | ⟨1, _⟩ => exact Fin.ext (by show (i.val * 832 + j.val) / 832 % 8192 = i.val % 8192; omega)
    | ⟨2, _⟩ => rfl
  · funext a
    match a with
    | ⟨0, _⟩ => rfl
    | ⟨1, _⟩ => exact Fin.ext (by show 3072 + (i.val * 832 + j.val) % 832 = 3072 + j.val; omega)

/-- The reference at a row and any of the 1024 columns. -/
theorem padded_at (x0 : FVec Ideal S2x8192x2048 .f32) (x1 : FVec Ideal S2048x3904 .f32) (i : Fin 16384) (j : Fin 1024) :
    Cert.AttInReferenceIdeal.Read.val_main_v3 (F := Ideal) x0 x1 (ix2 i j)
      = ∑ k : Fin 2048, x0 (ix3 ⟨i.val / 8192, by omega⟩ ⟨i.val % 8192, by omega⟩ k)
        * (if h : j.val < 832 then x1 (ix2 k ⟨3072 + j.val, by omega⟩) else (0 : EReal) : EReal) := by
  unfold Cert.AttInReferenceIdeal.Read.val_main_v3
  pointwise
  by_cases h : j.val < 832
  · simp only [i.isLt, h, and_self, ↓reduceDIte]
    exact reference_at x0 x1 i ⟨j.val, h⟩
  · simp only [h, and_false, ↓reduceDIte, mul_zero, Finset.sum_const_zero]
    exact zero_word _

/-- An array with the projected latents at every row and column is what the kernel leaves. -/
theorem array_of (G : FVec Ideal S16384x1024 .f32) (hG : ∀ (i : Fin 16384) (j : Fin 1024), G (ix2 i j)
      = ∑ k : Fin 2048, argX m c (ix3 ⟨i.val / 8192, by omega⟩ ⟨i.val % 8192, by omega⟩ k)
        * (if h : j.val < 832 then argW m c (ix2 k ⟨3072 + j.val, by omega⟩) else (0 : EReal) : EReal)) :
    (dats m 0 c).arrAt 2 cfg0.N = G := by
  refine (dats m 0 c).arrAt_eq_of_covers 2 _ (by decide +kernel) fun t hf y => ?_
  blk_simp
  rw [after0_2]
  frame_out
  obtain ⟨r, d, rfl⟩ : ∃ (r d : Fin 512), y = ix2 r d :=
    ⟨y 0, y 1, by
      funext a
      match a with
      | ⟨0, _⟩ => rfl
      | ⟨1, _⟩ => rfl⟩
  rw [emb2 t r d, hG]
  refine (tile_at _ _ r d).trans (Finset.sum_congr rfl fun k _ => ?_)
  rw [blk0_at, blk1_at, x_at, w_at]

/-- The array the kernel leaves is the reference's. -/
theorem array_eq : (dats m 0 c).arrAt 2 cfg0.N
    = Cert.AttInReferenceIdeal.Read.val_main_v3 (F := Ideal) (argX m c) (argW m c) :=
  array_of m c _ fun i j => padded_at (argX m c) (argW m c) i j

end Cert.Proof.AttIn

end
-- ==== Proof.Queries.lean ====
/-
  The projection of the normalized query latents into scaled queries: the host code normalizes the rows, scales the
  weights and lays their columns out as the plain lanes of the eight heads, then their rotary lanes padded with zeros;
  the kernel multiplies tiles of 512 rows by tiles of 512 columns. The reference multiplies whole rows, scales the
  queries and lays them out.
-/
module

public import proofs.«01_k».proof.Proof.Gen.QueriesIdeal.Value
public import proofs.«01_k».proof.Proof.Gen.QueriesReferenceIdeal.Read
public import proofs.«01_k».proof.Proof.Rows
public import Idealize.ShloMosaic.Lib.Claim
public import Idealize.ShloMosaic.Lib.StableHlo.ReadAt

@[expose] public section

set_option maxRecDepth 16384

noncomputable section

namespace Cert.Proof.Queries

open Idealize.ShloMosaic Idealize.ShloMosaic.TcCoe Cert.QueriesIdeal Cert.QueriesIdeal.Gen

theorem dims : dot_S512x512_S512x512_S512x512_1_0_0_1_n_n = DotDims.plain 512 512 512 := rfl

/-- What the body stores: the product of its two blocks. -/
theorem tile_at (x : Vec Ideal S512x512 .f32) (w : Vec Ideal S512x512 .bf16) (r d : Fin 512) :
    k0_pay1 x w (ix2 r d) = ∑ k : Fin 512, x (ix2 r k) * w (ix2 k d) := by
  unfold k0_pay1
  rw [dims]
  refine (Rows.product_at _ _ r d).trans (Finset.sum_congr rfl fun k _ => ?_)
  pointwise

variable (m : (ℓ : Loc nD τ sig) → Buf (Elt Ideal) ℓ) (c : Dev nD)

/-- The latents as launched. -/
abbrev argX : FVec Ideal S2x8192x512 .f32 := m ((c : Thread nD τ).loc main_arg0)
/-- The gains of the normalization as launched. -/
abbrev argN : FVec Ideal S512 .f32 := m ((c : Thread nD τ).loc main_arg1)
/-- The weights as launched. -/
abbrev argW : FVec Ideal S512x1536 .f32 := m ((c : Thread nD τ).loc main_arg2)

/-- The normalized rows. -/
abbrev normed (x0 : FVec Ideal S2x8192x512 .f32) (x1 : FVec Ideal S512 .f32) : FVec Ideal S2x8192x512 .f32 :=
  Cert.QueriesReferenceIdeal.Read.val_main_v12 (F := Ideal) x0 x1

/-- The host code normalizes the rows as the reference does, and lays the batches one below the other. -/
theorem x_eq : V m c main_v13
    = shapeCast S16384x512 (normed (argX m c) (argN m c)) shapeCasts_S2x8192x512_S16384x512 := by
  unfold V
  after_reads_simp
  rfl

theorem x_at (i : Fin 16384) (k : Fin 512) : V m c main_v13 (ix2 i k)
    = normed (argX m c) (argN m c) (ix3 ⟨i.val / 8192, by omega⟩ ⟨i.val % 8192, by omega⟩ k) := by
  rw [x_eq]
  generalize normed (argX m c) (argN m c) = y
  refine shapeCast_apply y _ _ _ ?_
  rw [Shape.rowMajor_val_three, Shape.rowMajor_val_two]
  show (i.val / 8192 * 8192 + i.val % 8192) * 512 + k.val = i.val * 512 + k.val
  omega

/-- The scale of the scores. -/
abbrev scale : EReal := Ideal.ofBits .f32 0x3D93CD3A#32

/-- The word zero, as a number. -/
theorem zero_word (φ : FTy) : (FloatOps.sitofp φ 0#32 : Ideal φ) = (0 : EReal) := by
  show (((0#32 : BitVec 32).toInt : ℝ) : EReal) = 0
  simp

/-- The weights of the plain lanes. -/
theorem w_plain_at (k : Fin 512) (h : Fin 8) (x : Fin 128) :
    V m c main_v24 (ix2 k ⟨h.val * 128 + x.val, by omega⟩)
      = (argW m c (ix2 k ⟨h.val * 192 + x.val, by omega⟩) * scale : EReal) := by
  unfold V
  after_reads_at
  rw [dif_pos (by omega)]
  after_reads_at
  rw [dif_pos (by omega)]

/-- The weights of the rotary lanes. -/
theorem w_rope_at (k : Fin 512) (h : Fin 8) (x : Fin 128) :
    V m c main_v24 (ix2 k ⟨1024 + (h.val * 128 + x.val), by omega⟩)
      = (if hx : x.val < 64 then argW m c (ix2 k ⟨h.val * 192 + (128 + x.val), by omega⟩) * scale else (0 : EReal) : EReal) := by
  unfold V
  after_reads_at
  after_reads_at
  have e : 1024 + (h.val * 128 + x.val) < 2048 := by omega
  simp only [e, ↓reduceDIte, zero_word]

theorem idx0 : ∀ t : Fin cfg0.N, win0_0.index t = ![(grid0.coords t 0).val, 0] := (by decide +kernel : ∀ t : Fin grid0.N, _)
theorem idx1 : ∀ t : Fin cfg0.N, win0_1.index t = ![0, (grid0.coords t 1).val] := (by decide +kernel : ∀ t : Fin grid0.N, _)
theorem idx2 : ∀ t : Fin cfg0.N, win0_2.index t = ![(grid0.coords t 0).val, (grid0.coords t 1).val] :=
  (by decide +kernel : ∀ t : Fin grid0.N, _)

/-- Row r of an iteration's rows, and column d of its columns. -/
abbrev row (t : Fin cfg0.N) (r : Fin 512) : Fin 16384 :=
  ⟨(grid0.coords t 0).val * 512 + r.val, by have : (grid0.coords t 0).val < 32 := (grid0.coords t 0).isLt; omega⟩
abbrev col (t : Fin cfg0.N) (d : Fin 512) : Fin 2048 :=
  ⟨(grid0.coords t 1).val * 512 + d.val, by have : (grid0.coords t 1).val < 4 := (grid0.coords t 1).isLt; omega⟩

variable (t : Fin cfg0.N)

theorem blk0_at (r : Fin 512) (k : Fin 512) : iblk m c 0 t (ix2 r k) = V m c main_v13 (ix2 (row t r) k) := by
  blk_ext [iblk, idx0 t]

theorem blk1_at (k : Fin 512) (d : Fin 512) : iblk m c 1 t (ix2 k d) = V m c main_v24 (ix2 k (col t d)) := by
  blk_ext [iblk, idx1 t]

theorem emb2 (r d : Fin 512) : (win0_2.blk t).view.emb (ix2 r d) = ix2 (row t r) (col t d) := by
  blk_ext [idx2 t]

/-- A nonnegative real factor comes out of a sum. -/
theorem sum_mul_scale (C : ℝ) (hC : scale = (C : EReal)) (h0 : 0 ≤ C) (f : Fin 512 → EReal) :
    ∑ k, f k * scale = (∑ k, f k) * scale := by
  rw [hC]
  induction (Finset.univ : Finset (Fin 512)) using Finset.induction_on with
  | empty => simp
  | insert a s ha hs =>
    rw [Finset.sum_insert ha, Finset.sum_insert ha, hs,
      EReal.right_distrib_of_nonneg_of_ne_top (EReal.coe_nonneg.mpr h0) (EReal.coe_ne_top C)]

/-- The queries before scaling: a row times a column of the weights. -/
abbrev query (x0 : FVec Ideal S2x8192x512 .f32) (x1 : FVec Ideal S512 .f32) (x2 : FVec Ideal S512x1536 .f32)
    (i : Fin 16384) (j : Fin 1536) : EReal :=
  ∑ k : Fin 512, normed x0 x1 (ix3 ⟨i.val / 8192, by omega⟩ ⟨i.val % 8192, by omega⟩ k) * x2 (ix2 k j)

section joined

open Cert.QueriesReferenceIdeal

variable {α : Type}

/-- Two arrays side by side, at a column of the left one. -/
theorem columns_left (y z : S16384x1024.Idx → α) (hc : Shape.Concatenates [S16384x1024, S16384x1024] QueriesReferenceIdeal.S16384x2048 1)
    (i : Fin 16384) (j : Fin 1024) :
    concatenate QueriesReferenceIdeal.S16384x2048 1 [⟨S16384x1024, y⟩, ⟨S16384x1024, z⟩] hc (ix2 i ⟨j.val, by omega⟩) = y (ix2 i j) :=
  concatenate_pair_apply_left (t := QueriesReferenceIdeal.S16384x2048) (s₁ := S16384x1024) (s₂ := S16384x1024) 1 y z hc
    (ix2 i ⟨j.val, by omega⟩) rfl (ix2 i j) fun a => match a with
      | ⟨0, _⟩ => rfl
      | ⟨1, _⟩ => rfl

/-- Two arrays side by side, at a column of the right one. -/
theorem columns_right (y z : S16384x1024.Idx → α) (hc : Shape.Concatenates [S16384x1024, S16384x1024] QueriesReferenceIdeal.S16384x2048 1)
    (i : Fin 16384) (j : Fin 1024) :
    concatenate QueriesReferenceIdeal.S16384x2048 1 [⟨S16384x1024, y⟩, ⟨S16384x1024, z⟩] hc (ix2 i ⟨1024 + j.val, by omega⟩) = z (ix2 i j) :=
  concatenate_pair_apply_right (t := QueriesReferenceIdeal.S16384x2048) (s₁ := S16384x1024) (s₂ := S16384x1024) 1 y z hc
    (ix2 i ⟨1024 + j.val, by omega⟩) rfl rfl (ix2 i j) (fun a => match a with
      | ⟨0, _⟩ => fun _ => rfl
      | ⟨1, _⟩ => fun ha => absurd rfl ha) (by show j.val + 1024 = 1024 + j.val; omega)

/-- Two arrays of lanes joined, at a lane of the first one. -/
theorem lanes_left (y z : S16384x8x64.Idx → α) (hc : Shape.Concatenates [S16384x8x64, S16384x8x64] S16384x8x128 2)
    (i : Fin 16384) (h : Fin 8) (x : Fin 64) :
    concatenate S16384x8x128 2 [⟨S16384x8x64, y⟩, ⟨S16384x8x64, z⟩] hc (ix3 i h ⟨x.val, by omega⟩) = y (ix3 i h x) :=
  concatenate_pair_apply_left (t := S16384x8x128) (s₁ := S16384x8x64) (s₂ := S16384x8x64) 2 y z hc
    (ix3 i h ⟨x.val, by omega⟩) rfl (ix3 i h x) fun a => match a with
      | ⟨0, _⟩ => rfl
      | ⟨1, _⟩ => rfl
      | ⟨2, _⟩ => rfl

/-- Two arrays of lanes joined, at a lane of the second one. -/
theorem lanes_right (y z : S16384x8x64.Idx → α) (hc : Shape.Concatenates [S16384x8x64, S16384x8x64] S16384x8x128 2)
    (i : Fin 16384) (h : Fin 8) (x : Fin 64) :
    concatenate S16384x8x128 2 [⟨S16384x8x64, y⟩, ⟨S16384x8x64, z⟩] hc (ix3 i h ⟨64 + x.val, by omega⟩) = z (ix3 i h x) :=
  concatenate_pair_apply_right (t := S16384x8x128) (s₁ := S16384x8x64) (s₂ := S16384x8x64) 2 y z hc
    (ix3 i h ⟨64 + x.val, by omega⟩) rfl rfl (ix3 i h x) (fun a => match a with
      | ⟨0, _⟩ => fun _ => rfl
      | ⟨1, _⟩ => fun _ => rfl
      | ⟨2, _⟩ => fun ha => absurd rfl ha) (by show x.val + 64 = 64 + x.val; omega)

end joined

section reference

open Cert.QueriesReferenceIdeal.Read

variable (x0 : FVec Ideal S2x8192x512 .f32) (x1 : FVec Ideal S512 .f32) (x2 : FVec Ideal S512x1536 .f32)

/-- The reference's scaled queries, head by head. -/
theorem scaled_at (i : Fin 16384) (h : Fin 8) (x : Fin 192) : val_main_v16 (F := Ideal) x0 x1 x2 (ix3 i h x)
    = query x0 x1 x2 i ⟨h.val * 192 + x.val, by omega⟩ * scale := by
  rw [val_main_v16_apply, val_main_v14_apply, val_main_v13_apply, val_main_v15_apply]
  refine congrArg (fun a : EReal => a * scale) (Finset.sum_congr rfl fun k _ =>
    congrArg₂ (fun a b : EReal => a * b) (congrArg _ ?_) (congrArg x2 ?_))
  · funext a
    match a with
    | ⟨0, _⟩ => exact Fin.ext (by show ((i.val * 8 + h.val) * 192 + x.val) / 12582912 = i.val / 8192; omega)
    | ⟨1, _⟩ => exact Fin.ext (by show ((i.val * 8 + h.val) * 192 + x.val) / 1536 % 8192 = i.val % 8192; omega)
    | ⟨2, _⟩ => rfl
  · funext a
    match a with
    | ⟨0, _⟩ => rfl
    | ⟨1, _⟩ => exact Fin.ext (by show ((i.val * 8 + h.val) * 192 + x.val) % 1536 = h.val * 192 + x.val; omega)

/-- The reference's plain lanes. -/
theorem plain_at (i : Fin 16384) (h : Fin 8) (x : Fin 128) :
    val_main_v23 (F := Ideal) x0 x1 x2 (ix2 i ⟨h.val * 128 + x.val, by omega⟩)
      = query x0 x1 x2 i ⟨h.val * 192 + x.val, by omega⟩ * scale := by
  unfold val_main_v23
  refine (columns_left _ _ _ i (⟨h.val * 128 + x.val, by omega⟩ : Fin 1024)).trans ?_
  rw [val_main_v21_apply, val_main_v17_apply, ← scaled_at x0 x1 x2 i h ⟨x.val, by omega⟩]
  refine congrArg _ ?_
  funext a
  match a with
  | ⟨0, _⟩ => exact Fin.ext (by show (i.val * 1024 + (h.val * 128 + x.val)) / 1024 = i.val; omega)
  | ⟨1, _⟩ => exact Fin.ext (by show (i.val * 1024 + (h.val * 128 + x.val)) / 128 % 8 = h.val; omega)
  | ⟨2, _⟩ => exact Fin.ext (by show (i.val * 1024 + (h.val * 128 + x.val)) % 128 = x.val; omega)

/-- The reference's rotary lanes, head by head. -/
theorem rope_at (i : Fin 16384) (h : Fin 8) (x : Fin 128) : val_main_v20 (F := Ideal) x0 x1 x2 (ix3 i h x)
    = (if hx : x.val < 64 then query x0 x1 x2 i ⟨h.val * 192 + (128 + x.val), by omega⟩ * scale else (0 : EReal) : EReal) := by
  unfold val_main_v20
  by_cases hx : x.val < 64
  · rw [dif_pos hx]
    refine (lanes_left _ _ _ i h (⟨x.val, hx⟩ : Fin 64)).trans ?_
    rw [val_main_v18_apply, ← scaled_at x0 x1 x2 i h ⟨128 + x.val, by omega⟩]
    refine congrArg _ ?_
    funext a
    match a with
    | ⟨0, _⟩ => rfl
    | ⟨1, _⟩ => rfl
    | ⟨2, _⟩ => rfl
  · rw [dif_neg hx]
    have e : (x : Fin 128) = ⟨64 + (⟨x.val - 64, by omega⟩ : Fin 64).val, by show 64 + (x.val - 64) < 128; omega⟩ :=
      Fin.ext (by show x.val = 64 + (x.val - 64); omega)
    rw [e]
    refine (lanes_right _ _ _ i h (⟨x.val - 64, by omega⟩ : Fin 64)).trans ?_
    rw [val_main_v19_apply, val_main_cst_3_apply]
    exact Ideal.ofBits_zero_f32

/-- The reference's rotary lanes in its result. -/
theorem rotary_at (i : Fin 16384) (h : Fin 8) (x : Fin 128) :
    val_main_v23 (F := Ideal) x0 x1 x2 (ix2 i ⟨1024 + (h.val * 128 + x.val), by omega⟩)
      = (if hx : x.val < 64 then query x0 x1 x2 i ⟨h.val * 192 + (128 + x.val), by omega⟩ * scale else (0 : EReal) : EReal) := by
  unfold val_main_v23
  refine (columns_right _ _ _ i (⟨h.val * 128 + x.val, by omega⟩ : Fin 1024)).trans ?_
  rw [val_main_v22_apply, ← rope_at x0 x1 x2 i h x]
  refine congrArg _ ?_
  funext a
  match a with
  | ⟨0, _⟩ => exact Fin.ext (by show (i.val * 1024 + (h.val * 128 + x.val)) / 1024 = i.val; omega)
  | ⟨1, _⟩ => exact Fin.ext (by show (i.val * 1024 + (h.val * 128 + x.val)) / 128 % 8 = h.val; omega)
  | ⟨2, _⟩ => exact Fin.ext (by show (i.val * 1024 + (h.val * 128 + x.val)) % 128 = x.val; omega)

end reference

/-- The product the kernel leaves at a row and a column. -/
theorem product_at (i : Fin 16384) (j : Fin 2048) (t : Fin cfg0.N) (r d : Fin 512) (hi : row t r = i) (hj : col t d = j) :
    k0_pay1 (iblk m c 0 t) (iblk m c 1 t) (ix2 r d)
      = ∑ k : Fin 512, normed (argX m c) (argN m c) (ix3 ⟨i.val / 8192, by omega⟩ ⟨i.val % 8192, by omega⟩ k)
        * (V m c main_v24 (ix2 k j) : EReal) := by
  subst hi hj
  refine (tile_at _ _ r d).trans (Finset.sum_congr rfl fun k _ => ?_)
  rw [blk0_at, blk1_at, x_at]

/-- A plain lane of the product. -/
theorem plain_sum (C : ℝ) (hC : scale = (C : EReal)) (h0 : 0 ≤ C) (i : Fin 16384) (h : Fin 8) (x : Fin 128) :
    ∑ k : Fin 512, normed (argX m c) (argN m c) (ix3 ⟨i.val / 8192, by omega⟩ ⟨i.val % 8192, by omega⟩ k)
        * (V m c main_v24 (ix2 k ⟨h.val * 128 + x.val, by omega⟩) : EReal)
      = query (argX m c) (argN m c) (argW m c) i ⟨h.val * 192 + x.val, by omega⟩ * scale := by
  rw [← sum_mul_scale C hC h0]
  refine Finset.sum_congr rfl fun k _ => ?_
  rw [w_plain_at, mul_assoc]

/-- A rotary lane of the product. -/
theorem rotary_sum (C : ℝ) (hC : scale = (C : EReal)) (h0 : 0 ≤ C) (i : Fin 16384) (h : Fin 8) (x : Fin 128) :
    ∑ k : Fin 512, normed (argX m c) (argN m c) (ix3 ⟨i.val / 8192, by omega⟩ ⟨i.val % 8192, by omega⟩ k)
        * (V m c main_v24 (ix2 k ⟨1024 + (h.val * 128 + x.val), by omega⟩) : EReal)
      = (if hx : x.val < 64 then query (argX m c) (argN m c) (argW m c) i ⟨h.val * 192 + (128 + x.val), by omega⟩ * scale
        else (0 : EReal) : EReal) := by
  by_cases hx : x.val < 64
  · rw [dif_pos hx, ← sum_mul_scale C hC h0]
    refine Finset.sum_congr rfl fun k _ => ?_
    rw [w_rope_at, dif_pos hx, mul_assoc]
  · rw [dif_neg hx]
    refine Finset.sum_eq_zero fun k _ => ?_
    rw [w_rope_at, dif_neg hx, mul_zero]

/-- The array the kernel leaves is the reference's. -/
theorem array_eq (C : ℝ) (hC : scale = (C : EReal)) (h0 : 0 ≤ C) : (dats m 0 c).arrAt 2 cfg0.N
    = Cert.QueriesReferenceIdeal.Read.val_main_v23 (F := Ideal) (argX m c) (argN m c) (argW m c) := by
  refine (dats m 0 c).arrAt_eq_of_covers 2 _ (by decide +kernel) fun t hf y => ?_
  blk_simp
  rw [after0_2]
  frame_out
  obtain ⟨r, d, rfl⟩ : ∃ (r d : Fin 512), y = ix2 r d :=
    ⟨y 0, y 1, by
      funext a
      match a with
      | ⟨0, _⟩ => rfl
      | ⟨1, _⟩ => rfl⟩
  rw [emb2 t r d]
  by_cases hj : (col t d).val < 1024
  · obtain ⟨h, x, e⟩ : ∃ (h : Fin 8) (x : Fin 128), col t d = ⟨h.val * 128 + x.val, by omega⟩ :=
      ⟨⟨(col t d).val / 128, by omega⟩, ⟨(col t d).val % 128, by omega⟩,
        Fin.ext (by show (col t d).val = (col t d).val / 128 * 128 + (col t d).val % 128; omega)⟩
    rw [e]
    exact (product_at m c (row t r) _ t r d rfl e).trans ((plain_sum m c C hC h0 (row t r) h x).trans
      (plain_at _ _ _ (row t r) h x).symm)
  · obtain ⟨h, x, e⟩ : ∃ (h : Fin 8) (x : Fin 128), col t d = ⟨1024 + (h.val * 128 + x.val), by omega⟩ :=
      ⟨⟨((col t d).val - 1024) / 128, by have := (col t d).isLt; omega⟩, ⟨(col t d).val % 128, by omega⟩,
        Fin.ext (by show (col t d).val = 1024 + (((col t d).val - 1024) / 128 * 128 + (col t d).val % 128); omega)⟩
    rw [e]
    exact (product_at m c (row t r) _ t r d rfl e).trans ((rotary_sum m c C hC h0 (row t r) h x).trans
      (rotary_at _ _ _ (row t r) h x).symm)

end Cert.Proof.Queries

end
-- ==== Proof.NormMid.lean ====
/-
  The residual sum with its normalization and modulation, and the modulated stream once more, transposed: the kernel
  works on 256 rows at a time, the reference on whole arrays. Row by row both are one function of the row, of the gains
  and offsets and of the batch's shift and scale.
-/
module

public import proofs.«01_k».proof.Proof.Gen.NormMidIdeal.Value
public import proofs.«01_k».proof.Proof.Gen.NormMidReferenceIdeal.Read
public import proofs.«01_k».proof.Proof.Norm
public import Idealize.ShloMosaic.Lib.Claim
public import Idealize.ShloMosaic.Lib.StableHlo.ReadAt

@[expose] public section

set_option maxRecDepth 16384

noncomputable section

namespace Cert.Proof.NormMid

open Idealize.ShloMosaic Idealize.ShloMosaic.TcCoe Cert.NormMidIdeal Cert.NormMidIdeal.Gen
open Cert.Proof.Norm (alpha mean centred normalized)

/-! ## The kernel's block -/

/-- The means of the block's rows, as the body computes them. -/
def means (v : FVec Ideal S256x2048 .f32) : FVec Ideal S256x1 .f32 :=
  divf (shapeCast S256x1 (multiReduction .add [1] S256 v 0x00000000#32 reduces_S256x2048_S256 (.inl rfl) rfl) shapeCasts_S256_S256x1)
    (broadcast S256x1 (Scalar.ofBits .f32 0x45000000#32 : Ideal .f32))

theorem means_at (v : FVec Ideal S256x2048 .f32) (r : Fin 256) : means v (ix2 r 0) = mean (fun k => v (ix2 r k)) := by
  unfold means mean
  exact congrArg (Ideal.div · _) ((Rows.col_at _ _ r).trans (Rows.rowsum_at _ _ _ _ _ r))

/-- The block less its means. -/
def less (v : FVec Ideal S256x2048 .f32) : FVec Ideal S256x2048 .f32 :=
  subf v (broadcastTo S256x2048 (means v) broadcasts_S256x1_S256x2048)

theorem less_at (v : FVec Ideal S256x2048 .f32) (r : Fin 256) (k : Fin 2048) :
    less v (ix2 r k) = centred (fun k => v (ix2 r k)) k := by
  unfold less centred
  show v (ix2 r k) - broadcastTo S256x2048 (means v) broadcasts_S256x1_S256x2048 (ix2 r k) = _
  rw [Rows.spread_at, means_at]

/-- The residual sum of a block. -/
def mixed (x y : Vec Ideal S1x256x2048 .f32) (gate : Vec Ideal S1x1x2048 .f32) : FVec Ideal S256x2048 .f32 :=
  addf (mulf (broadcast S256x2048 (Scalar.ofBits .f32 0x3FD744FD#32 : Ideal .f32))
      (shapeCast S256x2048 x shapeCasts_S1x256x2048_S256x2048 : FVec Ideal S256x2048 .f32))
    (mulf (broadcastTo S256x2048 (shapeCast S1x2048 gate shapeCasts_S1x1x2048_S1x2048 : FVec Ideal S1x2048 .f32) broadcasts_S1x2048_S256x2048)
      (shapeCast S256x2048 y shapeCasts_S1x256x2048_S256x2048 : FVec Ideal S256x2048 .f32))

theorem mixed_at (x y : Vec Ideal S1x256x2048 .f32) (gate : Vec Ideal S1x1x2048 .f32) (r : Fin 256) (k : Fin 2048) :
    mixed x y gate (ix2 r k) = alpha * x (ix3 0 r k) + gate (ix3 0 0 k) * y (ix3 0 r k) := by
  unfold mixed
  pointwise

/-- What the body computes first, from its stages. -/
theorem pay5_eq (x : Vec Ideal S1x256x2048 .f32) (gate : Vec Ideal S1x1x2048 .f32) (y : Vec Ideal S1x256x2048 .f32)
    (g b : Vec Ideal S1x2048 .f32) : k0_pay5 x gate y g b
      = addf (mulf (mulf (less (mixed x y gate))
          (broadcastTo S256x2048 (rsqrt (addf (means (mulf (less (mixed x y gate)) (less (mixed x y gate))))
            (broadcast S256x1 (Scalar.ofBits .f32 0x3727C5AC#32 : Ideal .f32)))) broadcasts_S256x1_S256x2048))
          (broadcastTo S256x2048 (shapeCast S1x2048 g shapeCasts_S1x2048_S1x2048 : FVec Ideal S1x2048 .f32) broadcasts_S1x2048_S256x2048))
        (broadcastTo S256x2048 (shapeCast S1x2048 b shapeCasts_S1x2048_S1x2048 : FVec Ideal S1x2048 .f32) broadcasts_S1x2048_S256x2048) := rfl

/-- A row vector spread over the rows. -/
theorem gain_at (g : Vec Ideal S1x2048 .f32) (r : Fin 256) (k : Fin 2048) :
    broadcastTo S256x2048 (shapeCast S1x2048 g shapeCasts_S1x2048_S1x2048 : FVec Ideal S1x2048 .f32) broadcasts_S1x2048_S256x2048 (ix2 r k)
      = g (ix2 0 k) := by
  pointwise

/-- The body's first array: each row's sum, normalized. -/
theorem normalized_at (x : Vec Ideal S1x256x2048 .f32) (gate : Vec Ideal S1x1x2048 .f32) (y : Vec Ideal S1x256x2048 .f32)
    (g b : Vec Ideal S1x2048 .f32) (r : Fin 256) (k : Fin 2048) : k0_pay5 x gate y g b (ix2 r k)
      = normalized (fun l => alpha * x (ix3 0 r l) + gate (ix3 0 0 l) * y (ix3 0 r l)) (g (ix2 0 k)) (b (ix2 0 k)) k := by
  have hm : (fun l => mixed x y gate (ix2 r l)) = fun l => alpha * x (ix3 0 r l) + gate (ix3 0 0 l) * y (ix3 0 r l) :=
    funext fun l => mixed_at x y gate r l
  rw [pay5_eq, ← hm]
  generalize mixed x y gate = v
  have hs : (fun l => mulf (less v) (less v) (ix2 r l))
      = fun l => centred (fun k => v (ix2 r k)) l * centred (fun k => v (ix2 r k)) l :=
    funext fun l => congrArg₂ (fun a b : EReal => a * b) (less_at v r l) (less_at v r l)
  show less v (ix2 r k) * broadcastTo S256x2048 (rsqrt _) broadcasts_S256x1_S256x2048 (ix2 r k)
    * broadcastTo S256x2048 _ broadcasts_S1x2048_S256x2048 (ix2 r k) + broadcastTo S256x2048 _ broadcasts_S1x2048_S256x2048 (ix2 r k) = _
  rw [gain_at, gain_at, Rows.spread_at, less_at]
  show centred _ k * Ideal.rsqrt (means (mulf (less v) (less v)) (ix2 r 0) + _) * _ + _ = _
  rw [means_at, hs]
  rfl

/-- What the body stores first. -/
theorem pay1_at (v : FVec Ideal S256x2048 .f32) (r : Fin 256) (k : Fin 2048) : k0_pay1 v (ix3 0 r k) = v (ix2 r k) := by
  unfold k0_pay1
  pointwise

/-- The first, scaled and shifted. -/
theorem pay2_at (v : FVec Ideal S256x2048 .f32) (s t : Vec Ideal S1x1x2048 .f32) (r : Fin 256) (k : Fin 2048) :
    k0_pay2 v s t (ix2 r k) = v (ix2 r k) * (Ideal.ofBits .f32 0x3F800000#32 + s (ix3 0 0 k)) + t (ix3 0 0 k) := by
  unfold k0_pay2
  pointwise

/-- What the body stores second. -/
theorem pay3_at (v : FVec Ideal S256x2048 .f32) (s t : Vec Ideal S1x1x2048 .f32) (r : Fin 256) (k : Fin 2048) :
    k0_pay3 v s t (ix3 0 r k) = v (ix2 r k) * (Ideal.ofBits .f32 0x3F800000#32 + s (ix3 0 0 k)) + t (ix3 0 0 k) := by
  unfold k0_pay3
  rw [← pay2_at]
  pointwise

/-- What the body stores third: the second, transposed. -/
theorem pay4_at (v : FVec Ideal S256x2048 .f32) (s t : Vec Ideal S1x1x2048 .f32) (r : Fin 256) (k : Fin 2048) :
    k0_pay4 v s t (ix2 k r) = v (ix2 r k) * (Ideal.ofBits .f32 0x3F800000#32 + s (ix3 0 0 k)) + t (ix3 0 0 k) := by
  unfold k0_pay4
  rw [← pay2_at]
  pointwise

variable (m : (ℓ : Loc nD τ sig) → Buf (Elt Ideal) ℓ) (c : Dev nD)

/-- The residual stream as launched. -/
abbrev argX : FVec Ideal S2x8192x2048 .f32 := m ((c : Thread nD τ).loc main_arg0)
/-- The mixer's output as launched. -/
abbrev argY : FVec Ideal S2x8192x2048 .f32 := m ((c : Thread nD τ).loc main_arg1)
/-- The gate as launched. -/
abbrev argGate : FVec Ideal S2x1x2048 .f32 := m ((c : Thread nD τ).loc main_arg2)
/-- The gains as launched. -/
abbrev argG : FVec Ideal S2048 .f32 := m ((c : Thread nD τ).loc main_arg3)
/-- The offsets as launched. -/
abbrev argB : FVec Ideal S2048 .f32 := m ((c : Thread nD τ).loc main_arg4)
/-- The shift as launched. -/
abbrev argShift : FVec Ideal S2x1x2048 .f32 := m ((c : Thread nD τ).loc main_arg5)
/-- The scale as launched. -/
abbrev argScale : FVec Ideal S2x1x2048 .f32 := m ((c : Thread nD τ).loc main_arg6)

theorem g_at (k : Fin 2048) : V m c main_v0 (ix2 0 k) = argG m c (ix1 k) := by
  unfold V
  after_reads_at

theorem b_at (k : Fin 2048) : V m c main_v1 (ix2 0 k) = argB m c (ix1 k) := by
  unfold V
  after_reads_at

theorem idx0 : ∀ t : Fin cfg0.N, win0_0.index t = ![(grid0.coords t 0).val, (grid0.coords t 1).val, 0] := (by decide +kernel : ∀ t : Fin grid0.N, _)
theorem idx1 : ∀ t : Fin cfg0.N, win0_1.index t = ![(grid0.coords t 0).val, (grid0.coords t 1).val, 0] := (by decide +kernel : ∀ t : Fin grid0.N, _)
theorem idx2 : ∀ t : Fin cfg0.N, win0_2.index t = ![(grid0.coords t 0).val, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![(grid0.coords t 0).val, 0, 0] := (by decide +kernel : ∀ t : Fin grid0.N, _)
theorem idx6 : ∀ t : Fin cfg0.N, win0_6.index t = ![(grid0.coords t 0).val, 0, 0] := (by decide +kernel : ∀ t : Fin grid0.N, _)
theorem idx7 : ∀ t : Fin cfg0.N, win0_7.index t = ![(grid0.coords t 0).val, (grid0.coords t 1).val, 0] := (by decide +kernel : ∀ t : Fin grid0.N, _)
theorem idx8 : ∀ t : Fin cfg0.N, win0_8.index t = ![(grid0.coords t 0).val, (grid0.coords t 1).val, 0] := (by decide +kernel : ∀ t : Fin grid0.N, _)
theorem idx9 : ∀ t : Fin cfg0.N, win0_9.index t = ![0, (grid0.coords t 0).val * 32 + (grid0.coords t 1).val] := (by decide +kernel : ∀ t : Fin grid0.N, _)

/-- The batch of an iteration, and row r of its rows. -/
abbrev batch (t : Fin cfg0.N) : Fin 2 := ⟨(grid0.coords t 0).val, (grid0.coords t 0).isLt⟩
abbrev row (t : Fin cfg0.N) (r : Fin 256) : Fin 8192 :=
  ⟨(grid0.coords t 1).val * 256 + r.val, by have : (grid0.coords t 1).val < 32 := (grid0.coords t 1).isLt; omega⟩

variable (t : Fin cfg0.N)

theorem blk0_at (r : Fin 256) (k : Fin 2048) : iblk m c 0 t (ix3 0 r k) = argX m c (ix3 (batch t) (row t r) k) := by
  rw [show argX m c = V m c main_arg0 from (V_main_arg0 m c).symm]
  blk_ext [iblk, idx0 t]

theorem blk1_at (r : Fin 256) (k : Fin 2048) : iblk m c 1 t (ix3 0 r k) = argY m c (ix3 (batch t) (row t r) k) := by
  rw [show argY m c = V m c main_arg1 from (V_main_arg1 m c).symm]
  blk_ext [iblk, idx1 t]

theorem blk2_at (k : Fin 2048) : iblk m c 2 t (ix3 0 0 k) = argGate m c (ix3 (batch t) 0 k) := by
  rw [show argGate m c = V m c main_arg2 from (V_main_arg2 m c).symm]
  blk_ext [iblk, idx2 t]

theorem blk3_at (k : Fin 2048) : iblk m c 3 t (ix2 0 k) = argG m c (ix1 k) := by
  rw [← g_at]
  blk_ext [iblk, idx3 t]

theorem blk4_at (k : Fin 2048) : iblk m c 4 t (ix2 0 k) = argB m c (ix1 k) := by
  rw [← b_at]
  blk_ext [iblk, idx4 t]

theorem blk5_at (k : Fin 2048) : iblk m c 5 t (ix3 0 0 k) = argShift m c (ix3 (batch t) 0 k) := by
  rw [show argShift m c = V m c main_arg5 from (V_main_arg5 m c).symm]
  blk_ext [iblk, idx5 t]

theorem blk6_at (k : Fin 2048) : iblk m c 6 t (ix3 0 0 k) = argScale m c (ix3 (batch t) 0 k) := by
  rw [show argScale m c = V m c main_arg6 from (V_main_arg6 m c).symm]
  blk_ext [iblk, idx6 t]

theorem emb7 (r : Fin 256) (k : Fin 2048) : (win0_7.blk t).view.emb (ix3 0 r k) = ix3 (batch t) (row t r) k := by
  blk_ext [idx7 t]

theorem emb8 (r : Fin 256) (k : Fin 2048) : (win0_8.blk t).view.emb (ix3 0 r k) = ix3 (batch t) (row t r) k := by
  blk_ext [idx8 t]

theorem emb9 (k : Fin 2048) (r : Fin 256) : (win0_9.blk t).view.emb (ix2 k r)
    = ix2 k ⟨(batch t).val * 8192 + (row t r).val, by omega⟩ := by
  have h : ((grid0.coords t 0).val * 32 + (grid0.coords t 1).val) * 256 + r.val
    = (grid0.coords t 0).val * 8192 + ((grid0.coords t 1).val * 256 + r.val) := by omega
  blk_ext [idx9 t, h]

/-! ## The reference, at an element -/

section reference

variable (x y : FVec Ideal S2x8192x2048 .f32) (gate : FVec Ideal S2x1x2048 .f32) (g b : FVec Ideal S2048 .f32)
  (shift scale : FVec Ideal S2x1x2048 .f32)

/-- Row i of batch n of the residual sum. -/
abbrev sumRow (n : Fin 2) (i : Fin 8192) : Fin 2048 → EReal :=
  fun l => alpha * x (ix3 n i l) + gate (ix3 n 0 l) * y (ix3 n i l)

open Cert.NormMidReferenceIdeal.Read

theorem sum_at (n : Fin 2) (i : Fin 8192) (l : Fin 2048) :
    val_main_v4 (F := Ideal) x y gate (ix3 n i l) = sumRow x y gate n i l := by
  rw [val_main_v4_apply, val_main_v1_apply, val_main_v0_apply, val_main_v3_apply, val_main_v2_apply,
    show idx_main_v2 (ix3 n i l) = ix3 n 0 l from by
      funext a
      match a with
      | ⟨0, _⟩ => rfl
      | ⟨1, _⟩ => rfl
      | ⟨2, _⟩ => rfl]
  rfl

theorem centred_at (n : Fin 2) (i : Fin 8192) (l : Fin 2048) :
    val_main_v10 (F := Ideal) x y gate (ix3 n i l) = centred (sumRow x y gate n i) l := by
  rw [val_main_v10_apply, val_main_v9_apply, val_main_v8_apply, val_main_v6_apply, val_main_v5_apply, sum_at]
  have h : ∀ k : Fin 2048, val_main_v4 (F := Ideal) x y gate (idx_main_v5 (idx_main_v6 (idx_main_v9 (ix3 n i l))) k)
      = sumRow x y gate n i k := fun k => by
    rw [← sum_at]
    refine congrArg _ ?_
    funext a
    match a with
    | ⟨0, _⟩ => rfl
    | ⟨1, _⟩ => rfl
    | ⟨2, _⟩ => rfl
  rw [Finset.sum_congr rfl fun k _ => h k, show (val_main_cst_0 (F := Ideal)) (Shape.Idx.first Cert.NormMidReferenceIdeal.Gen.h_S_) = (0 : EReal) from Ideal.ofBits_zero_f32,
    zero_add]
  rfl

theorem variance_at (n : Fin 2) (i : Fin 8192) (l : Fin 2048) :
    val_main_v15 (F := Ideal) x y gate (idx_main_v19 (ix3 n i l))
      = mean (fun k => centred (sumRow x y gate n i) k * centred (sumRow x y gate n i) k) := by
  rw [val_main_v15_apply, val_main_v13_apply, val_main_v12_apply]
  have h : ∀ k : Fin 2048, val_main_v11 (F := Ideal) x y gate (idx_main_v12 (idx_main_v13 (idx_main_v19 (ix3 n i l))) k)
      = centred (sumRow x y gate n i) k * centred (sumRow x y gate n i) k := fun k => by
    rw [show idx_main_v12 (idx_main_v13 (idx_main_v19 (ix3 n i l))) k = ix3 n i k from by
      funext a
      match a with
      | ⟨0, _⟩ => rfl
      | ⟨1, _⟩ => rfl
      | ⟨2, _⟩ => rfl, val_main_v11_apply, centred_at]
    rfl
  rw [Finset.sum_congr rfl fun k _ => h k, show (val_main_cst_2 (F := Ideal)) (Shape.Idx.first Cert.NormMidReferenceIdeal.Gen.h_S_) = (0 : EReal) from Ideal.ofBits_zero_f32,
    zero_add]
  rfl

/-- The reference's normalized stream. -/
theorem stream_at (n : Fin 2) (i : Fin 8192) (k : Fin 2048) : val_main_v26 (F := Ideal) x y gate g b (ix3 n i k)
    = normalized (sumRow x y gate n i) (g (ix1 k)) (b (ix1 k)) k := by
  rw [val_main_v26_apply, val_main_v23_apply, val_main_v20_apply, val_main_v19_apply, val_main_v18_apply, val_main_v17_apply,
    variance_at, centred_at, val_main_v22_apply, val_main_v21_apply, val_main_v25_apply, val_main_v24_apply,
    show idx_main_v21 (idx_main_v22 (ix3 n i k)) = ix1 k from by
      funext a
      match a with
      | ⟨0, _⟩ => rfl,
    show idx_main_v24 (idx_main_v25 (ix3 n i k)) = ix1 k from by
      funext a
      match a with
      | ⟨0, _⟩ => rfl]
  rfl

/-- The reference's modulated stream. -/
theorem modulated_at (n : Fin 2) (i : Fin 8192) (k : Fin 2048) :
    val_main_v32 (F := Ideal) x y gate g b shift scale (ix3 n i k)
      = normalized (sumRow x y gate n i) (g (ix1 k)) (b (ix1 k)) k
        * (Ideal.ofBits .f32 0x3F800000#32 + scale (ix3 n 0 k)) + shift (ix3 n 0 k) := by
  have h : (ix3 n 0 k : S2x1x2048.Idx) = idx_main_v29 (ix3 n i k) := by
    funext a
    match a with
    | ⟨0, _⟩ => rfl
    | ⟨1, _⟩ => rfl
    | ⟨2, _⟩ => rfl
  rw [val_main_v32_apply, val_main_v30_apply, stream_at, val_main_v29_apply, val_main_v28_apply, val_main_v31_apply, h]
  rfl

/-- The reference's transposed copy. -/
theorem transposed_at (n : Fin 2) (i : Fin 8192) (k : Fin 2048) :
    val_main_v35 (F := Ideal) x y gate g b shift scale (ix2 k ⟨n.val * 8192 + i.val, by omega⟩)
      = normalized (sumRow x y gate n i) (g (ix1 k)) (b (ix1 k)) k
        * (Ideal.ofBits .f32 0x3F800000#32 + scale (ix3 n 0 k)) + shift (ix3 n 0 k) := by
  rw [← modulated_at]
  show val_main_v34 (F := Ideal) x y gate g b shift scale (ix2 k ⟨n.val * 8192 + i.val, by omega⟩) = _
  rw [val_main_v34_apply, val_main_v33_apply]
  refine congrArg _ ?_
  funext a
  match a with
  | ⟨0, _⟩ => exact Fin.ext (by show ((n.val * 8192 + i.val) * 2048 + k.val) / 16777216 = n.val; omega)
  | ⟨1, _⟩ => exact Fin.ext (by show ((n.val * 8192 + i.val) * 2048 + k.val) / 2048 % 8192 = i.val; omega)
  | ⟨2, _⟩ => exact Fin.ext (by show ((n.val * 8192 + i.val) * 2048 + k.val) % 2048 = k.val; omega)

end reference

/-! ## What the kernel leaves -/

/-- The body's first array, from the launched arrays. -/
theorem block_at (r : Fin 256) (k : Fin 2048) :
    k0_pay5 (iblk m c 0 t) (iblk m c 2 t) (iblk m c 1 t) (iblk m c 3 t) (iblk m c 4 t) (ix2 r k)
      = normalized (sumRow (argX m c) (argY m c) (argGate m c) (batch t) (row t r)) (argG m c (ix1 k)) (argB m c (ix1 k)) k := by
  refine (normalized_at _ _ _ _ _ r k).trans ?_
  rw [blk3_at, blk4_at]
  refine congrArg (fun v => normalized v _ _ k) (funext fun l => ?_)
  rw [blk0_at, blk1_at, blk2_at]

/-- The body loads whole blocks. -/
theorem block_ld (x0 x1 : Vec Ideal S1x256x2048 .f32) (x2 : Vec Ideal S1x1x2048 .f32) (x3 x4 : Vec Ideal S1x2048 .f32) :
    k0_pay5 (View.ld x0 r0_0) (View.ld x2 r0_1) (View.ld x1 r0_0) (View.ld x3 r0_2) (View.ld x4 r0_2)
      = k0_pay5 x0 x2 x1 x3 x4 := by
  have hz3 : (![0, 0, 0] : Fin 3 → ℕ) = fun _ => 0 := by funext a; fin_cases a <;> rfl
  have hz2 : (![0, 0] : Fin 2 → ℕ) = fun _ => 0 := by funext a; fin_cases a <;> rfl
  rw [View.ld_unit_zero hz3, View.ld_unit_zero hz3, View.ld_unit_zero hz3, View.ld_unit_zero hz2, View.ld_unit_zero hz2]

/-- The kernel leaves the reference's normalized stream. -/
theorem stream_eq : (dats m 0 c).arrAt 7 cfg0.N
    = Cert.NormMidReferenceIdeal.Read.val_main_v26 (F := Ideal) (argX m c) (argY m c) (argGate m c) (argG m c) (argB m c) := by
  refine (dats m 0 c).arrAt_eq_of_covers 7 _ (by decide +kernel) fun t hf y => ?_
  blk_simp
  rw [after0_7]
  frame_out
  obtain ⟨r, k, rfl⟩ : ∃ (r : Fin 256) (k : Fin 2048), y = ix3 0 r k :=
    ⟨y 1, y 2, by
      funext a
      match a with
      | ⟨0, _⟩ => exact Fin.ext (by have : (y 0).val < 1 := (y 0).isLt; show (y 0).val = 0; omega)
      | ⟨1, _⟩ => rfl
      | ⟨2, _⟩ => rfl⟩
  rw [emb7 t r k, stream_at]
  refine (pay1_at _ r k).trans ?_
  unfold k0_pay6
  rw [block_ld, block_at]

/-- The kernel leaves the reference's modulated stream. -/
theorem modulated_eq : (dats m 0 c).arrAt 8 cfg0.N
    = Cert.NormMidReferenceIdeal.Read.val_main_v32 (F := Ideal) (argX m c) (argY m c) (argGate m c) (argG m c) (argB m c)
      (argShift m c) (argScale m c) := by
  refine (dats m 0 c).arrAt_eq_of_covers 8 _ (by decide +kernel) fun t hf y => ?_
  blk_simp
  rw [after0_8]
  frame_out
  obtain ⟨r, k, rfl⟩ : ∃ (r : Fin 256) (k : Fin 2048), y = ix3 0 r k :=
    ⟨y 1, y 2, by
      funext a
      match a with
      | ⟨0, _⟩ => exact Fin.ext (by have : (y 0).val < 1 := (y 0).isLt; show (y 0).val = 0; omega)
      | ⟨1, _⟩ => rfl
      | ⟨2, _⟩ => rfl⟩
  rw [emb8 t r k, modulated_at]
  refine (pay3_at _ _ _ r k).trans ?_
  unfold k0_pay6
  rw [block_ld, block_at, blk5_at, blk6_at]

/-- The kernel leaves the reference's transposed copy. -/
theorem transposed_eq : (dats m 0 c).arrAt 9 cfg0.N
    = Cert.NormMidReferenceIdeal.Read.val_main_v35 (F := Ideal) (argX m c) (argY m c) (argGate m c) (argG m c) (argB m c)
      (argShift m c) (argScale m c) := by
  refine (dats m 0 c).arrAt_eq_of_covers 9 _ (by decide +kernel) fun t hf y => ?_
  blk_simp
  rw [after0_9]
  frame_out
  obtain ⟨k, r, rfl⟩ : ∃ (k : Fin 2048) (r : Fin 256), y = ix2 k r :=
    ⟨y 0, y 1, by
      funext a
      match a with
      | ⟨0, _⟩ => rfl
      | ⟨1, _⟩ => rfl⟩
  rw [emb9 t k r, transposed_at]
  refine (pay4_at _ _ _ r k).trans ?_
  unfold k0_pay6
  rw [block_ld, block_at, blk5_at, blk6_at]

end Cert.Proof.NormMid

end
-- ==== Proof.Carry.lean ====
/-
  The carry of the state space's chunks: the kernel takes the states' real and imaginary halves side by side in the lanes,
  and leaves the state entering every chunk, forward and backward. Here its outputs are the states of one recurrence.
-/
module
public import proofs.«01_k».proof.Proof.Gen.CarryIdeal.Value
public import proofs.«01_k».proof.Proof.Rows
public import Idealize.ShloMosaic.Lib.Claim
public import Idealize.ShloMosaic.Lib.Pipeline.ReadBack
public import Idealize.ShloMosaic.Lib.StableHlo.ReadAt

@[expose] public section
set_option maxRecDepth 16384
noncomputable section
namespace Cert.Proof.Carry
open Idealize.ShloMosaic Idealize.ShloMosaic.TcCoe Cert.CarryIdeal Cert.CarryIdeal.Gen

/-- Entry `r` of a stack of 128 by 128 arrays. -/
abbrev slab {n : ℕ} (x : FVec Ideal ⟨3, ![n, 128, 128]⟩ .f32) (r : Fin n) : FVec Ideal S128x128 .f32 :=
  fun i => x (ix3 r (i 0) (i 1))

/-- One step: the factors of a lane times its state, plus the factors of the swapped halves times the state with its
halves swapped, plus the input. -/
def next (a b e s : FVec Ideal S128x128 .f32) : FVec Ideal S128x128 .f32 := fun i =>
  (a i * s i + b i * s (ix2 (i 0) ⟨((i 1).val + 64) % 128, by omega⟩) + e i : EReal)

/-- The states from `s` on, one step after the other. -/
def states (a b : FVec Ideal S128x128 .f32) (e : ℕ → FVec Ideal S128x128 .f32) (s : FVec Ideal S128x128 .f32) :
    ℕ → FVec Ideal S128x128 .f32
  | 0 => s
  | n + 1 => next a b (e n) (states a b e s n)

theorem pay4_eq (s : FVec Ideal S128x128 .f32) (e a b : FVec Ideal S1x128x128 .f32) :
    k0_pay4 s e a b = next (slab a 0) (slab b 0) (slab e 0) s := by
  funext i
  unfold k0_pay4 next
  pointwise
  have h : (i 1).val < 128 := (i 1).isLt
  refine congrArg (fun z : Fin 128 => (a (ix3 0 (i 0) (i 1)) * s i + b (ix3 0 (i 0) (i 1)) * s (ix2 (i 0) z)
    + e (ix3 0 (i 0) (i 1)) : EReal)) (Fin.ext ?_)
  show ((i 1).val + 128 - 64) % 128 = ((i 1).val + 64) % 128
  omega

section
variable (s : FVec Ideal S128x128 .f32) (e a b : FVec Ideal S1x128x128 .f32)
theorem pay7_eq : k0_pay7 s (k0_pay6 e) a b = next (slab a 0) (slab b 0) (slab e 0) s := pay4_eq s e a b
theorem pay9_eq : k0_pay9 s e a b = next (slab a 0) (slab b 0) (slab e 0) s := pay4_eq s e a b
theorem pay11_eq : k0_pay11 s e a b = next (slab a 0) (slab b 0) (slab e 0) s := pay4_eq s e a b
theorem pay15_eq : k0_pay15 s (k0_pay13 e) (k0_pay14 s a) b = next (slab a 0) (slab b 0) (slab e 0) s := pay4_eq s e a b
theorem pay17_eq : k0_pay17 s e a b = next (slab a 0) (slab b 0) (slab e 0) s := pay4_eq s e a b
theorem pay19_eq : k0_pay19 s e a b = next (slab a 0) (slab b 0) (slab e 0) s := pay4_eq s e a b
theorem pay22_eq : k0_pay22 (k0_pay21 s e a b) = next (slab a 0) (slab b 0) (slab e 0) s := pay4_eq s e a b
theorem pay24_eq : k0_pay24 s e a b = next (slab a 0) (slab b 0) (slab e 0) s := pay4_eq s e a b
theorem pay27_eq : k0_pay27 s (k0_pay26 e) a b = next (slab a 0) (slab b 0) (slab e 0) s := pay4_eq s e a b
theorem pay29_eq : k0_pay29 s e a b = next (slab a 0) (slab b 0) (slab e 0) s := pay4_eq s e a b
theorem pay31_eq : k0_pay31 s e a b = next (slab a 0) (slab b 0) (slab e 0) s := pay4_eq s e a b
theorem pay37_eq : k0_pay37 (k0_pay33 e) (k0_pay34 s a) (k0_pay35 b) (k0_pay36 s) = next (slab a 0) (slab b 0) (slab e 0) s :=
  pay4_eq s e a b
theorem pay39_eq : k0_pay39 s e a b = next (slab a 0) (slab b 0) (slab e 0) s := pay4_eq s e a b
theorem pay41_eq : k0_pay41 s e a b = next (slab a 0) (slab b 0) (slab e 0) s := pay4_eq s e a b
theorem pay43_eq : k0_pay43 s e a b = next (slab a 0) (slab b 0) (slab e 0) s := pay4_eq s e a b
end

/-- A 128 by 128 array as a stack of one. -/
abbrev lift (s : FVec Ideal S128x128 .f32) : FVec Ideal S1x128x128 .f32 := fun i => s (ix2 (i 1) (i 2))

theorem pay3_eq (s : FVec Ideal S128x128 .f32) : k0_pay3 s = lift s := by
  funext i
  unfold k0_pay3
  pointwise
theorem pay5_eq (s : FVec Ideal S128x128 .f32) : k0_pay5 s = lift s := pay3_eq s
theorem pay8_eq (s : FVec Ideal S128x128 .f32) : k0_pay8 s = lift s := pay3_eq s
theorem pay10_eq (s : FVec Ideal S128x128 .f32) : k0_pay10 s = lift s := pay3_eq s
theorem pay12_eq (s : FVec Ideal S128x128 .f32) : k0_pay12 s = lift s := pay3_eq s
theorem pay16_eq (s : FVec Ideal S128x128 .f32) : k0_pay16 s = lift s := pay3_eq s
theorem pay18_eq (s : FVec Ideal S128x128 .f32) : k0_pay18 s = lift s := pay3_eq s
theorem pay20_eq (s : FVec Ideal S128x128 .f32) : k0_pay20 s = lift s := pay3_eq s
theorem pay23_eq (s : FVec Ideal S128x128 .f32) : k0_pay23 s = lift s := pay3_eq s
theorem pay25_eq (s : FVec Ideal S128x128 .f32) : k0_pay25 s = lift s := pay3_eq s
theorem pay28_eq (s : FVec Ideal S128x128 .f32) : k0_pay28 s = lift s := pay3_eq s
theorem pay30_eq (s : FVec Ideal S128x128 .f32) : k0_pay30 s = lift s := pay3_eq s
theorem pay32_eq (s : FVec Ideal S128x128 .f32) : k0_pay32 s = lift s := pay3_eq s
theorem pay38_eq (s : FVec Ideal S128x128 .f32) : k0_pay38 s = lift s := pay3_eq s
theorem pay40_eq (s : FVec Ideal S128x128 .f32) : k0_pay40 s = lift s := pay3_eq s
theorem pay42_eq (s : FVec Ideal S128x128 .f32) : k0_pay42 s = lift s := pay3_eq s

theorem slab_ld8 (x : Vec Ideal S8x128x128 .f32) (r : ℕ) (h : r < 8) (inb) :
    slab (n := 1) (View.ld (Val := Elt Ideal) x (Rect.unit (s := S8x128x128) ![r, 0, 0] ![1, 128, 128] inb)) 0 = slab x ⟨r, h⟩ := by
  funext i
  exact View.ld_unit_apply_of x _ _ _ _ _ fun a => by fin_cases a <;> simp

theorem slab_ld2 (x : Vec Ideal S2x128x128 .f32) (r : ℕ) (h : r < 2) (inb) :
    slab (n := 1) (View.ld (Val := Elt Ideal) x (Rect.unit (s := S2x128x128) ![r, 0, 0] ![1, 128, 128] inb)) 0 = slab x ⟨r, h⟩ := by
  funext i
  exact View.ld_unit_apply_of x _ _ _ _ _ fun a => by fin_cases a <;> simp

variable (m : (ℓ : Loc nD τ sig) → Buf (Elt Ideal) ℓ) (c : Dev nD)

variable (t : Fin cfg0.N)

/-- Row `n` of a block of eight, counted round. -/
abbrev up (x : FVec Ideal S8x128x128 .f32) (n : ℕ) : FVec Ideal S128x128 .f32 := slab x ⟨n % 8, by omega⟩
/-- Row `n` of a block of eight from the last on, counted round. -/
abbrev down (x : FVec Ideal S8x128x128 .f32) (n : ℕ) : FVec Ideal S128x128 .f32 := slab x ⟨7 - n % 8, by omega⟩

theorem piece (F : ℕ → FVec Ideal S128x128 .f32) (k : ℕ) (v : FVec Ideal S128x128 .f32) (hv : v = F k) (x : S1x128x128.Idx)
    (n : ℕ) (p q : Fin 128) (h0 : n = k) (h1 : p.val = (x 1).val) (h2 : q.val = (x 2).val) :
    lift v x = F n (ix2 p q) := by
  subst h0
  rw [← hv]
  exact congrArg v (funext fun a => Fin.ext (by
    match a with
    | ⟨0, _⟩ => exact h1.symm
    | ⟨1, _⟩ => exact h2.symm))

/-- The states of the forward direction at an iteration, from the state it begins with. -/
abbrev fwd (s : FVec Ideal S128x128 .f32) : ℕ → FVec Ideal S128x128 .f32 :=
  states (slab (iblk m c 2 t) 0) (slab (iblk m c 3 t) 0) (up (iblk m c 0 t)) s
/-- The states of the backward direction at an iteration, from the state it begins with. -/
abbrev bwd (s : FVec Ideal S128x128 .f32) : ℕ → FVec Ideal S128x128 .f32 :=
  states (slab (iblk m c 2 t) 1) (slab (iblk m c 3 t) 1) (down (iblk m c 1 t)) s

theorem fwd_out_B (h0 : ¬t.val % 66 = 0) (y : S8x128x128.Idx) : (outsAt0 m c t.val t.isLt).1 y
    = fwd m c t ((outsAt0 m c (t.val - 1) (Nat.lt_of_le_of_lt (Nat.sub_le _ _) t.isLt)).2.2.1)
      (y 0).val (ix2 (y 1) (y 2)) := by
  rw [outsAt0_B m c t h0]
  dsimp only
  frame_open
  simp (disch := decide) only [↓ View.readCov_skip, ↓ View.readCov_cons_toLoadRect, ↓ View.readCov_fill]
  frame_out
  canon_tiles x h
  all_goals simp (disch := decide) only [read_unread_whole, pay4_eq, pay7_eq, pay9_eq, pay11_eq, pay15_eq, pay17_eq, pay19_eq, pay22_eq,
    pay3_eq, pay5_eq, pay8_eq, pay10_eq, pay12_eq, pay16_eq, pay18_eq, pay20_eq, slab_ld8, slab_ld2]
  · exact piece (fwd m c t _) 7 _ rfl x _ _ _ (by omega) h1 h2
  · exact piece (fwd m c t _) 6 _ rfl x _ _ _ (by omega) h1 h2
  · exact piece (fwd m c t _) 5 _ rfl x _ _ _ (by omega) h1 h2
  · exact piece (fwd m c t _) 4 _ rfl x _ _ _ (by omega) h1 h2
  · exact piece (fwd m c t _) 3 _ rfl x _ _ _ (by omega) h1 h2
  · exact piece (fwd m c t _) 2 _ rfl x _ _ _ (by omega) h1 h2
  · exact piece (fwd m c t _) 1 _ rfl x _ _ _ (by omega) h1 h2
  · exact piece (fwd m c t _) 0 _ rfl x _ _ _ (by omega) h1 h2

theorem fwd_end_B (h0 : ¬t.val % 66 = 0) : (outsAt0 m c t.val t.isLt).2.2.1
    = fwd m c t ((outsAt0 m c (t.val - 1) (Nat.lt_of_le_of_lt (Nat.sub_le _ _) t.isLt)).2.2.1) 8 := by
  rw [outsAt0_B m c t h0]
  dsimp only
  frame_open
  simp (disch := decide) only [↓ View.readCov_skip, ↓ View.readCov_cons_toLoadRect, ↓ View.readCov_fill]
  frame_out
  simp (disch := decide) only [read_unread_whole, pay4_eq, pay7_eq, pay9_eq, pay11_eq, pay15_eq, pay17_eq, pay19_eq, pay22_eq,
    pay3_eq, pay5_eq, pay8_eq, pay10_eq, pay12_eq, pay16_eq, pay18_eq, pay20_eq, slab_ld8, slab_ld2]
  rfl

theorem bwd_out_B (h0 : ¬t.val % 66 = 0) (y : S8x128x128.Idx) : (outsAt0 m c t.val t.isLt).2.1 y
    = bwd m c t ((outsAt0 m c (t.val - 1) (Nat.lt_of_le_of_lt (Nat.sub_le _ _) t.isLt)).2.2.2)
      (7 - (y 0).val) (ix2 (y 1) (y 2)) := by
  rw [outsAt0_B m c t h0]
  dsimp only
  frame_open
  simp (disch := decide) only [↓ View.readCov_skip, ↓ View.readCov_cons_toLoadRect, ↓ View.readCov_fill]
  frame_out
  canon_tiles x h
  all_goals simp (disch := decide) only [read_unread_whole, pay24_eq, pay27_eq, pay29_eq, pay31_eq, pay37_eq, pay39_eq, pay41_eq, pay43_eq,
    pay23_eq, pay25_eq, pay28_eq, pay30_eq, pay32_eq, pay38_eq, pay40_eq, pay42_eq, slab_ld8, slab_ld2]
  · exact piece (bwd m c t _) 7 _ rfl x _ _ _ (by omega) h1 h2
  · exact piece (bwd m c t _) 6 _ rfl x _ _ _ (by omega) h1 h2
  · exact piece (bwd m c t _) 5 _ rfl x _ _ _ (by omega) h1 h2
  · exact piece (bwd m c t _) 4 _ rfl x _ _ _ (by omega) h1 h2
  · exact piece (bwd m c t _) 3 _ rfl x _ _ _ (by omega) h1 h2
  · exact piece (bwd m c t _) 2 _ rfl x _ _ _ (by omega) h1 h2
  · exact piece (bwd m c t _) 1 _ rfl x _ _ _ (by omega) h1 h2
  · exact piece (bwd m c t _) 0 _ rfl x _ _ _ (by omega) h1 h2

theorem bwd_end_B (h0 : ¬t.val % 66 = 0) : (outsAt0 m c t.val t.isLt).2.2.2
    = bwd m c t ((outsAt0 m c (t.val - 1) (Nat.lt_of_le_of_lt (Nat.sub_le _ _) t.isLt)).2.2.2) 8 := by
  rw [outsAt0_B m c t h0]
  dsimp only
  frame_open
  simp (disch := decide) only [↓ View.readCov_skip, ↓ View.readCov_cons_toLoadRect, ↓ View.readCov_fill]
  frame_out
  simp (disch := decide) only [read_unread_whole, pay24_eq, pay27_eq, pay29_eq, pay31_eq, pay37_eq, pay39_eq, pay41_eq, pay43_eq,
    pay23_eq, pay25_eq, pay28_eq, pay30_eq, pay32_eq, pay38_eq, pay40_eq, pay42_eq, slab_ld8, slab_ld2]
  rfl

theorem fwd_out_A (h0 : t.val % 66 = 0) (y : S8x128x128.Idx) : (outsAt0 m c t.val t.isLt).1 y
    = fwd m c t (k0_pay1)
      (y 0).val (ix2 (y 1) (y 2)) := by
  rw [outsAt0_A m c t h0]
  dsimp only
  frame_open
  simp (disch := decide) only [↓ View.readCov_skip, ↓ View.readCov_cons_toLoadRect, ↓ View.readCov_fill]
  frame_out
  canon_tiles x h
  all_goals simp (disch := decide) only [read_unread_whole, pay4_eq, pay7_eq, pay9_eq, pay11_eq, pay15_eq, pay17_eq, pay19_eq, pay22_eq,
    pay3_eq, pay5_eq, pay8_eq, pay10_eq, pay12_eq, pay16_eq, pay18_eq, pay20_eq, slab_ld8, slab_ld2]
  · exact piece (fwd m c t _) 7 _ rfl x _ _ _ (by omega) h1 h2
  · exact piece (fwd m c t _) 6 _ rfl x _ _ _ (by omega) h1 h2
  · exact piece (fwd m c t _) 5 _ rfl x _ _ _ (by omega) h1 h2
  · exact piece (fwd m c t _) 4 _ rfl x _ _ _ (by omega) h1 h2
  · exact piece (fwd m c t _) 3 _ rfl x _ _ _ (by omega) h1 h2
  · exact piece (fwd m c t _) 2 _ rfl x _ _ _ (by omega) h1 h2
  · exact piece (fwd m c t _) 1 _ rfl x _ _ _ (by omega) h1 h2
  · exact piece (fwd m c t _) 0 _ rfl x _ _ _ (by omega) h1 h2

theorem fwd_end_A (h0 : t.val % 66 = 0) : (outsAt0 m c t.val t.isLt).2.2.1
    = fwd m c t (k0_pay1) 8 := by
  rw [outsAt0_A m c t h0]
  dsimp only
  frame_open
  simp (disch := decide) only [↓ View.readCov_skip, ↓ View.readCov_cons_toLoadRect, ↓ View.readCov_fill]
  frame_out
  simp (disch := decide) only [read_unread_whole, pay4_eq, pay7_eq, pay9_eq, pay11_eq, pay15_eq, pay17_eq, pay19_eq, pay22_eq,
    pay3_eq, pay5_eq, pay8_eq, pay10_eq, pay12_eq, pay16_eq, pay18_eq, pay20_eq, slab_ld8, slab_ld2]
  rfl

theorem bwd_out_A (h0 : t.val % 66 = 0) (y : S8x128x128.Idx) : (outsAt0 m c t.val t.isLt).2.1 y
    = bwd m c t (k0_pay2)
      (7 - (y 0).val) (ix2 (y 1) (y 2)) := by
  rw [outsAt0_A m c t h0]
  dsimp only
  frame_open
  simp (disch := decide) only [↓ View.readCov_skip, ↓ View.readCov_cons_toLoadRect, ↓ View.readCov_fill]
  frame_out
  canon_tiles x h
  all_goals simp (disch := decide) only [read_unread_whole, pay24_eq, pay27_eq, pay29_eq, pay31_eq, pay37_eq, pay39_eq, pay41_eq, pay43_eq,
    pay23_eq, pay25_eq, pay28_eq, pay30_eq, pay32_eq, pay38_eq, pay40_eq, pay42_eq, slab_ld8, slab_ld2]
  · exact piece (bwd m c t _) 7 _ rfl x _ _ _ (by omega) h1 h2
  · exact piece (bwd m c t _) 6 _ rfl x _ _ _ (by omega) h1 h2
  · exact piece (bwd m c t _) 5 _ rfl x _ _ _ (by omega) h1 h2
  · exact piece (bwd m c t _) 4 _ rfl x _ _ _ (by omega) h1 h2
  · exact piece (bwd m c t _) 3 _ rfl x _ _ _ (by omega) h1 h2
  · exact piece (bwd m c t _) 2 _ rfl x _ _ _ (by omega) h1 h2
  · exact piece (bwd m c t _) 1 _ rfl x _ _ _ (by omega) h1 h2
  · exact piece (bwd m c t _) 0 _ rfl x _ _ _ (by omega) h1 h2

theorem bwd_end_A (h0 : t.val % 66 = 0) : (outsAt0 m c t.val t.isLt).2.2.2
    = bwd m c t (k0_pay2) 8 := by
  rw [outsAt0_A m c t h0]
  dsimp only
  frame_open
  simp (disch := decide) only [↓ View.readCov_skip, ↓ View.readCov_cons_toLoadRect, ↓ View.readCov_fill]
  frame_out
  simp (disch := decide) only [read_unread_whole, pay24_eq, pay27_eq, pay29_eq, pay31_eq, pay37_eq, pay39_eq, pay41_eq, pay43_eq,
    pay23_eq, pay25_eq, pay28_eq, pay30_eq, pay32_eq, pay38_eq, pay40_eq, pay42_eq, slab_ld8, slab_ld2]
  rfl

/-! ## The two directions over a whole batch -/

/-- The forward chunks' end states as launched. -/
abbrev argF : FVec Ideal S1056x128x128 .f32 := m ((c : Thread nD τ).loc main_arg0)
/-- The backward chunks' end states as launched. -/
abbrev argB : FVec Ideal S1056x128x128 .f32 := m ((c : Thread nD τ).loc main_arg1)
/-- The powers' real parts as launched. -/
abbrev argR : FVec Ideal S2x128x64 .f32 := m ((c : Thread nD τ).loc main_arg2)
/-- The powers' imaginary parts as launched. -/
abbrev argI : FVec Ideal S2x128x64 .f32 := m ((c : Thread nD τ).loc main_arg3)

/-- Where the backward direction reads its step `n`: the context's 16 chunks from the last on, then the latents' 512. -/
def turn (n : ℕ) : ℕ := if n < 16 then 15 - n else 543 - n

/-- The inputs of batch `b` in the forward direction's order. -/
abbrev inF (x : FVec Ideal S1056x128x128 .f32) (b n : ℕ) : FVec Ideal S128x128 .f32 := slab x ⟨(b * 528 + n) % 1056, by omega⟩
/-- The inputs of batch `b` in the backward direction's order. -/
abbrev inB (x : FVec Ideal S1056x128x128 .f32) (b n : ℕ) : FVec Ideal S128x128 .f32 := slab x ⟨(b * 528 + turn n) % 1056, by omega⟩

theorem states_add (a b : FVec Ideal S128x128 .f32) (e : ℕ → FVec Ideal S128x128 .f32) (s : FVec Ideal S128x128 .f32) (k : ℕ) :
    ∀ n, states a b e s (k + n) = states a b (fun i => e (k + i)) (states a b e s k) n
  | 0 => rfl
  | n + 1 => congrArg (next a b (e (k + n))) (states_add a b e s k n)

theorem states_congr (a b : FVec Ideal S128x128 .f32) (e e' : ℕ → FVec Ideal S128x128 .f32) (s : FVec Ideal S128x128 .f32) :
    ∀ n, (∀ i < n, e i = e' i) → states a b e s n = states a b e' s n
  | 0, _ => rfl
  | n + 1, h => by
    show next a b (e n) _ = next a b (e' n) _
    rw [h n (Nat.lt_succ_self n), states_congr a b e e' s n fun i hi => h i (Nat.lt_succ_of_lt hi)]

theorem idx0 : ∀ t : Fin cfg0.N, win0_0.index t = ![t.val, 0, 0] := (by decide +kernel : ∀ t : Fin grid0.N, _)
theorem idx1 : ∀ t : Fin cfg0.N, win0_1.index t
    = ![t.val / 66 * 66 + (if t.val % 66 < 2 then 1 - t.val % 66 else 67 - t.val % 66), 0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![t.val, 0, 0] := (by decide +kernel : ∀ t : Fin grid0.N, _)
theorem idx5 : ∀ t : Fin cfg0.N, win0_5.index t
    = ![t.val / 66 * 66 + (if t.val % 66 < 2 then 1 - t.val % 66 else 67 - t.val % 66), 0, 0] := (by decide +kernel : ∀ t : Fin grid0.N, _)

theorem points : cfg0.N = 132 := N_0

/-- Row `r` of an iteration's block, forward. -/
abbrev rowF (r : Fin 8) : Fin 1056 := ⟨t.val * 8 + r.val, by have := t.isLt; have := points; omega⟩
/-- Row `r` of an iteration's block, backward. -/
abbrev rowB (r : Fin 8) : Fin 1056 :=
  ⟨(t.val / 66 * 66 + (if t.val % 66 < 2 then 1 - t.val % 66 else 67 - t.val % 66)) * 8 + r.val, by
    have := t.isLt
    have := points
    split <;> omega⟩

theorem blk0_at (r : Fin 8) (g l : Fin 128) : iblk m c 0 t (ix3 r g l) = V m c main_arg0 (ix3 (rowF t r) g l) := by
  blk_ext [iblk, idx0 t]

theorem blk1_at (r : Fin 8) (g l : Fin 128) : iblk m c 1 t (ix3 r g l) = V m c main_arg1 (ix3 (rowB t r) g l) := by
  blk_ext [iblk, idx1 t]

theorem blk2_at (d : Fin 2) (g l : Fin 128) : iblk m c 2 t (ix3 d g l) = V m c main_v0 (ix3 d g l) := by
  blk_ext [iblk, idx2 t]

theorem blk3_at (d : Fin 2) (g l : Fin 128) : iblk m c 3 t (ix3 d g l) = V m c main_v2 (ix3 d g l) := by
  blk_ext [iblk, idx3 t]

theorem emb4 (r : Fin 8) (g l : Fin 128) : (win0_4.blk t).view.emb (ix3 r g l) = ix3 (rowF t r) g l := by
  blk_ext [idx4 t]

theorem emb5 (r : Fin 8) (g l : Fin 128) : (win0_5.blk t).view.emb (ix3 r g l) = ix3 (rowB t r) g l := by
  blk_ext [idx5 t]

/-- A lane's factor of its own state. -/
abbrev facA (d : Fin 2) : FVec Ideal S128x128 .f32 := slab (V m c main_v0 : FVec Ideal S2x128x128 .f32) d
/-- A lane's factor of the other half's state. -/
abbrev facB (d : Fin 2) : FVec Ideal S128x128 .f32 := slab (V m c main_v2 : FVec Ideal S2x128x128 .f32) d
/-- The states of batch `b`, forward. -/
abbrev allF (b : ℕ) : ℕ → FVec Ideal S128x128 .f32 := states (facA m c 0) (facB m c 0) (inF (argF m c) b) k0_pay1
/-- The states of batch `b`, backward. -/
abbrev allB (b : ℕ) : ℕ → FVec Ideal S128x128 .f32 := states (facA m c 1) (facB m c 1) (inB (argB m c) b) k0_pay1

theorem fwd_eq (n : ℕ) (hn : n ≤ 8) : fwd m c t (allF m c (t.val / 66) (t.val % 66 * 8)) n
    = allF m c (t.val / 66) (t.val % 66 * 8 + n) := by
  have e2 : slab (iblk m c 2 t : FVec Ideal S2x128x128 .f32) 0 = facA m c 0 := funext fun i => blk2_at m c t 0 (i 0) (i 1)
  have e3 : slab (iblk m c 3 t : FVec Ideal S2x128x128 .f32) 0 = facB m c 0 := funext fun i => blk3_at m c t 0 (i 0) (i 1)
  unfold fwd allF
  rw [e2, e3, states_add]
  refine states_congr _ _ _ _ _ n fun i hi => funext fun j => ?_
  refine (blk0_at m c t _ (j 0) (j 1)).trans ?_
  rw [V_main_arg0]
  refine congrArg (fun z : Fin 1056 => argF m c (ix3 z (j 0) (j 1))) (Fin.ext ?_)
  have := t.isLt
  have := points
  show t.val * 8 + i % 8 = (t.val / 66 * 528 + (t.val % 66 * 8 + i)) % 1056
  omega

theorem bwd_eq (n : ℕ) (hn : n ≤ 8) : bwd m c t (allB m c (t.val / 66) (t.val % 66 * 8)) n
    = allB m c (t.val / 66) (t.val % 66 * 8 + n) := by
  have e2 : slab (iblk m c 2 t : FVec Ideal S2x128x128 .f32) 1 = facA m c 1 := funext fun i => blk2_at m c t 1 (i 0) (i 1)
  have e3 : slab (iblk m c 3 t : FVec Ideal S2x128x128 .f32) 1 = facB m c 1 := funext fun i => blk3_at m c t 1 (i 0) (i 1)
  unfold bwd allB
  rw [e2, e3, states_add]
  refine states_congr _ _ _ _ _ n fun i hi => funext fun j => ?_
  refine (blk1_at m c t _ (j 0) (j 1)).trans ?_
  rw [V_main_arg1]
  refine congrArg (fun z : Fin 1056 => argB m c (ix3 z (j 0) (j 1))) (Fin.ext ?_)
  have := t.isLt
  have := points
  show (t.val / 66 * 66 + (if t.val % 66 < 2 then 1 - t.val % 66 else 67 - t.val % 66)) * 8 + (7 - i % 8)
    = (t.val / 66 * 528 + turn (t.val % 66 * 8 + i)) % 1056
  unfold turn
  split <;> split <;> omega

theorem ends : ∀ (n : ℕ) (h : n < cfg0.N), (outsAt0 m c n h).2.2.1 = allF m c (n / 66) (n % 66 * 8 + 8)
    ∧ (outsAt0 m c n h).2.2.2 = allB m c (n / 66) (n % 66 * 8 + 8)
  | n, h => by
    by_cases h0 : n % 66 = 0
    · have eF := fwd_eq m c ⟨n, h⟩ 8 (Nat.le_refl 8)
      have eB := bwd_eq m c ⟨n, h⟩ 8 (Nat.le_refl 8)
      refine ⟨(fwd_end_A m c ⟨n, h⟩ h0).trans (Eq.trans ?_ eF), (bwd_end_A m c ⟨n, h⟩ h0).trans (Eq.trans ?_ eB)⟩
      · exact congrArg (fun s => fwd m c ⟨n, h⟩ s 8) (by show k0_pay1 = allF m c (n / 66) (n % 66 * 8); rw [h0]; rfl)
      · exact congrArg (fun s => bwd m c ⟨n, h⟩ s 8) (by show k0_pay2 = allB m c (n / 66) (n % 66 * 8); rw [h0]; rfl)
    · have ih := ends (n - 1) (Nat.lt_of_le_of_lt (Nat.sub_le _ _) h)
      have e1 : (n - 1) / 66 = n / 66 := by omega
      have e2 : (n - 1) % 66 * 8 + 8 = n % 66 * 8 := by omega
      rw [e1, e2] at ih
      have eF := fwd_eq m c ⟨n, h⟩ 8 (Nat.le_refl 8)
      have eB := bwd_eq m c ⟨n, h⟩ 8 (Nat.le_refl 8)
      exact ⟨(fwd_end_B m c ⟨n, h⟩ h0).trans ((congrArg (fun s => fwd m c ⟨n, h⟩ s 8) ih.1).trans eF),
        (bwd_end_B m c ⟨n, h⟩ h0).trans ((congrArg (fun s => bwd m c ⟨n, h⟩ s 8) ih.2).trans eB)⟩
  termination_by n => n
  decreasing_by omega

/-- What an iteration writes, forward. -/
theorem fwd_out (r : Fin 8) (g l : Fin 128) : (outsAt0 m c t.val t.isLt).1 (ix3 r g l)
    = allF m c (t.val / 66) (t.val % 66 * 8 + r.val) (ix2 g l) := by
  have e := fwd_eq m c t r.val (by omega)
  by_cases h0 : t.val % 66 = 0
  · refine (fwd_out_A m c t h0 _).trans (Eq.trans ?_ (congrFun e (ix2 g l)))
    exact congrArg (fun s => fwd m c t s r.val (ix2 g l)) (by show k0_pay1 = allF m c (t.val / 66) (t.val % 66 * 8); rw [h0]; rfl)
  · have ih := (ends m c (t.val - 1) (Nat.lt_of_le_of_lt (Nat.sub_le _ _) t.isLt)).1
    have e1 : (t.val - 1) / 66 = t.val / 66 := by omega
    have e2 : (t.val - 1) % 66 * 8 + 8 = t.val % 66 * 8 := by omega
    rw [e1, e2] at ih
    exact (fwd_out_B m c t h0 _).trans ((congrArg (fun s => fwd m c t s r.val (ix2 g l)) ih).trans (congrFun e (ix2 g l)))

/-- What an iteration writes, backward. -/
theorem bwd_out (r : Fin 8) (g l : Fin 128) : (outsAt0 m c t.val t.isLt).2.1 (ix3 r g l)
    = allB m c (t.val / 66) (t.val % 66 * 8 + (7 - r.val)) (ix2 g l) := by
  have e := bwd_eq m c t (7 - r.val) (by omega)
  by_cases h0 : t.val % 66 = 0
  · refine (bwd_out_A m c t h0 _).trans (Eq.trans ?_ (congrFun e (ix2 g l)))
    exact congrArg (fun s => bwd m c t s (7 - r.val) (ix2 g l)) (by show k0_pay2 = allB m c (t.val / 66) (t.val % 66 * 8); rw [h0]; rfl)
  · have ih := (ends m c (t.val - 1) (Nat.lt_of_le_of_lt (Nat.sub_le _ _) t.isLt)).2
    have e1 : (t.val - 1) / 66 = t.val / 66 := by omega
    have e2 : (t.val - 1) % 66 * 8 + 8 = t.val % 66 * 8 := by omega
    rw [e1, e2] at ih
    exact (bwd_out_B m c t h0 _).trans ((congrArg (fun s => bwd m c t s (7 - r.val) (ix2 g l)) ih).trans (congrFun e (ix2 g l)))

theorem split3 {a b d : ℕ} (y : (⟨3, ![a, b, d]⟩ : Shape).Idx) : ∃ (p : Fin a) (q : Fin b) (r : Fin d), y = ix3 p q r :=
  ⟨y 0, y 1, y 2, by
    funext k
    match k with
    | ⟨0, _⟩ => rfl
    | ⟨1, _⟩ => rfl
    | ⟨2, _⟩ => rfl⟩

/-- An array with the forward states in every row is what the kernel leaves first. -/
theorem arrayF_of (G : FVec Ideal S1056x128x128 .f32) (hG : ∀ (i : Fin 1056) (g l : Fin 128), G (ix3 i g l)
      = allF m c (i.val / 528) (i.val % 528) (ix2 g l)) : (dats m 0 c).arrAt 4 cfg0.N = G := by
  refine (dats m 0 c).arrAt_eq_of_covers 4 _ (by decide +kernel) fun t hf y => ?_
  blk_simp
  rw [after0_4]
  obtain ⟨r, g, l, rfl⟩ := split3 (a := 8) (b := 128) (d := 128) y
  rw [emb4 t r g l, hG]
  refine (fwd_out m c t r g l).trans ?_
  have := t.isLt
  have := points
  have e1 : (rowF t r).val / 528 = t.val / 66 := by show (t.val * 8 + r.val) / 528 = _; omega
  have e2 : (rowF t r).val % 528 = t.val % 66 * 8 + r.val := by show (t.val * 8 + r.val) % 528 = _; omega
  rw [e1, e2]

/-- An array with the backward states in every row is what the kernel leaves second. -/
theorem arrayB_of (G : FVec Ideal S1056x128x128 .f32) (hG : ∀ (i : Fin 1056) (g l : Fin 128), G (ix3 i g l)
      = allB m c (i.val / 528) (turn (i.val % 528)) (ix2 g l)) : (dats m 0 c).arrAt 5 cfg0.N = G := by
  refine (dats m 0 c).arrAt_eq_of_covers 5 _ (by decide +kernel) fun t hf y => ?_
  blk_simp
  rw [after0_5]
  obtain ⟨r, g, l, rfl⟩ := split3 (a := 8) (b := 128) (d := 128) y
  rw [emb5 t r g l, hG]
  refine (bwd_out m c t r g l).trans ?_
  have := t.isLt
  have := points
  have hr := r.isLt
  have e1 : (rowB t r).val / 528 = t.val / 66 := by
    show ((t.val / 66 * 66 + (if t.val % 66 < 2 then 1 - t.val % 66 else 67 - t.val % 66)) * 8 + r.val) / 528 = _
    split <;> omega
  have e2 : turn ((rowB t r).val % 528) = t.val % 66 * 8 + (7 - r.val) := by
    show turn (((t.val / 66 * 66 + (if t.val % 66 < 2 then 1 - t.val % 66 else 67 - t.val % 66)) * 8 + r.val) % 528) = _
    unfold turn
    split <;> split <;> omega
  rw [e1, e2]

end Cert.Proof.Carry
end
-- ==== Proof.CarryScan.lean ====
/-
  The reference's states: its loop carries the real and the imaginary halves of both directions' states and keeps the
  states before every step; they are the kernel's states.
-/
module

public import proofs.«01_k».proof.Proof.Carry
public import proofs.«01_k».proof.Proof.Gen.CarryReferenceIdeal.Run
public import proofs.«01_k».proof.Proof.Gen.CarryReferenceIdeal.Step

@[expose] public section

set_option maxRecDepth 16384

noncomputable section

namespace Cert.Proof.Carry

open Idealize.ShloMosaic Idealize.ShloMosaic.TcCoe Cert.CarryReferenceIdeal Cert.CarryReferenceIdeal.Step

variable {α : Type}

/-- Two arrays of lanes joined, at a lane of the first one. -/
theorem lanes3_left (y z : S2x128x64.Idx → α) (hc : Shape.Concatenates [S2x128x64, S2x128x64] (⟨3, ![2, 128, 128]⟩ : Shape) 2)
    (d : Fin 2) (g l : Fin 128) (h : l.val < 64) :
    concatenate (⟨3, ![2, 128, 128]⟩ : Shape) 2 [⟨S2x128x64, y⟩, ⟨S2x128x64, z⟩] hc (ix3 d g l) = y (ix3 d g ⟨l.val, h⟩) :=
  concatenate_pair_apply_left (t := (⟨3, ![2, 128, 128]⟩ : Shape)) (s₁ := S2x128x64) (s₂ := S2x128x64) 2 y z hc
    (ix3 d g l) rfl (ix3 d g ⟨l.val, h⟩) fun a => match a with
      | ⟨0, _⟩ => rfl
      | ⟨1, _⟩ => rfl
      | ⟨2, _⟩ => rfl

/-- Two arrays of lanes joined, at a lane of the second one. -/
theorem lanes3_right (y z : S2x128x64.Idx → α) (hc : Shape.Concatenates [S2x128x64, S2x128x64] (⟨3, ![2, 128, 128]⟩ : Shape) 2)
    (d : Fin 2) (g l : Fin 128) (h : ¬l.val < 64) :
    concatenate (⟨3, ![2, 128, 128]⟩ : Shape) 2 [⟨S2x128x64, y⟩, ⟨S2x128x64, z⟩] hc (ix3 d g l) = z (ix3 d g ⟨l.val - 64, by omega⟩) :=
  concatenate_pair_apply_right (t := (⟨3, ![2, 128, 128]⟩ : Shape)) (s₁ := S2x128x64) (s₂ := S2x128x64) 2 y z hc
    (ix3 d g l) rfl rfl (ix3 d g ⟨l.val - 64, by omega⟩) (fun a => match a with
      | ⟨0, _⟩ => fun _ => rfl
      | ⟨1, _⟩ => fun _ => rfl
      | ⟨2, _⟩ => fun ha => absurd rfl ha) (by show l.val - 64 + 64 = l.val; omega)

/-! ## The factors -/

/-- The factor of a lane's own state: the power's real part. -/
def ownF (r : FVec Ideal S2x128x64 .f32) (d : Fin 2) : FVec Ideal CarryIdeal.S128x128 .f32 := fun i =>
  if h : (i 1).val < 64 then r (ix3 d (i 0) ⟨(i 1).val, h⟩)
  else r (ix3 d (i 0) ⟨(i 1).val - 64, by have : (i 1).val < 128 := (i 1).isLt; omega⟩)

/-- The factor of the other half's state: the power's imaginary part, negated in the real half. -/
def otherF (r : FVec Ideal S2x128x64 .f32) (d : Fin 2) : FVec Ideal CarryIdeal.S128x128 .f32 := fun i =>
  (if h : (i 1).val < 64 then -(r (ix3 d (i 0) ⟨(i 1).val, h⟩) : EReal)
  else r (ix3 d (i 0) ⟨(i 1).val - 64, by have : (i 1).val < 128 := (i 1).isLt; omega⟩) : EReal)

section
variable (m : (ℓ : Loc nD τ CarryIdeal.sig) → Buf (Elt Ideal) ℓ) (c : Dev nD)

theorem facA_eq (d : Fin 2) : facA m c d = ownF (argR m c) d := by
  have e : CarryIdeal.Gen.V m c CarryIdeal.main_v0 = concatenate (⟨3, ![2, 128, 128]⟩ : Shape) 2
      [⟨S2x128x64, argR m c⟩, ⟨S2x128x64, argR m c⟩] CarryIdeal.Gen.concatenates_S2x128x64_S2x128x64_S2x128x128_d2 := by
    unfold CarryIdeal.Gen.V
    after_reads_simp
    rfl
  funext i
  unfold facA slab ownF
  rw [e]
  by_cases h : (i 1).val < 64
  · rw [dif_pos h]
    exact lanes3_left _ _ _ d (i 0) (i 1) h
  · rw [dif_neg h]
    exact lanes3_right _ _ _ d (i 0) (i 1) h

theorem facB_eq (d : Fin 2) : facB m c d = otherF (argI m c) d := by
  have e : CarryIdeal.Gen.V m c CarryIdeal.main_v2 = concatenate (⟨3, ![2, 128, 128]⟩ : Shape) 2
      [⟨S2x128x64, Host.negf (argI m c)⟩, ⟨S2x128x64, argI m c⟩] CarryIdeal.Gen.concatenates_S2x128x64_S2x128x64_S2x128x128_d2 := by
    unfold CarryIdeal.Gen.V
    after_reads_simp
    rfl
  funext i
  unfold facB slab otherF
  rw [e]
  by_cases h : (i 1).val < 64
  · rw [dif_pos h]
    exact lanes3_left _ _ _ d (i 0) (i 1) h
  · rw [dif_neg h]
    exact lanes3_right _ _ _ d (i 0) (i 1) h
end

theorem start_at (i : CarryIdeal.S128x128.Idx) : (CarryIdeal.Gen.k0_pay1 (F := Ideal)) i = (0 : EReal) := by
  unfold CarryIdeal.Gen.k0_pay1
  pointwise

/-! ## The reference's loop -/

variable (x0 x1 : FVec Ideal S1056x128x128 .f32) (x2 x3 : FVec Ideal S2x128x64 .f32)

/-- The loop's states. -/
def it : ℕ → State Ideal
  | 0 => init x2 x3 x0 x1
  | n + 1 => step n (it n)

theorem it_in : ∀ n, (it x0 x1 x2 x3 n).main_v13_0 = A_main_v11 x0 x1
  | 0 => rfl
  | n + 1 => it_in n
theorem it_re : ∀ n, (it x0 x1 x2 x3 n).main_v13_1 = x2
  | 0 => rfl
  | n + 1 => it_re n
theorem it_im : ∀ n, (it x0 x1 x2 x3 n).main_v13_2 = x3
  | 0 => rfl
  | n + 1 => it_im n

theorem v0_at (b : Fin 2) (n : Fin 528) (g l : Fin 128) : A_main_v0 (F := Ideal) x0 x1 (ix4 b n g l)
    = x0 (ix3 ⟨b.val * 528 + n.val, by omega⟩ g l) := by
  unfold A_main_v0
  pointwise

theorem v1_at (b : Fin 2) (n : Fin 528) (g l : Fin 128) : A_main_v1 (F := Ideal) x0 x1 (ix4 b n g l)
    = x1 (ix3 ⟨b.val * 528 + n.val, by omega⟩ g l) := by
  unfold A_main_v1
  pointwise

theorem v6_at (b : Fin 2) (n : Fin 528) (g l : Fin 128) : A_main_v6 (F := Ideal) x0 x1 (ix4 b n g l)
    = A_main_v1 (F := Ideal) x0 x1 (ix4 b ⟨turn n.val, by unfold turn; split <;> omega⟩ g l) := by
  unfold A_main_v6 A_main_v3 A_main_v2 A_main_v5 A_main_v4
  pointwise
  by_cases h : n.val < 16
  · simp only [h, ↓reduceDIte]
    refine congrArg (fun q => A_main_v1 (F := Ideal) x0 x1 (ix4 b q g l)) (Fin.ext ?_)
    simp [turn, h, Fin.rev]
    try omega
  · simp only [h, ↓reduceDIte]
    refine congrArg (fun q => A_main_v1 (F := Ideal) x0 x1 (ix4 b q g l)) (Fin.ext ?_)
    simp [turn, h, Fin.rev]
    try omega

theorem in_at (n : Fin 528) (b d : Fin 2) (g l : Fin 128) : A_main_v11 (F := Ideal) x0 x1 (ix5 n b d g l)
    = (if d = 0 then inF x0 b.val n.val else inB x1 b.val n.val) (ix2 g l) := by
  unfold A_main_v11 A_main_v9 A_main_v8 A_main_v7
  pointwise
  have hb := b.isLt
  have hn := n.isLt
  have ht : turn n.val < 528 := by unfold turn; split <;> omega
  by_cases h : d.val < 1
  · have hd : d = 0 := Fin.ext (by simpa using h)
    simp only [h, hd, ↓reduceDIte, ↓reduceIte]
    rw [v0_at]
    exact congrArg (fun q => x0 (ix3 q g l)) (Fin.ext (by show b.val * 528 + n.val = (b.val * 528 + n.val) % 1056; omega))
  · have hd : ¬d = 0 := fun e => h (by rw [e]; decide)
    simp only [h, hd, ↓reduceDIte, ↓reduceIte]
    rw [v6_at, v1_at]
    exact congrArg (fun q => x1 (ix3 q g l)) (Fin.ext (by show b.val * 528 + turn n.val = (b.val * 528 + turn n.val) % 1056; omega))

/-- The slice at the trip's number. -/
theorem at_trip (j : Fin 528) : S528x2x2x128x128.Slices ![j.val, 0, 0, 0, 0] S1x2x2x128x128 :=
  ⟨rfl, fun a => by have := j.isLt; fin_cases a <;> simp [S528x2x2x128x128, S1x2x2x128x128] <;> omega⟩

theorem trip_starts (j : Fin 528) (a : Fin 5) :
    (((![constantI S_ 32 (BitVec.ofNat 32 j.val), constantI S_ 32 0#32, constantI S_ 32 0#32, constantI S_ 32 0#32, constantI S_ 32 0#32] :
      Fin 5 → (⟨S_, .i32⟩ : BufTy).Contents (Elt Ideal))) a (Shape.Idx.first Gen.h_S_)).toInt = ((![j.val, 0, 0, 0, 0] : Fin 5 → ℕ) a : Int) := by
  have := j.isLt
  fin_cases a
  · exact WordCmp.toInt_ofNat_of_lt (by omega)
  all_goals rfl

theorem b5_at (j : Fin 528) (s : State Ideal) (b d : Fin 2) (g l : Fin 128) : b5 j.val s (ix4 b d g l)
    = s.main_v13_0 (ix5 j b d g l) := by
  have e : b4 j.val s = extractStridedSlice S1x2x2x128x128 ![j.val, 0, 0, 0, 0] s.main_v13_0 (at_trip j) :=
    WordCmp.dynamicSlice_eq_extract _ _ _ _ _ (at_trip j) (trip_starts j)
  unfold b5
  rw [e]
  pointwise

theorem b14_at (j : ℕ) (s : State Ideal) (b d : Fin 2) (g : Fin 128) (p : Fin 64) : b14 j s (ix4 b d g p)
    = (s.main_v13_1 (ix3 d g p) * s.main_v13_4 (ix4 b d g p) - s.main_v13_2 (ix3 d g p) * s.main_v13_5 (ix4 b d g p)
      + b5 j s (ix4 b d g ⟨p.val, by omega⟩) : EReal) := by
  unfold b14 b12 b8 b11 b7 b10 b6 b9 b13
  pointwise

theorem b23_at (j : ℕ) (s : State Ideal) (b d : Fin 2) (g : Fin 128) (p : Fin 64) : b23 j s (ix4 b d g p)
    = (s.main_v13_1 (ix3 d g p) * s.main_v13_5 (ix4 b d g p) + s.main_v13_2 (ix3 d g p) * s.main_v13_4 (ix4 b d g p)
      + b5 j s (ix4 b d g ⟨64 + p.val, by omega⟩) : EReal) := by
  unfold b23 b21 b17 b20 b16 b19 b15 b18 b22
  pointwise

theorem b30_at (j : Fin 528) (s : State Ideal) (k : Fin 528) (b d : Fin 2) (g l : Fin 128) : b30 j.val s (ix5 k b d g l)
    = if k.val = j.val then b24 j.val s (ix4 b d g l) else s.main_v13_6 (ix5 k b d g l) := by
  have e : b30 j.val s = updateSlice s.main_v13_6 (b25 j.val s) ![j.val, 0, 0, 0, 0] (at_trip j) :=
    WordCmp.dynamicUpdateSlice_eq_update _ _ _ _ _ (at_trip j) (trip_starts j)
  rw [e]
  unfold b25
  pointwise
  by_cases h : k.val = j.val
  · simp [h]
  · have h' : ¬(j.val ≤ k.val ∧ k.val < j.val + 1) := by omega
    simp only [h, h', ↓reduceDIte, ↓reduceIte]

theorem out17_at (s : State Ideal) (i : Fin 1056) (g l : Fin 128) : R_main_v17 s (ix3 i g l)
    = s.main_v13_6 (ix5 ⟨i.val % 528, by omega⟩ ⟨i.val / 528, by omega⟩ 0 g l) := by
  unfold R_main_v17
  pointwise

theorem out25_at (s : State Ideal) (i : Fin 1056) (g l : Fin 128) : R_main_v25 s (ix3 i g l)
    = s.main_v13_6 (ix5 ⟨turn (i.val % 528), by unfold turn; split <;> omega⟩ ⟨i.val / 528, by omega⟩ 1 g l) := by
  unfold R_main_v25
  pointwise
  by_cases h : i.val % 528 < 16
  · simp only [h, ↓reduceDIte]
    refine congrArg (fun q => s.main_v13_6 (ix5 q ⟨i.val / 528, by omega⟩ 1 g l)) (Fin.ext ?_)
    simp [turn, h, Fin.rev]
    try omega
  · simp only [h, ↓reduceDIte]
    refine congrArg (fun q => s.main_v13_6 (ix5 q ⟨i.val / 528, by omega⟩ 1 g l)) (Fin.ext ?_)
    simp [turn, h, Fin.rev]
    try omega

/-! ## The loop's states are the kernel's -/

theorem b24_at (j : ℕ) (s : State Ideal) (b d : Fin 2) (g l : Fin 128) : b24 j s (ix4 b d g l)
    = if h : l.val < 64 then s.main_v13_4 (ix4 b d g ⟨l.val, h⟩) else s.main_v13_5 (ix4 b d g ⟨l.val - 64, by omega⟩) := by
  unfold b24
  pointwise

/-- The states of one batch and one direction. -/
def line (b d : Fin 2) : ℕ → FVec Ideal CarryIdeal.S128x128 .f32 :=
  states (ownF x2 d) (otherF x3 d) (fun n => if d = 0 then inF x0 b.val n else inB x1 b.val n) CarryIdeal.Gen.k0_pay1

theorem own_re (r : FVec Ideal S2x128x64 .f32) (d : Fin 2) (g : Fin 128) (p : Fin 64) :
    ownF r d (ix2 g ⟨p.val, by omega⟩) = r (ix3 d g p) := dif_pos p.isLt
theorem other_re (r : FVec Ideal S2x128x64 .f32) (d : Fin 2) (g : Fin 128) (p : Fin 64) :
    otherF r d (ix2 g ⟨p.val, by omega⟩) = (-(r (ix3 d g p) : EReal) : EReal) := dif_pos p.isLt
theorem own_im (r : FVec Ideal S2x128x64 .f32) (d : Fin 2) (g : Fin 128) (p : Fin 64) :
    ownF r d (ix2 g ⟨64 + p.val, by omega⟩) = r (ix3 d g p) :=
  (dif_neg (by show ¬64 + p.val < 64; omega)).trans
    (congrArg (fun q => r (ix3 d g q)) (Fin.ext (by show 64 + p.val - 64 = p.val; omega)))
theorem other_im (r : FVec Ideal S2x128x64 .f32) (d : Fin 2) (g : Fin 128) (p : Fin 64) :
    otherF r d (ix2 g ⟨64 + p.val, by omega⟩) = r (ix3 d g p) :=
  (dif_neg (by show ¬64 + p.val < 64; omega)).trans
    (congrArg (fun q => r (ix3 d g q)) (Fin.ext (by show 64 + p.val - 64 = p.val; omega)))

/-- The real half's next state. -/
theorem line_re (b d : Fin 2) (n : ℕ) (g : Fin 128) (p : Fin 64) :
    line x0 x1 x2 x3 b d (n + 1) (ix2 g ⟨p.val, by omega⟩)
    = (x2 (ix3 d g p) * line x0 x1 x2 x3 b d n (ix2 g ⟨p.val, by omega⟩)
      - x3 (ix3 d g p) * line x0 x1 x2 x3 b d n (ix2 g ⟨64 + p.val, by omega⟩)
      + (if d = 0 then inF x0 b.val n else inB x1 b.val n) (ix2 g ⟨p.val, by omega⟩) : EReal) := by
  have e : line x0 x1 x2 x3 b d (n + 1) (ix2 g ⟨p.val, by omega⟩)
      = (ownF x2 d (ix2 g ⟨p.val, by omega⟩) * line x0 x1 x2 x3 b d n (ix2 g ⟨p.val, by omega⟩)
        + otherF x3 d (ix2 g ⟨p.val, by omega⟩) * line x0 x1 x2 x3 b d n (ix2 g ⟨(p.val + 64) % 128, by omega⟩)
        + (if d = 0 then inF x0 b.val n else inB x1 b.val n) (ix2 g ⟨p.val, by omega⟩) : EReal) := rfl
  have hl : (⟨(p.val + 64) % 128, by omega⟩ : Fin 128) = ⟨64 + p.val, by omega⟩ := Fin.ext (by show (p.val + 64) % 128 = 64 + p.val; omega)
  rw [e, own_re, other_re, hl, sub_eq_add_neg, EReal.neg_mul]

/-- The imaginary half's next state. -/
theorem line_im (b d : Fin 2) (n : ℕ) (g : Fin 128) (p : Fin 64) :
    line x0 x1 x2 x3 b d (n + 1) (ix2 g ⟨64 + p.val, by omega⟩)
    = (x2 (ix3 d g p) * line x0 x1 x2 x3 b d n (ix2 g ⟨64 + p.val, by omega⟩)
      + x3 (ix3 d g p) * line x0 x1 x2 x3 b d n (ix2 g ⟨p.val, by omega⟩)
      + (if d = 0 then inF x0 b.val n else inB x1 b.val n) (ix2 g ⟨64 + p.val, by omega⟩) : EReal) := by
  have e : line x0 x1 x2 x3 b d (n + 1) (ix2 g ⟨64 + p.val, by omega⟩)
      = (ownF x2 d (ix2 g ⟨64 + p.val, by omega⟩) * line x0 x1 x2 x3 b d n (ix2 g ⟨64 + p.val, by omega⟩)
        + otherF x3 d (ix2 g ⟨64 + p.val, by omega⟩) * line x0 x1 x2 x3 b d n (ix2 g ⟨(64 + p.val + 64) % 128, by omega⟩)
        + (if d = 0 then inF x0 b.val n else inB x1 b.val n) (ix2 g ⟨64 + p.val, by omega⟩) : EReal) := rfl
  have hl : (⟨(64 + p.val + 64) % 128, by omega⟩ : Fin 128) = ⟨p.val, by omega⟩ := Fin.ext (by show (64 + p.val + 64) % 128 = p.val; omega)
  rw [e, own_im, other_im, hl]

/-- After `n` steps the loop carries the two halves of state `n` and has written down the states before it. -/
theorem it_line : ∀ n : ℕ, n ≤ 528 →
    (∀ (b d : Fin 2) (g : Fin 128) (p : Fin 64), (it x0 x1 x2 x3 n).main_v13_4 (ix4 b d g p)
      = line x0 x1 x2 x3 b d n (ix2 g ⟨p.val, by omega⟩))
    ∧ (∀ (b d : Fin 2) (g : Fin 128) (p : Fin 64), (it x0 x1 x2 x3 n).main_v13_5 (ix4 b d g p)
      = line x0 x1 x2 x3 b d n (ix2 g ⟨64 + p.val, by omega⟩))
    ∧ ∀ (k : Fin 528) (b d : Fin 2) (g l : Fin 128), k.val < n → (it x0 x1 x2 x3 n).main_v13_6 (ix5 k b d g l)
      = line x0 x1 x2 x3 b d k.val (ix2 g l) := by
  intro n
  induction n with
  | zero =>
    intro _
    have z : ∀ (b d : Fin 2) (g : Fin 128) (p : Fin 64), K_main_v10 (F := Ideal) (ix4 b d g p) = (0 : EReal) := by
      intro b d g p
      unfold K_main_v10 K_main_cst
      pointwise
    exact ⟨fun b d g p => (z b d g p).trans (start_at (ix2 g ⟨p.val, by omega⟩)).symm,
      fun b d g p => (z b d g p).trans (start_at (ix2 g ⟨64 + p.val, by omega⟩)).symm,
      fun k b d g l h => absurd h (Nat.not_lt_zero _)⟩
  | succ n ih =>
    intro hn
    obtain ⟨h4, h5, h6⟩ := ih (by omega)
    have e (b d : Fin 2) (g l : Fin 128) : b5 n (it x0 x1 x2 x3 n) (ix4 b d g l)
        = (if d = 0 then inF x0 b.val n else inB x1 b.val n) (ix2 g l) := by
      refine (b5_at ⟨n, by omega⟩ _ b d g l).trans ?_
      rw [it_in]
      exact in_at x0 x1 ⟨n, by omega⟩ b d g l
    refine ⟨fun b d g p => ?_, fun b d g p => ?_, fun k b d g l h => ?_⟩
    · refine (b14_at n _ b d g p).trans ?_
      rw [it_re, it_im, h4, h5, e, line_re]
    · refine (b23_at n _ b d g p).trans ?_
      rw [it_re, it_im, h4, h5, e, line_im]
    · refine (b30_at ⟨n, by omega⟩ _ k b d g l).trans ?_
      by_cases hk : k.val = n
      · rw [if_pos hk, hk]
        refine (b24_at n _ b d g l).trans ?_
        by_cases hl : l.val < 64
        · rw [dif_pos hl, h4]
        · rw [dif_neg hl, h5]
          exact congrArg (fun q => line x0 x1 x2 x3 b d n (ix2 g q)) (Fin.ext (by show 64 + (l.val - 64) = l.val; omega))
      · rw [if_neg hk]
        exact h6 k b d g l (by omega)

/-! ## The run's loop buffers hold these states -/

section
open Cert.CarryReferenceIdeal.Gen Cert.CarryReferenceIdeal.Value Idealize.ShloMosaic.StableHlo

/-- The state that a device's buffers hold. -/
def held (V : Valuation τ sig (Elt Ideal)) : State Ideal where
  main_v13_4 := V (Proc.devRef .tc main_v13_4)
  main_v13_5 := V (Proc.devRef .tc main_v13_5)
  main_v13_6 := V (Proc.devRef .tc main_v13_6)
  main_v13_0 := V (Proc.devRef .tc main_v13_0)
  main_v13_1 := V (Proc.devRef .tc main_v13_1)
  main_v13_2 := V (Proc.devRef .tc main_v13_2)

theorem start0 (w : (⟨S_, .i32⟩ : BufTy).Contents (Elt Ideal)) (j : ℕ) (hw : w = constantI S_ 32 (BitVec.ofNat 32 j)) :
    (fun k => (((![w, constantI S_ 32 0#32, constantI S_ 32 0#32, constantI S_ 32 0#32, constantI S_ 32 0#32] :
      Fin 5 → (⟨S_, .i32⟩ : BufTy).Contents (Elt Ideal))) k (Shape.Idx.first h_S_)).toInt)
    = fun k => (((![constantI S_ 32 (BitVec.ofNat 32 j), constantI S_ 32 0#32, constantI S_ 32 0#32, constantI S_ 32 0#32, constantI S_ 32 0#32] :
      Fin 5 → (⟨S_, .i32⟩ : BufTy).Contents (Elt Ideal))) k (Shape.Idx.first h_S_)).toInt := by
  rw [hw]

theorem held_in (V : Valuation τ sig (Elt Ideal)) (j : ℕ)
    (h : V (Proc.devRef .tc main_v13_3) = constantI S_ 32 (BitVec.ofNat 32 j)) : res_main_while0b_v26 V = b5 j (held V) := by
  unfold res_main_while0b_v26
  exact congrArg (fun f => shapeCast S2x2x128x128 (Host.dynamicSlice S1x2x2x128x128 (V (Proc.devRef .tc main_v13_0)) f
    sliceFits_S528x2x2x128x128_S1x2x2x128x128) shapeCasts_S1x2x2x128x128_S2x2x128x128) (start0 _ j h)

theorem held_step (V : Valuation τ sig (Elt Ideal)) (j : ℕ)
    (h : V (Proc.devRef .tc main_v13_3) = constantI S_ 32 (BitVec.ofNat 32 j)) : held (STEP V) = step j (held V) := by
  have h4 : STEP V (Proc.devRef .tc main_v13_4) = b14 j (held V) := (STEP_main_v13_4 V).trans (by
    unfold Value.step_main_v13_4; rw [held_in V j h]; rfl)
  have h5 : STEP V (Proc.devRef .tc main_v13_5) = b23 j (held V) := (STEP_main_v13_5 V).trans (by
    unfold Value.step_main_v13_5; rw [held_in V j h]; rfl)
  have h6 : STEP V (Proc.devRef .tc main_v13_6) = b30 j (held V) := (STEP_main_v13_6 V).trans (by
    unfold Value.step_main_v13_6
    exact congrArg (fun f => Host.dynamicUpdateSlice (held V).main_v13_6 (b25 j (held V)) f
      updateFits_S528x2x2x128x128_S1x2x2x128x128) (start0 _ j h))
  unfold held step
  rw [h4, h5, h6, STEP_main_v13_0, STEP_main_v13_1, STEP_main_v13_2]
  rfl

variable (m : (ℓ : Loc nD τ sig) → Buf (Elt Ideal) ℓ) (c : Dev nD)

theorem held_entry : held (entryContents preI m c) = init (m ((c : Thread nD τ).loc main_arg2)) (m ((c : Thread nD τ).loc main_arg3))
    (m ((c : Thread nD τ).loc main_arg0)) (m ((c : Thread nD τ).loc main_arg1)) := by
  have e4 : entryContents preI m c (Proc.devRef .tc main_v13_4) = K_main_v10 (F := Ideal) := by
    simp only [entryContents, afterL_cons, afterL_nil]; after_reads_simp; rfl
  have e5 : entryContents preI m c (Proc.devRef .tc main_v13_5) = K_main_v10 (F := Ideal) := by
    simp only [entryContents, afterL_cons, afterL_nil]; after_reads_simp; rfl
  have e6 : entryContents preI m c (Proc.devRef .tc main_v13_6) = K_main_v12 (F := Ideal) := by
    simp only [entryContents, afterL_cons, afterL_nil]; after_reads_simp; rfl
  have e0 : entryContents preI m c (Proc.devRef .tc main_v13_0) = A_main_v11 (F := Ideal) (m ((c : Thread nD τ).loc main_arg0))
      (m ((c : Thread nD τ).loc main_arg1)) := by
    simp only [entryContents, afterL_cons, afterL_nil]; after_reads_simp; rfl
  have e1 : entryContents preI m c (Proc.devRef .tc main_v13_1) = m ((c : Thread nD τ).loc main_arg2) := by
    simp only [entryContents, afterL_cons, afterL_nil]; after_reads_simp; rfl
  have e2 : entryContents preI m c (Proc.devRef .tc main_v13_2) = m ((c : Thread nD τ).loc main_arg3) := by
    simp only [entryContents, afterL_cons, afterL_nil]; after_reads_simp; rfl
  unfold held init
  rw [e4, e5, e6, e0, e1, e2]

theorem counter (n : ℕ) : (STEP^[n] (entryContents preI m c)) (Proc.devRef .tc main_v13_3)
    = constantI S_ 32 (BitVec.ofNat 32 n) := by
  induction n with
  | zero =>
    show entryContents preI m c (Proc.devRef .tc main_v13_3) = _
    simp only [entryContents, afterL_cons, afterL_nil]; after_reads_simp; rfl
  | succ n ih =>
    rw [Function.iterate_succ_apply', STEP_main_v13_3]
    unfold Value.step_main_v13_3
    rw [ih]
    funext i
    exact (BitVec.ofNat_add n 1).symm

theorem held_all (n : ℕ) : held (STEP^[n] (entryContents preI m c)) = it (m ((c : Thread nD τ).loc main_arg0))
    (m ((c : Thread nD τ).loc main_arg1)) (m ((c : Thread nD τ).loc main_arg2)) (m ((c : Thread nD τ).loc main_arg3)) n := by
  induction n with
  | zero => exact held_entry m c
  | succ n ih => rw [Function.iterate_succ_apply', held_step _ n (counter m c n), ih]; rfl

theorem out17_held : out_main_v17 (STEP^[528] (entryContents preI m c)) = R_main_v17 (it (m ((c : Thread nD τ).loc main_arg0))
    (m ((c : Thread nD τ).loc main_arg1)) (m ((c : Thread nD τ).loc main_arg2)) (m ((c : Thread nD τ).loc main_arg3)) 528) :=
  (show ∀ V, out_main_v17 V = R_main_v17 (held V) from fun _ => rfl) _ |>.trans (congrArg R_main_v17 (held_all m c 528))

theorem out25_held : out_main_v25 (STEP^[528] (entryContents preI m c)) = R_main_v25 (it (m ((c : Thread nD τ).loc main_arg0))
    (m ((c : Thread nD τ).loc main_arg1)) (m ((c : Thread nD τ).loc main_arg2)) (m ((c : Thread nD τ).loc main_arg3)) 528) :=
  (show ∀ V, out_main_v25 V = R_main_v25 (held V) from fun _ => rfl) _ |>.trans (congrArg R_main_v25 (held_all m c 528))
end

/-! ## The two results -/

section
variable (m : (ℓ : Loc nD τ CarryIdeal.sig) → Buf (Elt Ideal) ℓ) (c : Dev nD)

/-- The states entering the chunks, forward. -/
theorem forward_eq : (CarryIdeal.Gen.dats m 0 c).arrAt 4 CarryIdeal.cfg0.N
    = R_main_v17 (it (argF m c) (argB m c) (argR m c) (argI m c) 528) := by
  refine arrayF_of m c _ fun i g l => ?_
  refine (out17_at _ i g l).trans (((it_line _ _ _ _ 528 le_rfl).2.2 _ _ 0 g l (Nat.mod_lt _ (by omega))).trans ?_)
  unfold line allF
  rw [facA_eq, facB_eq]
  rfl

/-- The states entering the chunks, backward. -/
theorem backward_eq : (CarryIdeal.Gen.dats m 0 c).arrAt 5 CarryIdeal.cfg0.N
    = R_main_v25 (it (argF m c) (argB m c) (argR m c) (argI m c) 528) := by
  refine arrayB_of m c _ fun i g l => ?_
  refine (out25_at _ i g l).trans (((it_line _ _ _ _ 528 le_rfl).2.2 _ _ 1 g l (by show turn (i.val % 528) < 528; unfold turn; split <;> omega)).trans ?_)
  unfold line allB
  rw [facA_eq, facB_eq]
  rfl
end

end Cert.Proof.Carry

end
-- ==== Proof.lean ====
/- The claims about the kernel's ten calls, gathered: each call's programs end cleanly, and each kernel leaves the
   arrays of its reference. What each call's kernel leaves is proved in the module of that name under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelValue
public import proofs.«01_k».proof.Proof.RefValue
public import proofs.«01_k».proof.Proof.Finite
public import proofs.«01_k».proof.Proof.Gen.Glu
public import proofs.«01_k».proof.Proof.Gen.Glu.Frame
public import proofs.«01_k».proof.Proof.Gen.GluIdeal
public import proofs.«01_k».proof.Proof.Gen.GluIdeal.Frame
public import proofs.«01_k».proof.Proof.Gen.GluReferenceIdeal
public import proofs.«01_k».proof.Proof.Gen.GluIdeal.Value
public import proofs.«01_k».proof.Proof.Gen.GluReferenceIdeal.Run
public import proofs.«01_k».proof.Proof.Gen.GluReferenceIdeal.Read
public import proofs.«01_k».proof.Proof.Gen.HyenaIn
public import proofs.«01_k».proof.Proof.Gen.HyenaIn.Frame
public import proofs.«01_k».proof.Proof.Gen.HyenaInIdeal
public import proofs.«01_k».proof.Proof.Gen.HyenaInIdeal.Frame
public import proofs.«01_k».proof.Proof.Gen.HyenaInReferenceIdeal
public import proofs.«01_k».proof.Proof.Gen.HyenaInIdeal.Value
public import proofs.«01_k».proof.Proof.Gen.HyenaInReferenceIdeal.Run
public import proofs.«01_k».proof.Proof.Gen.HyenaInReferenceIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutReferenceIdeal
public import proofs.«01_k».proof.Proof.Gen.OutIdeal.Value
public import proofs.«01_k».proof.Proof.Gen.OutReferenceIdeal.Run
public import proofs.«01_k».proof.Proof.Gen.OutReferenceIdeal.Read
public import proofs.«01_k».proof.Proof.Gen.KeysValues
public import proofs.«01_k».proof.Proof.Gen.KeysValues.Frame
public import proofs.«01_k».proof.Proof.Gen.KeysValuesIdeal
public import proofs.«01_k».proof.Proof.Gen.KeysValuesIdeal.Frame
public import proofs.«01_k».proof.Proof.Gen.KeysValuesReferenceIdeal
public import proofs.«01_k».proof.Proof.Gen.KeysValuesIdeal.Value
public import proofs.«01_k».proof.Proof.Gen.KeysValuesReferenceIdeal.Run
public import proofs.«01_k».proof.Proof.Gen.KeysValuesReferenceIdeal.Read
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormReferenceIdeal
public import proofs.«01_k».proof.Proof.Gen.NormIdeal.Value
public import proofs.«01_k».proof.Proof.Gen.NormReferenceIdeal.Run
public import proofs.«01_k».proof.Proof.Gen.NormReferenceIdeal.Read
public import proofs.«01_k».proof.Proof.Gen.AttIn
public import proofs.«01_k».proof.Proof.Gen.AttIn.Frame
public import proofs.«01_k».proof.Proof.Gen.AttInIdeal
public import proofs.«01_k».proof.Proof.Gen.AttInIdeal.Frame
public import proofs.«01_k».proof.Proof.Gen.AttInReferenceIdeal
public import proofs.«01_k».proof.Proof.Gen.AttInIdeal.Value
public import proofs.«01_k».proof.Proof.Gen.AttInReferenceIdeal.Run
public import proofs.«01_k».proof.Proof.Gen.AttInReferenceIdeal.Read
public import proofs.«01_k».proof.Proof.Gen.Queries
public import proofs.«01_k».proof.Proof.Gen.Queries.Frame
public import proofs.«01_k».proof.Proof.Gen.QueriesIdeal
public import proofs.«01_k».proof.Proof.Gen.QueriesIdeal.Frame
public import proofs.«01_k».proof.Proof.Gen.QueriesReferenceIdeal
public import proofs.«01_k».proof.Proof.Gen.QueriesIdeal.Value
public import proofs.«01_k».proof.Proof.Gen.QueriesReferenceIdeal.Run
public import proofs.«01_k».proof.Proof.Gen.QueriesReferenceIdeal.Read
public import proofs.«01_k».proof.Proof.Gen.NormMid
public import proofs.«01_k».proof.Proof.Gen.NormMid.Frame
public import proofs.«01_k».proof.Proof.Gen.NormMidIdeal
public import proofs.«01_k».proof.Proof.Gen.NormMidIdeal.Frame
public import proofs.«01_k».proof.Proof.Gen.NormMidReferenceIdeal
public import proofs.«01_k».proof.Proof.Gen.NormMidIdeal.Value
public import proofs.«01_k».proof.Proof.Gen.NormMidReferenceIdeal.Run
public import proofs.«01_k».proof.Proof.Gen.NormMidReferenceIdeal.Read
public import proofs.«01_k».proof.Proof.Glu
public import proofs.«01_k».proof.Proof.HyenaIn
public import proofs.«01_k».proof.Proof.Out
public import proofs.«01_k».proof.Proof.KeysValues
public import proofs.«01_k».proof.Proof.Norm
public import proofs.«01_k».proof.Proof.AttIn
public import proofs.«01_k».proof.Proof.Queries
public import proofs.«01_k».proof.Proof.Gen.Carry
public import proofs.«01_k».proof.Proof.Gen.Carry.Frame
public import proofs.«01_k».proof.Proof.Gen.CarryIdeal
public import proofs.«01_k».proof.Proof.Gen.CarryIdeal.Frame
public import proofs.«01_k».proof.Proof.Gen.CarryReferenceIdeal
public import proofs.«01_k».proof.Proof.Gen.CarryIdeal.Value
public import proofs.«01_k».proof.Proof.Gen.CarryReferenceIdeal.Run
public import proofs.«01_k».proof.Proof.NormMid
public import proofs.«01_k».proof.Proof.Carry
public import proofs.«01_k».proof.Proof.CarryScan
public import Idealize.ShloMosaic.Adequacy
public import Idealize.ShloMosaic.Init

@[expose] public section

noncomputable section

namespace Cert.Proof

open Idealize.ShloMosaic Idealize.SL.Sem Cert.Kernel

/-- The literal the scores are multiplied by is a real number. -/
theorem scale_real : Host.scale = ((9686330 * 2 ^ (-27 : ℤ) : ℝ) : EReal) := by
  unfold Host.scale
  simp [Ideal.ofBits, Ideal.ieee, -EReal.coe_mul]

/-- The attention: from finite arrays both programs leave the attended values. -/
theorem attention : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have hA := fun c => Finite.holds _ _ _ _ _ _ fun i => congrFun (hpre c) i
  refine ⟨fun c => (Cert.KernelIdeal.Gen.dats m 0 c).arrAt 7 Cert.KernelIdeal.cfg0.N,
    Cert.KernelIdeal.Value.run_blocks (F := Ideal) m g, ?_⟩
  refine (θ_run (Cert.ReferenceIdeal.defs (F := Ideal)) _ _).mono (fun r h c => ?_)
    (Cert.ReferenceIdeal.Value.run (F := Ideal) m' g')
  obtain ⟨hv, h⟩ := h c
  refine ⟨hv.trans ?_, h⟩
  obtain ⟨h0, h1, h2, h3, h4, h5⟩ := hargs c
  rw [Cert.ReferenceIdeal.Read.val_main_v52_eq, h0, h1, h2, h3, h4, h5]
  exact (RefValue.array_eq _ _ _ _ _ _ _ (hA c) _ scale_real).trans
    (KernelValue.array_eq m c _ _ scale_real (hA c)).symm

/-- The reference ends, with its arguments as they were and no counter raised: it has none. -/
theorem reference_frame : Cert.quiescent_ReferenceIdeal (hReferenceIdeal := Cert.ReferenceIdeal.Gen.facts) := fun m g _ =>
  (θ_run (Cert.ReferenceIdeal.defs (F := Ideal)) _ _).mono
    (fun r h => ⟨fun c => (h c).2, sem_eq_zero_of_no_sems (by decide) r.2⟩)
    (Cert.ReferenceIdeal.Value.run (F := Ideal) m g)

/-- The gated projection: its reference ends cleanly. -/
theorem glu_reference_frame : Cert.quiescent_GluReferenceIdeal (hGluReferenceIdeal := Cert.GluReferenceIdeal.Gen.facts) :=
  fun m g _ => (θ_run (Cert.GluReferenceIdeal.defs (F := Ideal)) _ _).mono
    (fun r h => ⟨fun c => (h c).2, sem_eq_zero_of_no_sems (by decide) r.2⟩)
    (Cert.GluReferenceIdeal.Value.run (F := Ideal) m g)

/-- The gated projection: the kernel leaves the reference's array. -/
theorem glu_value : Cert.algebraic_GluIdeal_GluReferenceIdeal (hGluIdeal := Cert.GluIdeal.Gen.facts)
    (hGluReferenceIdeal := Cert.GluReferenceIdeal.Gen.facts) := by
  intro m g m' g' hpre hargs
  refine ⟨fun c => (Cert.GluIdeal.Gen.dats m 0 c).arrAt 3 Cert.GluIdeal.cfg0.N,
    Cert.GluIdeal.Value.run_blocks (F := Ideal) m g, ?_⟩
  refine (θ_run (Cert.GluReferenceIdeal.defs (F := Ideal)) _ _).mono (fun r h c => ?_)
    (Cert.GluReferenceIdeal.Value.run (F := Ideal) m' g')
  obtain ⟨hv, h⟩ := h c
  refine ⟨hv.trans ?_, h⟩
  obtain ⟨h0, h1, h2, h3, h4⟩ := hargs c
  rw [Cert.GluReferenceIdeal.Read.val_main_v26_eq, h0, h1, h2, h3, h4]
  exact (Glu.array_eq m c).symm

/-- The projection into the hyena: its reference ends cleanly. -/
theorem hyenaIn_reference_frame : Cert.quiescent_HyenaInReferenceIdeal (hHyenaInReferenceIdeal := Cert.HyenaInReferenceIdeal.Gen.facts) :=
  fun m g _ => (θ_run (Cert.HyenaInReferenceIdeal.defs (F := Ideal)) _ _).mono
    (fun r h => ⟨fun c => (h c).2, sem_eq_zero_of_no_sems (by decide) r.2⟩)
    (Cert.HyenaInReferenceIdeal.Value.run (F := Ideal) m g)

/-- The projection into the hyena: the kernel leaves the reference's array. -/
theorem hyenaIn_value : Cert.algebraic_HyenaInIdeal_HyenaInReferenceIdeal (hHyenaInIdeal := Cert.HyenaInIdeal.Gen.facts)
    (hHyenaInReferenceIdeal := Cert.HyenaInReferenceIdeal.Gen.facts) := by
  intro m g m' g' hpre hargs
  refine ⟨fun c => (Cert.HyenaInIdeal.Gen.dats m 0 c).arrAt 2 Cert.HyenaInIdeal.cfg0.N,
    Cert.HyenaInIdeal.Value.run_blocks (F := Ideal) m g, ?_⟩
  refine (θ_run (Cert.HyenaInReferenceIdeal.defs (F := Ideal)) _ _).mono (fun r h c => ?_)
    (Cert.HyenaInReferenceIdeal.Value.run (F := Ideal) m' g')
  obtain ⟨hv, h⟩ := h c
  refine ⟨hv.trans ?_, h⟩
  obtain ⟨h0, h1⟩ := hargs c
  rw [Cert.HyenaInReferenceIdeal.Read.val_main_v2_eq, h0, h1]
  exact (HyenaIn.array_eq m c).symm

/-- The output projection: its reference ends cleanly. -/
theorem out_reference_frame : Cert.quiescent_OutReferenceIdeal (hOutReferenceIdeal := Cert.OutReferenceIdeal.Gen.facts) :=
  fun m g _ => (θ_run (Cert.OutReferenceIdeal.defs (F := Ideal)) _ _).mono
    (fun r h => ⟨fun c => (h c).2, sem_eq_zero_of_no_sems (by decide) r.2⟩)
    (Cert.OutReferenceIdeal.Value.run (F := Ideal) m g)

/-- The output projection: the kernel leaves the reference's array. -/
theorem out_value : Cert.algebraic_OutIdeal_OutReferenceIdeal (hOutIdeal := Cert.OutIdeal.Gen.facts)
    (hOutReferenceIdeal := Cert.OutReferenceIdeal.Gen.facts) := by
  intro m g m' g' hpre hargs
  refine ⟨fun c => (Cert.OutIdeal.Gen.dats m 0 c).arrAt 4 Cert.OutIdeal.cfg0.N,
    Cert.OutIdeal.Value.run_blocks (F := Ideal) m g, ?_⟩
  refine (θ_run (Cert.OutReferenceIdeal.defs (F := Ideal)) _ _).mono (fun r h c => ?_)
    (Cert.OutReferenceIdeal.Value.run (F := Ideal) m' g')
  obtain ⟨hv, h⟩ := h c
  refine ⟨hv.trans ?_, h⟩
  obtain ⟨h0, h1, h2⟩ := hargs c
  rw [Cert.OutReferenceIdeal.Read.val_main_v2_eq, h0, h1, h2]
  exact (Out.array_eq m c).symm

/-- The projection into keys and values: its reference ends cleanly. -/
theorem keysValues_reference_frame : Cert.quiescent_KeysValuesReferenceIdeal (hKeysValuesReferenceIdeal := Cert.KeysValuesReferenceIdeal.Gen.facts) :=
  fun m g _ => (θ_run (Cert.KeysValuesReferenceIdeal.defs (F := Ideal)) _ _).mono
    (fun r h => ⟨fun c => (h c).2, sem_eq_zero_of_no_sems (by decide) r.2⟩)
    (Cert.KeysValuesReferenceIdeal.Value.run (F := Ideal) m g)

/-- The projection into keys and values: the kernel leaves the reference's array. -/
theorem keysValues_value : Cert.algebraic_KeysValuesIdeal_KeysValuesReferenceIdeal (hKeysValuesIdeal := Cert.KeysValuesIdeal.Gen.facts)
    (hKeysValuesReferenceIdeal := Cert.KeysValuesReferenceIdeal.Gen.facts) := by
  intro m g m' g' hpre hargs
  refine ⟨fun c => (Cert.KeysValuesIdeal.Gen.dats m 0 c).arrAt 2 Cert.KeysValuesIdeal.cfg0.N,
    Cert.KeysValuesIdeal.Value.run_blocks (F := Ideal) m g, ?_⟩
  refine (θ_run (Cert.KeysValuesReferenceIdeal.defs (F := Ideal)) _ _).mono (fun r h c => ?_)
    (Cert.KeysValuesReferenceIdeal.Value.run (F := Ideal) m' g')
  obtain ⟨hv, h⟩ := h c
  refine ⟨hv.trans ?_, h⟩
  obtain ⟨h0, h1, h2⟩ := hargs c
  rw [Cert.KeysValuesReferenceIdeal.Read.val_main_v14_eq, h0, h1, h2]
  exact (KeysValues.array_eq m c).symm

/-- The normalized stream: its reference ends cleanly. -/
theorem norm_reference_frame : Cert.quiescent_NormReferenceIdeal (hNormReferenceIdeal := Cert.NormReferenceIdeal.Gen.facts) :=
  fun m g _ => (θ_run (Cert.NormReferenceIdeal.defs (F := Ideal)) _ _).mono
    (fun r h => ⟨fun c => (h c).2.2, sem_eq_zero_of_no_sems (by decide) r.2⟩)
    (Cert.NormReferenceIdeal.Value.run (F := Ideal) m g)

/-- The normalized stream: the kernel leaves the reference's two arrays. -/
theorem norm_value : Cert.algebraic_NormIdeal_NormReferenceIdeal (hNormIdeal := Cert.NormIdeal.Gen.facts)
    (hNormReferenceIdeal := Cert.NormReferenceIdeal.Gen.facts) := by
  intro m g m' g' hpre hargs
  refine ⟨fun c => (Cert.NormIdeal.Gen.dats m 0 c).arrAt 7 Cert.NormIdeal.cfg0.N,
    fun c => (Cert.NormIdeal.Gen.dats m 0 c).arrAt 8 Cert.NormIdeal.cfg0.N,
    Cert.NormIdeal.Value.run_blocks (F := Ideal) m g, ?_⟩
  refine (θ_run (Cert.NormReferenceIdeal.defs (F := Ideal)) _ _).mono (fun r h c => ?_)
    (Cert.NormReferenceIdeal.Value.run (F := Ideal) m' g')
  obtain ⟨hv, hw, h⟩ := h c
  obtain ⟨h0, h1, h2, h3, h4, h5, h6⟩ := hargs c
  refine ⟨hv.trans ?_, hw.trans ?_, h⟩
  · rw [Cert.NormReferenceIdeal.Read.val_main_v26_eq, h0, h1, h2, h3, h4]
    exact (Norm.stream_eq m c).symm
  · rw [Cert.NormReferenceIdeal.Read.val_main_v32_eq, h0, h1, h2, h3, h4, h5, h6]
    exact (Norm.modulated_eq m c).symm

/-- The projection to the attention's columns: its reference ends cleanly. -/
theorem attIn_reference_frame : Cert.quiescent_AttInReferenceIdeal (hAttInReferenceIdeal := Cert.AttInReferenceIdeal.Gen.facts) :=
  fun m g _ => (θ_run (Cert.AttInReferenceIdeal.defs (F := Ideal)) _ _).mono
    (fun r h => ⟨fun c => (h c).2, sem_eq_zero_of_no_sems (by decide) r.2⟩)
    (Cert.AttInReferenceIdeal.Value.run (F := Ideal) m g)

/-- The projection to the attention's columns: the kernel leaves the reference's array. -/
theorem attIn_value : Cert.algebraic_AttInIdeal_AttInReferenceIdeal (hAttInIdeal := Cert.AttInIdeal.Gen.facts)
    (hAttInReferenceIdeal := Cert.AttInReferenceIdeal.Gen.facts) := by
  intro m g m' g' hpre hargs
  refine ⟨fun c => (Cert.AttInIdeal.Gen.dats m 0 c).arrAt 2 Cert.AttInIdeal.cfg0.N,
    Cert.AttInIdeal.Value.run_blocks (F := Ideal) m g, ?_⟩
  refine (θ_run (Cert.AttInReferenceIdeal.defs (F := Ideal)) _ _).mono (fun r h c => ?_)
    (Cert.AttInReferenceIdeal.Value.run (F := Ideal) m' g')
  obtain ⟨hv, h⟩ := h c
  refine ⟨hv.trans ?_, h⟩
  obtain ⟨h0, h1⟩ := hargs c
  rw [Cert.AttInReferenceIdeal.Read.val_main_v3_eq, h0, h1]
  exact (AttIn.array_eq m c).symm

/-- The projection into scaled queries: its reference ends cleanly. -/
theorem queries_reference_frame : Cert.quiescent_QueriesReferenceIdeal (hQueriesReferenceIdeal := Cert.QueriesReferenceIdeal.Gen.facts) :=
  fun m g _ => (θ_run (Cert.QueriesReferenceIdeal.defs (F := Ideal)) _ _).mono
    (fun r h => ⟨fun c => (h c).2, sem_eq_zero_of_no_sems (by decide) r.2⟩)
    (Cert.QueriesReferenceIdeal.Value.run (F := Ideal) m g)

/-- The projection into scaled queries: the kernel leaves the reference's array. -/
theorem queries_value : Cert.algebraic_QueriesIdeal_QueriesReferenceIdeal (hQueriesIdeal := Cert.QueriesIdeal.Gen.facts)
    (hQueriesReferenceIdeal := Cert.QueriesReferenceIdeal.Gen.facts) := by
  intro m g m' g' hpre hargs
  refine ⟨fun c => (Cert.QueriesIdeal.Gen.dats m 0 c).arrAt 2 Cert.QueriesIdeal.cfg0.N,
    Cert.QueriesIdeal.Value.run_blocks (F := Ideal) m g, ?_⟩
  refine (θ_run (Cert.QueriesReferenceIdeal.defs (F := Ideal)) _ _).mono (fun r h c => ?_)
    (Cert.QueriesReferenceIdeal.Value.run (F := Ideal) m' g')
  obtain ⟨hv, h⟩ := h c
  refine ⟨hv.trans ?_, h⟩
  obtain ⟨h0, h1, h2⟩ := hargs c
  rw [Cert.QueriesReferenceIdeal.Read.val_main_v23_eq, h0, h1, h2]
  exact (Queries.array_eq m c _ scale_real (by positivity)).symm

/-- The normalized stream with its transposed copy: its reference ends cleanly. -/
theorem normMid_reference_frame : Cert.quiescent_NormMidReferenceIdeal
    (hNormMidReferenceIdeal := Cert.NormMidReferenceIdeal.Gen.facts) :=
  fun m g _ => (θ_run (Cert.NormMidReferenceIdeal.defs (F := Ideal)) _ _).mono
    (fun r h => ⟨fun c => (h c).2.2.2, sem_eq_zero_of_no_sems (by decide) r.2⟩)
    (Cert.NormMidReferenceIdeal.Value.run (F := Ideal) m g)

/-- The normalized stream with its transposed copy: the kernel leaves the reference's three arrays. -/
theorem normMid_value : Cert.algebraic_NormMidIdeal_NormMidReferenceIdeal (hNormMidIdeal := Cert.NormMidIdeal.Gen.facts)
    (hNormMidReferenceIdeal := Cert.NormMidReferenceIdeal.Gen.facts) := by
  intro m g m' g' hpre hargs
  refine ⟨fun c => (Cert.NormMidIdeal.Gen.dats m 0 c).arrAt 7 Cert.NormMidIdeal.cfg0.N,
    fun c => (Cert.NormMidIdeal.Gen.dats m 0 c).arrAt 8 Cert.NormMidIdeal.cfg0.N,
    fun c => (Cert.NormMidIdeal.Gen.dats m 0 c).arrAt 9 Cert.NormMidIdeal.cfg0.N,
    Cert.NormMidIdeal.Value.run_blocks (F := Ideal) m g, ?_⟩
  refine (θ_run (Cert.NormMidReferenceIdeal.defs (F := Ideal)) _ _).mono (fun r h c => ?_)
    (Cert.NormMidReferenceIdeal.Value.run (F := Ideal) m' g')
  obtain ⟨hv, hw, hz, h⟩ := h c
  obtain ⟨h0, h1, h2, h3, h4, h5, h6⟩ := hargs c
  refine ⟨hv.trans ?_, hw.trans ?_, hz.trans ?_, h⟩
  · rw [Cert.NormMidReferenceIdeal.Read.val_main_v26_eq, h0, h1, h2, h3, h4]
    exact (NormMid.stream_eq m c).symm
  · rw [Cert.NormMidReferenceIdeal.Read.val_main_v32_eq, h0, h1, h2, h3, h4, h5, h6]
    exact (NormMid.modulated_eq m c).symm
  · rw [Cert.NormMidReferenceIdeal.Read.val_main_v35_eq, h0, h1, h2, h3, h4, h5, h6]
    exact (NormMid.transposed_eq m c).symm

theorem carry_reference_frame : Cert.quiescent_CarryReferenceIdeal
    (hCarryReferenceIdeal := Cert.CarryReferenceIdeal.Gen.facts) :=
  fun m g _ => (θ_run (Cert.CarryReferenceIdeal.defs (F := Ideal)) _ _).mono
    (fun r h => ⟨fun c => (h c).2.2, sem_eq_zero_of_no_sems (by decide) r.2⟩)
    (Cert.CarryReferenceIdeal.Value.run (F := Ideal) m g)

/-- The carry: the kernel leaves the states of the reference's loop, in both directions. -/
theorem carry_value : Cert.algebraic_CarryIdeal_CarryReferenceIdeal (hCarryIdeal := Cert.CarryIdeal.Gen.facts)
    (hCarryReferenceIdeal := Cert.CarryReferenceIdeal.Gen.facts) := by
  intro m g m' g' hpre hargs
  refine ⟨fun c => (Cert.CarryIdeal.Gen.dats m 0 c).arrAt 4 Cert.CarryIdeal.cfg0.N,
    fun c => (Cert.CarryIdeal.Gen.dats m 0 c).arrAt 5 Cert.CarryIdeal.cfg0.N,
    Cert.CarryIdeal.Value.run_blocks (F := Ideal) m g, ?_⟩
  refine (θ_run (Cert.CarryReferenceIdeal.defs (F := Ideal)) _ _).mono (fun r h c => ?_)
    (Cert.CarryReferenceIdeal.Value.run (F := Ideal) m' g')
  obtain ⟨hv, hw, h⟩ := h c
  obtain ⟨h0, h1, h2, h3⟩ := hargs c
  refine ⟨hv.trans ?_, hw.trans ?_, h⟩
  · rw [Carry.out17_held, h0, h1, h2, h3]
    exact (Carry.forward_eq m c).symm
  · rw [Carry.out25_held, h0, h1, h2, h3]
    exact (Carry.backward_eq m c).symm

theorem claim : Cert.Claim :=
  ⟨Cert.Kernel.Gen.facts, Cert.KernelIdeal.Gen.facts, Cert.ReferenceIdeal.Gen.facts,
    Cert.Glu.Gen.facts, Cert.GluIdeal.Gen.facts, Cert.GluReferenceIdeal.Gen.facts,
    Cert.HyenaIn.Gen.facts, Cert.HyenaInIdeal.Gen.facts, Cert.HyenaInReferenceIdeal.Gen.facts,
    Cert.Out.Gen.facts, Cert.OutIdeal.Gen.facts, Cert.OutReferenceIdeal.Gen.facts,
    Cert.KeysValues.Gen.facts, Cert.KeysValuesIdeal.Gen.facts, Cert.KeysValuesReferenceIdeal.Gen.facts,
    Cert.Norm.Gen.facts, Cert.NormIdeal.Gen.facts, Cert.NormReferenceIdeal.Gen.facts,
    Cert.AttIn.Gen.facts, Cert.AttInIdeal.Gen.facts, Cert.AttInReferenceIdeal.Gen.facts,
    Cert.Queries.Gen.facts, Cert.QueriesIdeal.Gen.facts, Cert.QueriesReferenceIdeal.Gen.facts,
    Cert.NormMid.Gen.facts, Cert.NormMidIdeal.Gen.facts, Cert.NormMidReferenceIdeal.Gen.facts,
    Cert.Carry.Gen.facts, Cert.CarryIdeal.Gen.facts, Cert.CarryReferenceIdeal.Gen.facts,
    Cert.Pre_finite.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    fun m ρ _ => Cert.Glu.Gen.frame m ρ, fun m ρ _ => Cert.GluIdeal.Gen.frame m ρ, glu_reference_frame,
    fun m ρ _ => Cert.HyenaIn.Gen.frame m ρ, fun m ρ _ => Cert.HyenaInIdeal.Gen.frame m ρ, hyenaIn_reference_frame,
    fun m ρ _ => Cert.Out.Gen.frame m ρ, fun m ρ _ => Cert.OutIdeal.Gen.frame m ρ, out_reference_frame,
    fun m ρ _ => Cert.KeysValues.Gen.frame m ρ, fun m ρ _ => Cert.KeysValuesIdeal.Gen.frame m ρ, keysValues_reference_frame,
    fun m ρ _ => Cert.Norm.Gen.frame m ρ, fun m ρ _ => Cert.NormIdeal.Gen.frame m ρ, norm_reference_frame,
    fun m ρ _ => Cert.AttIn.Gen.frame m ρ, fun m ρ _ => Cert.AttInIdeal.Gen.frame m ρ, attIn_reference_frame,
    fun m ρ _ => Cert.Queries.Gen.frame m ρ, fun m ρ _ => Cert.QueriesIdeal.Gen.frame m ρ, queries_reference_frame,
    fun m ρ _ => Cert.NormMid.Gen.frame m ρ, fun m ρ _ => Cert.NormMidIdeal.Gen.frame m ρ, normMid_reference_frame,
    fun m ρ _ => Cert.Carry.Gen.frame m ρ, fun m ρ _ => Cert.CarryIdeal.Gen.frame m ρ, carry_reference_frame,
    trivial, attention, trivial, glu_value, trivial, hyenaIn_value, trivial, out_value, trivial, keysValues_value, trivial, norm_value, trivial, attIn_value, trivial, queries_value,
    trivial, normMid_value, trivial, carry_value⟩

end Cert.Proof

end
